-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_wrap [hPre_no_wrap : Cert.Pre_no_wrap.Facts] (m : (ℓ : Loc Cert.KernelIdeal.nD Cert.KernelIdeal.τ Cert.KernelIdeal.sig) → Buf (Elt Ideal) ℓ) : Prop :=
  ∀ c : Dev Cert.KernelIdeal.nD,
    (Cert.Pre_no_wrap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_wrap [hPre_no_wrap : Cert.Pre_no_wrap.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_wrap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_no_wrap [hKernelIdeal : Cert.KernelIdeal.Facts] [hPre_no_wrap : Cert.Pre_no_wrap.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_wrap m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_no_wrap [hReferenceIdeal : Cert.ReferenceIdeal.Facts] [hPre_no_wrap : Cert.Pre_no_wrap.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_wrap m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_no_wrap [hKernelIdeal : Cert.KernelIdeal.Facts] [hReferenceIdeal : Cert.ReferenceIdeal.Facts] [hPre_no_wrap : Cert.Pre_no_wrap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_wrap m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_no_wrap : Cert.Pre_no_wrap.Facts),
    quiescent_Kernel (hKernel := hKernel)
    ∧ quiescent_KernelIdeal (hKernelIdeal := hKernelIdeal)
    ∧ quiescent_KernelIdeal_pre_no_wrap (hKernelIdeal := hKernelIdeal) (hPre_no_wrap := hPre_no_wrap)
    ∧ quiescent_ReferenceIdeal (hReferenceIdeal := hReferenceIdeal)
    ∧ quiescent_ReferenceIdeal_pre_no_wrap (hReferenceIdeal := hReferenceIdeal) (hPre_no_wrap := hPre_no_wrap)
    ∧ preserves_Kernel_KernelIdeal
    ∧ algebraic_KernelIdeal_ReferenceIdeal_pre_no_wrap (hKernelIdeal := hKernelIdeal) (hReferenceIdeal := hReferenceIdeal) (hPre_no_wrap := hPre_no_wrap)
-- ==== Pre_no_wrap.lean ====
abbrev S6x8192x1024 : Shape := ⟨3, ![6, 8192, 1024]⟩
abbrev S6x8192x4096 : Shape := ⟨3, ![6, 8192, 4096]⟩
abbrev S6x8192x32 : Shape := ⟨3, ![6, 8192, 32]⟩
abbrev S4096x1024 : Shape := ⟨2, ![4096, 1024]⟩
abbrev S32x8 : Shape := ⟨2, ![32, 8]⟩
abbrev S1024 : Shape := ⟨1, ![1024]⟩
abbrev S6 : Shape := ⟨1, ![6]⟩
abbrev S_ : Shape := ⟨0, ![]⟩

class Facts : Prop where
  bcast_S_S6 : S_.BroadcastsInDim S6 (![] : Fin 0 → Fin S6.rank)

variable [Facts]

def fn {F : FTy → Type} [FloatOps F] (main_arg0 : FVec F S6x8192x1024 .bf16) (main_arg1 : FVec F S6x8192x4096 .fp8e4m3) (main_arg2 : FVec F S6x8192x32 .f32) (main_arg3 : FVec F S4096x1024 .fp8e4m3) (main_arg4 : FVec F S32x8 .f32) (main_arg5 : FVec F S1024 .f32) (main_arg6 : FVec F S1024 .f32) (main_arg7 : FVec F S1024 .f32) (main_arg8 : IVec S6 32) : IVec S6 1 :=
  let main_c : IVec S_ 32 := constantI S_ 32 2147491328#32
  let main_v0 : IVec S6 32 := broadcastInDim S6 ![] bcast_S_S6 main_c
  let main_v1 : IVec S6 1 := cmpi .sge main_arg8 main_v0
  let main_c_0 : IVec S_ 32 := constantI S_ 32 2147483136#32
  let main_v2 : IVec S6 32 := broadcastInDim S6 ![] bcast_S_S6 main_c_0
  let main_v3 : IVec S6 1 := cmpi .sle main_arg8 main_v2
  let main_v4 : IVec S6 1 := andi main_v1 main_v3
  main_v4
-- ==== Kernel.lean ====
abbrev S6x8192x1024 : Shape := ⟨3, ![6, 8192, 1024]⟩
abbrev S6x8192x4096 : Shape := ⟨3, ![6, 8192, 4096]⟩
abbrev S6x8192x32 : Shape := ⟨3, ![6, 8192, 32]⟩
abbrev S4096x1024 : Shape := ⟨2, ![4096, 1024]⟩
abbrev S32x8 : Shape := ⟨2, ![32, 8]⟩
abbrev S1024 : Shape := ⟨1, ![1024]⟩
abbrev S6 : Shape := ⟨1, ![6]⟩
abbrev S1x1024 : Shape := ⟨2, ![1, 1024]⟩
abbrev S6x1 : Shape := ⟨2, ![6, 1]⟩
abbrev S6x1024 : Shape := ⟨2, ![6, 1024]⟩
abbrev S6x256 : Shape := ⟨2, ![6, 256]⟩
abbrev S1x512x1024 : Shape := ⟨3, ![1, 512, 1024]⟩
abbrev S1 : Shape := ⟨1, ![1]⟩
abbrev S1x512x4096 : Shape := ⟨3, ![1, 512, 4096]⟩
abbrev S1x512x32 : Shape := ⟨3, ![1, 512, 32]⟩
abbrev S512x4096 : Shape := ⟨2, ![512, 4096]⟩
abbrev S6x8x1024 : Shape := ⟨3, ![6, 8, 1024]⟩
abbrev S1x1 : Shape := ⟨2, ![1, 1]⟩
abbrev S128x128 : Shape := ⟨2, ![128, 128]⟩
abbrev S1x512x1 : Shape := ⟨3, ![1, 512, 1]⟩
abbrev S512x1 : Shape := ⟨2, ![512, 1]⟩
abbrev S512x128 : Shape := ⟨2, ![512, 128]⟩
abbrev S1x512x128 : Shape := ⟨3, ![1, 512, 128]⟩
abbrev S512x1024 : Shape := ⟨2, ![512, 1024]⟩
abbrev S512 : Shape := ⟨1, ![512]⟩
abbrev S1x8x1024 : Shape := ⟨3, ![1, 8, 1024]⟩
abbrev S8x1024 : Shape := ⟨2, ![8, 1024]⟩
abbrev S64x8x1024 : Shape := ⟨3, ![64, 8, 1024]⟩

abbrev nBuf : Space → Nat
  | .hbm => 18
  | .vmem => 21
  | .smem => 2
  | _ => 0

abbrev bufTy : (tb : Table) → Fin (tcTables nBuf tb) → BufTy
  | .hbm, ⟨0, _⟩ => ⟨S6x8192x1024, .bf16⟩
  | .hbm, ⟨1, _⟩ => ⟨S6x8192x4096, .fp8e4m3⟩
  | .hbm, ⟨2, _⟩ => ⟨S6x8192x32, .f32⟩
  | .hbm, ⟨3, _⟩ => ⟨S4096x1024, .fp8e4m3⟩
  | .hbm, ⟨4, _⟩ => ⟨S32x8, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S6x1, .i32⟩
  | .hbm, ⟨12, _⟩ => ⟨S6x8192x1024, .f32⟩
  | .hbm, ⟨13, _⟩ => ⟨S6x1024, .f32⟩
  | .hbm, ⟨14, _⟩ => ⟨S6x1024, .i8⟩
  | .hbm, ⟨15, _⟩ => ⟨S6x1, .f32⟩
  | .hbm, ⟨16, _⟩ => ⟨S6x256, .i8⟩
  | .hbm, ⟨17, _⟩ => ⟨S6x1, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x4096, .fp8e4m3⟩
  | .local _ .vmem, ⟨3, _⟩ => ⟨S1x512x4096, .fp8e4m3⟩
  | .local _ .vmem, ⟨4, _⟩ => ⟨S1x512x32, .f32⟩
  | .local _ .vmem, ⟨5, _⟩ => ⟨S1x512x32, .f32⟩
  | .local _ .vmem, ⟨6, _⟩ => ⟨S4096x1024, .fp8e4m3⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S6x1, .i32⟩
  | .local _ .vmem, ⟨11, _⟩ => ⟨S1x512x1024, .f32⟩
  | .local _ .vmem, ⟨12, _⟩ => ⟨S1x512x1024, .f32⟩
  | .local _ .vmem, ⟨13, _⟩ => ⟨S6x1024, .f32⟩
  | .local _ .vmem, ⟨14, _⟩ => ⟨S6x1024, .i8⟩
  | .local _ .vmem, ⟨15, _⟩ => ⟨S6x1, .f32⟩
  | .local _ .vmem, ⟨16, _⟩ => ⟨S6x256, .i8⟩
  | .local _ .vmem, ⟨17, _⟩ => ⟨S6x1, .f32⟩
  | .local _ .vmem, ⟨18, _⟩ => ⟨S4096x1024, .bf16⟩
  | .local _ .vmem, ⟨19, _⟩ => ⟨S512x4096, .bf16⟩
  | .local _ .vmem, ⟨20, _⟩ => ⟨S6x8x1024, .f32⟩
  | .local _ .smem, ⟨0, _⟩ => ⟨S6, .i32⟩
  | .local _ .smem, ⟨1, _⟩ => ⟨S32x8, .f32⟩
  | _, _ => ⟨S6x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_arg8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨2, ![6, 16], ![false, false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_9 : BitVec 32 := 0#32
  let c32_i32 : BitVec 32 := 32#32
  let v24 : BitVec 32 := Scalar.addi c0_i32_9 c32_i32
  let c1_i32 : BitVec 32 := 1#32
  ⟨c0_i32_9, v24, c1_i32⟩
def k0_off2 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let v28 : Index := Scalar.indexCast v26
  let c0_13 : Index := 0#32
  ![v28.toNat, 0]
def k0_off3 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let c128_i32 : BitVec 32 := 128#32
  let v27 : BitVec 32 := Scalar.muli v26 c128_i32
  let v32 : Index := Scalar.indexCast v27
  let c0_14 : Index := 0#32
  ![v32.toNat, 0]
def k0_off4 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let v40 : Index := Scalar.indexCast v26
  let c1 : Index := 1#32
  ![v40.toNat, 1]
def k0_off5 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let c128_i32 : BitVec 32 := 128#32
  let v27 : BitVec 32 := Scalar.muli v26 c128_i32
  let v44 : Index := Scalar.indexCast v27
  let c128 : Index := 128#32
  ![v44.toNat, 128]
def k0_off6 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let v52 : Index := Scalar.indexCast v26
  let c2 : Index := 2#32
  ![v52.toNat, 2]
def k0_off7 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let c128_i32 : BitVec 32 := 128#32
  let v27 : BitVec 32 := Scalar.muli v26 c128_i32
  let v56 : Index := Scalar.indexCast v27
  let c256 : Index := 256#32
  ![v56.toNat, 256]
def k0_off8 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let v64 : Index := Scalar.indexCast v26
  let c3 : Index := 3#32
  ![v64.toNat, 3]
def k0_off9 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let c128_i32 : BitVec 32 := 128#32
  let v27 : BitVec 32 := Scalar.muli v26 c128_i32
  let v68 : Index := Scalar.indexCast v27
  let c384 : Index := 384#32
  ![v68.toNat, 384]
def k0_off10 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let v76 : Index := Scalar.indexCast v26
  let c4 : Index := 4#32
  ![v76.toNat, 4]
def k0_off11 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let c128_i32 : BitVec 32 := 128#32
  let v27 : BitVec 32 := Scalar.muli v26 c128_i32
  let v80 : Index := Scalar.indexCast v27
  let c512 : Index := 512#32
  ![v80.toNat, 512]
def k0_off12 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let v88 : Index := Scalar.indexCast v26
  let c5 : Index := 5#32
  ![v88.toNat, 5]
def k0_off13 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let c128_i32 : BitVec 32 := 128#32
  let v27 : BitVec 32 := Scalar.muli v26 c128_i32
  let v92 : Index := Scalar.indexCast v27
  let c640 : Index := 640#32
  ![v92.toNat, 640]
def k0_off14 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let v100 : Index := Scalar.indexCast v26
  let c6 : Index := 6#32
  ![v100.toNat, 6]
def k0_off15 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let c128_i32 : BitVec 32 := 128#32
  let v27 : BitVec 32 := Scalar.muli v26 c128_i32
  let v104 : Index := Scalar.indexCast v27
  let c768 : Index := 768#32
  ![v104.toNat, 768]
def k0_off16 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let v112 : Index := Scalar.indexCast v26
  let c7 : Index := 7#32
  ![v112.toNat, 7]
def k0_off17 (k0_t1 : Fin k0_t1_loop.trips) : Fin 2 → Nat :=
  let c0_i32_12 : BitVec 32 := 0#32
  let c0_i32_9 : BitVec 32 := 0#32
  let c1_i32 : BitVec 32 := 1#32
  let arg21 : BitVec 32 := Scf.iv c0_i32_9 c1_i32 k0_t1
  let c1_i32_11 : BitVec 32 := 1#32
  let v25 : BitVec 32 := Scalar.muli arg21 c1_i32_11
  let v26 : BitVec 32 := Scalar.addi c0_i32_12 v25
  let c128_i32 : BitVec 32 := 128#32
  let v27 : BitVec 32 := Scalar.muli v26 c128_i32
  let v116 : Index := Scalar.indexCast v27
  let c896 : Index := 896#32
  ![v116.toNat, 896]
def k0_off18 (i : grid0.Coords) : Fin 3 → Nat :=
  let arg0 : BitVec 32 := BitVec.ofNat 32 (i 0).val
  let v447 : Index := Scalar.indexCast arg0
  let c0_222 : Index := 0#32
  let c0_223 : Index := 0#32
  ![v447.toNat, 0, 0]
def k0_cond2 (i : grid0.Coords) (v6 : BitVec 32) : BitVec 1 :=
  let arg1 : BitVec 32 := BitVec.ofNat 32 (i 1).val
  let c512_i32 : BitVec 32 := 512#32
  let v7 : BitVec 32 := Scalar.muli arg1 c512_i32
  let v8 : BitVec 32 := Scalar.subi v6 v7
  let c0_i32_2 : BitVec 32 := 0#32
  let v9 : BitVec 1 := Scalar.cmpi .sgt v8 c0_i32_2
  let v10 : BitVec 32 := Scalar.extui v9
  let c0_i32_3 : BitVec 32 := 0#32
  let v11 : BitVec 1 := Scalar.cmpi .ne v10 c0_i32_3
  v11

def k0_cond3 (i : grid0.Coords) (v6 : BitVec 32) : BitVec 1 :=
  let arg1 : BitVec 32 := BitVec.ofNat 32 (i 1).val
  let c512_i32 : BitVec 32 := 512#32
  let v7 : BitVec 32 := Scalar.muli arg1 c512_i32
  let v8 : BitVec 32 := Scalar.subi v6 v7
  let c0_i32_4 : BitVec 32 := 0#32
  let v12 : BitVec 1 := Scalar.cmpi .sle v8 c0_i32_4
  let v13 : BitVec 32 := Scalar.extui v12
  let c0_i32_5 : BitVec 32 := 0#32
  let v14 : BitVec 1 := Scalar.cmpi .ne v13 c0_i32_5
  v14

def k0_cond4 (i : grid0.Coords) : BitVec 1 :=
  let arg0 : BitVec 32 := BitVec.ofNat 32 (i 0).val
  let c5_i32 : BitVec 32 := 5#32
  let v15 : BitVec 1 := Scalar.cmpi .eq arg0 c5_i32
  let arg1 : BitVec 32 := BitVec.ofNat 32 (i 1).val
  let c15_i32 : BitVec 32 := 15#32
  let v16 : BitVec 1 := Scalar.cmpi .eq arg1 c15_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_2 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S6x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S6x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S6x1024 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S6x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S6x256 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S6x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S6x8192x1024 : Shape := ⟨3, ![6, 8192, 1024]⟩
abbrev S6x8192x4096 : Shape := ⟨3, ![6, 8192, 4096]⟩
abbrev S6x8192x32 : Shape := ⟨3, ![6, 8192, 32]⟩
abbrev S4096x1024 : Shape := ⟨2, ![4096, 1024]⟩
abbrev S32x8 : Shape := ⟨2, ![32, 8]⟩
abbrev S1024 : Shape := ⟨1, ![1024]⟩
abbrev S6 : Shape := ⟨1, ![6]⟩
abbrev S6x1024 : Shape := ⟨2, ![6, 1024]⟩
abbrev S6x1 : Shape := ⟨2, ![6, 1]⟩
abbrev S6x256 : Shape := ⟨2, ![6, 256]⟩
abbrev S6x8192x32x128 : Shape := ⟨4, ![6, 8192, 32, 128]⟩
abbrev S6x8192x32x1 : Shape := ⟨4, ![6, 8192, 32, 1]⟩
abbrev S49152x4096 : Shape := ⟨2, ![49152, 4096]⟩
abbrev S32x128x8x128 : Shape := ⟨4, ![32, 128, 8, 128]⟩
abbrev S32x1x8x1 : Shape := ⟨4, ![32, 1, 8, 1]⟩
abbrev S49152x1024 : Shape := ⟨2, ![49152, 1024]⟩
abbrev S1x1x1024 : Shape := ⟨3, ![1, 1, 1024]⟩
abbrev S6x8192 : Shape := ⟨2, ![6, 8192]⟩
abbrev S6x8192x1 : Shape := ⟨3, ![6, 8192, 1]⟩
abbrev S6x1x1 : Shape := ⟨3, ![6, 1, 1]⟩

abbrev nBuf : Space → Nat
  | .hbm => 15
  | .vmem => 15
  | .smem => 0
  | _ => 0

abbrev bufTy : (tb : Table) → Fin (tcTables nBuf tb) → BufTy
  | .hbm, ⟨0, _⟩ => ⟨S6x8192x1024, .bf16⟩
  | .hbm, ⟨1, _⟩ => ⟨S6x8192x4096, .fp8e4m3⟩
  | .hbm, ⟨2, _⟩ => ⟨S6x8192x32, .f32⟩
  | .hbm, ⟨3, _⟩ => ⟨S4096x1024, .fp8e4m3⟩
  | .hbm, ⟨4, _⟩ => ⟨S32x8, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S6, .i32⟩
  | .hbm, ⟨9, _⟩ => ⟨S6x8192x1024, .f32⟩
  | .hbm, ⟨10, _⟩ => ⟨S6x1024, .f32⟩
  | .hbm, ⟨11, _⟩ => ⟨S6x1024, .i8⟩
  | .hbm, ⟨12, _⟩ => ⟨S6x1, .f32⟩
  | .hbm, ⟨13, _⟩ => ⟨S6x256, .i8⟩
  | .hbm, ⟨14, _⟩ => ⟨S6x1, .f32⟩
  | .local _ .vmem, ⟨0, _⟩ => ⟨S6x8192x1024, .bf16⟩
  | .local _ .vmem, ⟨1, _⟩ => ⟨S6x8192x4096, .fp8e4m3⟩
  | .local _ .vmem, ⟨2, _⟩ => ⟨S6x8192x32, .f32⟩
  | .local _ .vmem, ⟨3, _⟩ => ⟨S4096x1024, .fp8e4m3⟩
  | .local _ .vmem, ⟨4, _⟩ => ⟨S32x8, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S6, .i32⟩
  | .local _ .vmem, ⟨9, _⟩ => ⟨S6x8192x1024, .f32⟩
  | .local _ .vmem, ⟨10, _⟩ => ⟨S6x1024, .f32⟩
  | .local _ .vmem, ⟨11, _⟩ => ⟨S6x1024, .i8⟩
  | .local _ .vmem, ⟨12, _⟩ => ⟨S6x1, .f32⟩
  | .local _ .vmem, ⟨13, _⟩ => ⟨S6x256, .i8⟩
  | .local _ .vmem, ⟨14, _⟩ => ⟨S6x1, .f32⟩
  | _, _ => ⟨S6x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S6x8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8192x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x8192x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x1024 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x256 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.K.Body.lean ====
/- THE BODY of the kernel, by pieces: what each of the body's four conditional stretches does to the buffers it touches,
   for whole staging buffers at any contents and any float interpretation. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel Cert.Kernel.Gen

variable {F : FTy → Type} [FloatOps F]

local notation "𝕄" => MT nD τ sig Unit (Elt F) ℕ (UR sig nD τ) ℕ

/-! ## The four stretches, each with what follows it -/

section Stretches

variable (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole)

/-- The first stretch: the accumulator zeroed and the weights dequantised, then `k`. -/
def kernA (k0_h1 : k0_cond1 i = 1#1) (k : Prog (TpuEff nD τ sig (Elt F) Λ₀ .tc) PUnit) : Prog (TpuEff nD τ sig (Elt F) Λ₀ .tc) PUnit := do
  let v21 : Vec F S6x8x1024 .f32 ← Prog.lift (.load arg20 (Rect.unit (s := S6x8x1024) ![0, 0, 0] S6x8x1024.size inb_S6x8x1024_S6x8x1024_0_0_0).toLoadRect (View.loadsAt_vmem h_S6x8x1024))
  Prog.lift (.store arg20 (Rect.unit (s := S6x8x1024) ![0, 0, 0] S6x8x1024.size inb_S6x8x1024_S6x8x1024_0_0_0) (k0_pay1 (F := F)) Finset.univ (View.stores_vmem_bits_univ h_S6x8x1024 rfl) (.inl rfl))
  Scf.Loop.for k0_t1_loop (k0_t1_ok i k0_h1) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1)
  k

/-- The second stretch: one tile's rows, their masked layer norm and their partial sums, then `k`. -/
def kernB (v6 : Elt F .i32) (k : Prog (TpuEff nD τ sig (Elt F) Λ₀ .tc) PUnit) : Prog (TpuEff nD τ sig (Elt F) Λ₀ .tc) PUnit := do
  let ⟨v52, v53⟩ : Σ' (v52 : FVec F S512x128 .bf16), Vec F S512x128 .bf16 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v88 : FVec F S512x128 .bf16 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v52 v53
  let ⟨v120, v121⟩ : Σ' (v120 : FVec F S512x128 .bf16), Vec F S1x512x128 .fp8e4m3 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v88
  let v156 : FVec F S512x128 .bf16 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v120 v121
  let v190 : FVec F S512x1 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v156
  k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v190
  k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let ⟨v292, v293⟩ : Σ' (v292 : FVec F S512x128 .bf16), Vec F S512x128 .bf16 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v328 : FVec F S512x128 .bf16 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v292 v293
  let ⟨v360, v361⟩ : Σ' (v360 : FVec F S512x128 .bf16), Vec F S1x512x128 .fp8e4m3 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v328
  let v396 : FVec F S512x128 .bf16 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v360 v361
  let v434 : FVec F S512x1024 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v396
  let v435 : Vec F S1x1024 .f32 ← Prog.lift (.load arg10 (Rect.unit (s := S1x1024) ![0, 0] S1x1024.size inb_S1x1024_S1x1024_0_0).toLoadRect (View.loadsAt_vmem h_S1x1024))
  let v444 : Vec F S1x512x1024 .f32 ← Prog.lift (.load arg12 (Rect.unit (s := S1x512x1024) ![0, 0, 0] S1x512x1024.size inb_S1x512x1024_S1x512x1024_0_0_0).toLoadRect (View.loadsAt_vmem h_S1x512x1024))
  Prog.lift (.store arg12 (Rect.unit (s := S1x512x1024) ![0, 0, 0] S1x512x1024.size inb_S1x512x1024_S1x512x1024_0_0_0) (k0_pay4 i v6 v434 v435) Finset.univ (View.stores_vmem_bits_univ h_S1x512x1024 rfl) (.inl rfl))
  let v448 : Vec F S1x8x1024 .f32 ← Prog.lift (.load arg20 (Rect.unit (s := S6x8x1024) (k0_off18 i) S1x8x1024.size (k0_off18_inb i)).toLoadRect (View.loadsAt_vmem h_S1x8x1024))
  let v454 : Vec F S1x8x1024 .f32 ← Prog.lift (.load arg20 (Rect.unit (s := S6x8x1024) (k0_off18 i) S1x8x1024.size (k0_off18_inb i)).toLoadRect (View.loadsAt_vmem h_S1x8x1024))
  Prog.lift (.store arg20 (Rect.unit (s := S6x8x1024) (k0_off18 i) S1x8x1024.size (k0_off18_inb i)) (k0_pay5 i v6 v434 v435 v448) Finset.univ (View.stores_vmem_bits_univ h_S1x8x1024 rfl) (.inl rfl))
  k

/-- The third stretch: a tile past the length is zero, then `k`. -/
def kernC (k : Prog (TpuEff nD τ sig (Elt F) Λ₀ .tc) PUnit) : Prog (TpuEff nD τ sig (Elt F) Λ₀ .tc) PUnit := do
  let v21 : Vec F S1x512x1024 .f32 ← Prog.lift (.load arg12 (Rect.unit (s := S1x512x1024) ![0, 0, 0] S1x512x1024.size inb_S1x512x1024_S1x512x1024_0_0_0).toLoadRect (View.loadsAt_vmem h_S1x512x1024))
  Prog.lift (.store arg12 (Rect.unit (s := S1x512x1024) ![0, 0, 0] S1x512x1024.size inb_S1x512x1024_S1x512x1024_0_0_0) (k0_pay6 (F := F)) Finset.univ (View.stores_vmem_bits_univ h_S1x512x1024 rfl) (.inl rfl))
  k

/-- The fourth stretch: the pooled mean and its two quantised normalisations, then `k`. -/
def kernD (k : Prog (TpuEff nD τ sig (Elt F) Λ₀ .tc) PUnit) : Prog (TpuEff nD τ sig (Elt F) Λ₀ .tc) PUnit := do
  let ⟨v55, v56⟩ : Σ' (v55 : FVec F S6x256 .f32), FVec F S6x256 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v81 : Vec F S6x256 .i8 ← Prog.lift (.load arg16 (Rect.unit (s := S6x256) ![0, 0] S6x256.size inb_S6x256_S6x256_0_0).toLoadRect (View.loadsAt_vmem h_S6x256))
  Prog.lift (.store arg16 (Rect.unit (s := S6x256) ![0, 0] S6x256.size inb_S6x256_S6x256_0_0) (k0_pay9 v55 v56) Finset.univ (View.stores_vmem h_S6x256 (harg16.storeExact_slice rfl _ packedi8_S6x256_S6x256_0_0) (fun _ => rfl)) (.inl rfl))
  let v82 : Vec F S6x1 .f32 ← Prog.lift (.load arg17 (Rect.unit (s := S6x1) ![0, 0] S6x1.size inb_S6x1_S6x1_0_0).toLoadRect (View.loadsAt_vmem h_S6x1))
  Prog.lift (.store arg17 (Rect.unit (s := S6x1) ![0, 0] S6x1.size inb_S6x1_S6x1_0_0) (k0_pay8 v55 v56) Finset.univ (View.stores_vmem_bits_univ h_S6x1 rfl) (.inl rfl))
  k

end Stretches

/-- The body is its four stretches, one after the other. -/
theorem body_eq (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) :
    cc0__body_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      = (let rest : Prog (TpuEff nD τ sig (Elt F) Λ₀ .tc) PUnit := (smemLoad arg2 (Rect.unit (s := S6) (k0_off1 i) S1.size (k0_off1_inb i)) numel1_S1 rfl >>= fun v6 =>
          let last : Prog (TpuEff nD τ sig (Elt F) Λ₀ .tc) PUnit := if k0_h4 : k0_cond4 i = 1#1 then kernD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (pure ⟨⟩) else pure ⟨⟩
          let third : Prog (TpuEff nD τ sig (Elt F) Λ₀ .tc) PUnit := if k0_h3 : k0_cond3 i v6 = 1#1 then kernC arg12 last else last
          if k0_h2 : k0_cond2 i v6 = 1#1 then kernB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 third else third)
        if k0_h1 : k0_cond1 i = 1#1 then kernA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 rest else rest) := rfl
end Cert.Kernel.Hand
end
-- ==== Proof.K.Vals.lean ====
/- WHAT THE BODY LEAVES in its buffers: the dequantised weights, the dequantised hidden tile and the
   running sums, as functions of what was read, and the pieces the stretches store as these functions: what each of the body's four conditional stretches does to the buffers it touches,
   for whole staging buffers at any contents and any float interpretation. -/
module

public import proofs.«01_k».proof.Proof.K.Body
public import proofs.«01_k».proof.Proof.Gen.Kernel.Launch
public import Idealize.ShloMosaic.Lib.ValueLayout
public import Idealize.ShloMosaic.Lib.ValueIdx
public import proofs.«01_k».proof.Proof.Gen.Kernel.Skeleton
public import proofs.«01_k».proof.Proof.Gen.Kernel.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx
open Cert.Kernel Cert.Kernel.Gen

variable {F : FTy → Type} [FloatOps F]

local notation "𝕄" => MT nD τ sig Unit (Elt F) ℕ (UR sig nD τ) ℕ

/-- The dequantised weights: each code, times the scale of its 128 by 128 block. -/
def WD (X6 : Vec F S4096x1024 .fp8e4m3) (X7 : Vec F S32x8 .f32) : Vec F S4096x1024 .bf16 :=
  mulf (extf .bf16 X6 bitsLt_fp8e4m3_bf16)
    (truncf .bf16 (fun y : S4096x1024.Idx => X7 (ix2
      (⟨(y (0 : Fin 2)).val / 128, Nat.div_lt_of_lt_mul (y (0 : Fin 2)).isLt⟩ : Fin 32)
      (⟨(y (1 : Fin 2)).val / 128, Nat.div_lt_of_lt_mul (y (1 : Fin 2)).isLt⟩ : Fin 8))) bitsLt_bf16_f32)

/-- The dequantised hidden tile: each code, times the scale of its row's 128 columns. -/
def HD (X4 : Vec F S1x512x4096 .fp8e4m3) (X5 : Vec F S1x512x32 .f32) : Vec F S512x4096 .bf16 :=
  mulf (extf .bf16 (fun y : S512x4096.Idx => X4 (ix3 (0 : Fin 1)
      (y (0 : Fin 2)) (y (1 : Fin 2)))) bitsLt_fp8e4m3_bf16)
    (truncf .bf16 (fun y : S512x4096.Idx => X5 (ix3 (0 : Fin 1) (y (0 : Fin 2))
      (⟨(y (1 : Fin 2)).val / 128, Nat.div_lt_of_lt_mul (y (1 : Fin 2)).isLt⟩ : Fin 32))) bitsLt_bf16_f32)

/-- A piece of the dequantised weights is the dequantised weights on its block. -/
theorem pay_w (X6 : Vec F S4096x1024 .fp8e4m3) (X7 : Vec F S32x8 .f32) (v : Elt F .f32)
    (off : Fin 2 → Nat) (inb) (a : Fin 32) (b : Fin 8)
    (hoff : off = ![128 * a.val, 128 * b.val]) (hv : v = X7 (ix2 a b)) (x : S128x128.Idx) :
    k0_pay10 v (View.ld X6 (Rect.unit (s := S4096x1024) off S128x128.size inb)) x
      = WD X6 X7 ((Rect.unit (s := S4096x1024) off S128x128.size inb).emb x) := by
  subst hoff; subst hv
  unfold k0_pay10 WD
  rw [shapeCast_self]
  have e : ∀ y : S4096x1024.Idx, (y = (Rect.unit (s := S4096x1024) ![128 * a.val, 128 * b.val] S128x128.size inb).emb x) →
    X7 (ix2
      (⟨(y (0 : Fin 2)).val / 128, Nat.div_lt_of_lt_mul (y (0 : Fin 2)).isLt⟩ : Fin 32)
      (⟨(y (1 : Fin 2)).val / 128, Nat.div_lt_of_lt_mul (y (1 : Fin 2)).isLt⟩ : Fin 8)) = X7 (ix2 a b) := by
    rintro y rfl
    have h0 : (x (0 : Fin 2)).val < 128 := (x (0 : Fin 2)).isLt
    have h1 : (x (1 : Fin 2)).val < 128 := (x (1 : Fin 2)).isLt
    congr 2
    · apply Fin.ext
      show (128 * a.val + 1 * (x (0 : Fin 2)).val) / 128 = a.val
      omega
    · apply Fin.ext
      show (128 * b.val + 1 * (x (1 : Fin 2)).val) / 128 = b.val
      omega
  show FloatOps.mulf _ _ = FloatOps.mulf _ _
  refine congrArg₂ _ rfl ?_
  exact congrArg _ (e _ rfl).symm

/-- A piece of the dequantised hidden tile is the dequantised hidden tile on its block. -/
theorem pay_h (X4 : Vec F S1x512x4096 .fp8e4m3) (X5 : Vec F S1x512x32 .f32)
    (b o : ℕ) (ho : o = 128 * b) (inb4 inb5 inb) (x : S512x128.Idx) :
    k0_pay18 (View.ld X5 (Rect.unit (s := S1x512x32) ![0, 0, b] S1x512x1.size inb5))
        (View.ld X4 (Rect.unit (s := S1x512x4096) ![0, 0, o] S1x512x128.size inb4)) x
      = HD X4 X5 ((Rect.unit (s := S512x4096) ![0, o] S512x128.size inb).emb x) := by
  subst ho
  have h1 : (x (1 : Fin 2)).val < 128 := (x (1 : Fin 2)).isLt
  have h0 : (x (0 : Fin 2)).val < 512 := (x (0 : Fin 2)).isLt
  obtain ⟨r, q, rfl⟩ : ∃ (r : Fin 512) (q : Fin 128), x = ix2 r q := ⟨_, _, eq_ix2 x⟩
  have e4 : shapeCast S512x128 (View.ld X4 (Rect.unit (s := S1x512x4096) ![0, 0, 128 * b] S1x512x128.size inb4))
      shapeCasts_S1x512x128_S512x128 (ix2 r q)
      = X4 (ix3 (0 : Fin 1)
        (((Rect.unit (s := S512x4096) ![0, 128 * b] S512x128.size inb).emb (ix2 r q)) (0 : Fin 2))
        (((Rect.unit (s := S512x4096) ![0, 128 * b] S512x128.size inb).emb (ix2 r q)) (1 : Fin 2))) := by
    refine (shapeCast_1ab_ab_apply _ _ r q).trans (congrArg X4 ?_)
    funext a
    match a with
    | ⟨0, _⟩ => rfl
    | ⟨1, _⟩ => rfl
    | ⟨2, _⟩ => rfl
  have e5 : broadcastTo S512x128 (shapeCast S512x1 (shapeCast S512x1 (View.ld X5 (Rect.unit (s := S1x512x32) ![0, 0, b] S1x512x1.size inb5))
      shapeCasts_S1x512x1_S512x1) shapeCasts_S512x1_S512x1) broadcasts_S512x1_S512x128 (ix2 r q)
      = X5 (ix3 (0 : Fin 1)
        (((Rect.unit (s := S512x4096) ![0, 128 * b] S512x128.size inb).emb (ix2 r q)) (0 : Fin 2))
        (⟨(((Rect.unit (s := S512x4096) ![0, 128 * b] S512x128.size inb).emb (ix2 r q)) (1 : Fin 2)).val / 128,
          Nat.div_lt_of_lt_mul (((Rect.unit (s := S512x4096) ![0, 128 * b] S512x128.size inb).emb (ix2 r q)) (1 : Fin 2)).isLt⟩ : Fin 32)) := by
    rw [shapeCast_self]
    refine (broadcastTo_apply _ _ (ix2 r q) (ix2 r (0 : Fin 1)) fun ax => ?_).trans ?_
    · match ax with
      | ⟨0, _⟩ => rfl
      | ⟨1, _⟩ => rfl
    refine (shapeCast_1ab_ab_apply _ _ r 0).trans (congrArg X5 ?_)
    funext a
    match a with
    | ⟨0, _⟩ => rfl
    | ⟨1, _⟩ => rfl
    | ⟨2, _⟩ =>
      apply Fin.ext
      show b + 1 * 0 = (128 * b + 1 * q.val) / 128
      have h1 : q.val < 128 := q.isLt
      omega
  unfold k0_pay18 HD
  rw [shapeCast_self]
  refine congrArg₂ FloatOps.mulf (congrArg (fun z => extf (F := F) (φ := .fp8e4m3) .bf16 (fun _ : S512x128.Idx => z) bitsLt_fp8e4m3_bf16 (ix2 r q)) e4)
    (congrArg (fun z => truncf (F := F) (φ := .f32) .bf16 (fun _ : S512x128.Idx => z) bitsLt_bf16_f32 (ix2 r q)) e5)

theorem off2_eq : ∀ k, k0_off2 k = ![k.val, ((0 : Fin 8) : ℕ)] := by decide +kernel
theorem off4_eq : ∀ k, k0_off4 k = ![k.val, ((1 : Fin 8) : ℕ)] := by decide +kernel
theorem off6_eq : ∀ k, k0_off6 k = ![k.val, ((2 : Fin 8) : ℕ)] := by decide +kernel
theorem off8_eq : ∀ k, k0_off8 k = ![k.val, ((3 : Fin 8) : ℕ)] := by decide +kernel
theorem off10_eq : ∀ k, k0_off10 k = ![k.val, ((4 : Fin 8) : ℕ)] := by decide +kernel
theorem off12_eq : ∀ k, k0_off12 k = ![k.val, ((5 : Fin 8) : ℕ)] := by decide +kernel
theorem off14_eq : ∀ k, k0_off14 k = ![k.val, ((6 : Fin 8) : ℕ)] := by decide +kernel
theorem off16_eq : ∀ k, k0_off16 k = ![k.val, ((7 : Fin 8) : ℕ)] := by decide +kernel
theorem off3_eq : ∀ k, k0_off3 k = ![128 * k.val, 128 * ((0 : Fin 8) : ℕ)] := by decide +kernel
theorem off5_eq : ∀ k, k0_off5 k = ![128 * k.val, 128 * ((1 : Fin 8) : ℕ)] := by decide +kernel
theorem off7_eq : ∀ k, k0_off7 k = ![128 * k.val, 128 * ((2 : Fin 8) : ℕ)] := by decide +kernel
theorem off9_eq : ∀ k, k0_off9 k = ![128 * k.val, 128 * ((3 : Fin 8) : ℕ)] := by decide +kernel
theorem off11_eq : ∀ k, k0_off11 k = ![128 * k.val, 128 * ((4 : Fin 8) : ℕ)] := by decide +kernel
theorem off13_eq : ∀ k, k0_off13 k = ![128 * k.val, 128 * ((5 : Fin 8) : ℕ)] := by decide +kernel
theorem off15_eq : ∀ k, k0_off15 k = ![128 * k.val, 128 * ((6 : Fin 8) : ℕ)] := by decide +kernel
theorem off17_eq : ∀ k, k0_off17 k = ![128 * k.val, 128 * ((7 : Fin 8) : ℕ)] := by decide +kernel

/-- A one-entry load at block `(a, b)` of the scale table is that block's scale. -/
theorem smem_w (X7 : Vec F S32x8 .f32) (off : Fin 2 → Nat) (inb) (h) (a : Fin 32) (b : Fin 8)
    (hoff : off = ![a.val, b.val]) :
    X7 ((Rect.unit (s := S32x8) off S1x1.size inb).emb (Shape.Idx.first (s := S1x1) h)) = X7 (ix2 a b) := by
  subst hoff
  refine congrArg X7 ?_
  funext x
  match x with
  | ⟨0, _⟩ => rfl
  | ⟨1, _⟩ => rfl

/-- An index lies in the block of its own block coordinates. -/
theorem mem_w (off : Fin 2 → Nat) (inb) (a : Fin 32) (b : Fin 8) (hoff : off = ![128 * a.val, 128 * b.val])
    (y : S4096x1024.Idx) (h0 : (y (0 : Fin 2)).val / 128 = a.val) (h1 : (y (1 : Fin 2)).val / 128 = b.val) :
    y ∈ (Rect.unit (s := S4096x1024) off S128x128.size inb).set := by
  subst hoff
  rw [Rect.mem_set_unit]
  intro x
  match x with
  | ⟨0, _⟩ =>
    show 128 * a.val ≤ (y (0 : Fin 2)).val ∧ (y (0 : Fin 2)).val < 128 * a.val + 128
    omega
  | ⟨1, _⟩ =>
    show 128 * b.val ≤ (y (1 : Fin 2)).val ∧ (y (1 : Fin 2)).val < 128 * b.val + 128
    omega

/-- Trip `k` stores the eight blocks of block row `k` of the dequantised weights. -/
theorem trip_w (c : Dev nD) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (k0_h1 : k0_cond1 i = 1#1) (f6 : BufTy.Contents (Elt F) arg6.view.ty)
    (f7 : BufTy.Contents (Elt F) arg7.view.ty) (k : Fin k0_t1_loop.trips) :
    (∀ p ∈ tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k, ∀ x, p.2 x
      = WD (arg6.view.read (Elt F) f6) (arg7.view.read (Elt F) f7) (p.1.emb x))
    ∧ ∀ y : S4096x1024.Idx, (y (0 : Fin 2)).val / 128 = k.val →
      ∃ p ∈ tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k, y ∈ p.1.set := by
  unfold tripL_k0_t1 trip_k0_t1
  dsimp only
  unfold trip_k0_t1.sl.r trip_k0_t1.sl.r_1 trip_k0_t1.sl.r_2 trip_k0_t1.sl.r_4 trip_k0_t1.sl.r_5 trip_k0_t1.sl.r_6 trip_k0_t1.sl.r_7 trip_k0_t1.sl.r_8
  try unfold trip_k0_t1.sl.r_3
  constructor
  · intro p hp
    simp only [List.mem_cons, List.not_mem_nil, or_false] at hp
    obtain rfl | rfl | rfl | rfl | rfl | rfl | rfl | rfl := hp
    · intro x
      exact pay_w _ _ _ _ _ k ((7) : Fin 8) (off17_eq k) (smem_w (arg7.view.read (Elt F) f7) _ _ _ k (7 : Fin 8) (off16_eq k)) x
    · intro x
      exact pay_w _ _ _ _ _ k ((6) : Fin 8) (off15_eq k) (smem_w (arg7.view.read (Elt F) f7) _ _ _ k (6 : Fin 8) (off14_eq k)) x
    · intro x
      exact pay_w _ _ _ _ _ k ((5) : Fin 8) (off13_eq k) (smem_w (arg7.view.read (Elt F) f7) _ _ _ k (5 : Fin 8) (off12_eq k)) x
    · intro x
      exact pay_w _ _ _ _ _ k ((4) : Fin 8) (off11_eq k) (smem_w (arg7.view.read (Elt F) f7) _ _ _ k (4 : Fin 8) (off10_eq k)) x
    · intro x
      exact pay_w _ _ _ _ _ k ((3) : Fin 8) (off9_eq k) (smem_w (arg7.view.read (Elt F) f7) _ _ _ k (3 : Fin 8) (off8_eq k)) x
    · intro x
      exact pay_w _ _ _ _ _ k ((2) : Fin 8) (off7_eq k) (smem_w (arg7.view.read (Elt F) f7) _ _ _ k (2 : Fin 8) (off6_eq k)) x
    · intro x
      exact pay_w _ _ _ _ _ k ((1) : Fin 8) (off5_eq k) (smem_w (arg7.view.read (Elt F) f7) _ _ _ k (1 : Fin 8) (off4_eq k)) x
    · intro x
      exact pay_w _ _ _ _ _ k ((0) : Fin 8) (off3_eq k) (smem_w (arg7.view.read (Elt F) f7) _ _ _ k (0 : Fin 8) (off2_eq k)) x
  · intro y hy
    have hb : (y (1 : Fin 2)).val < 1024 := (y (1 : Fin 2)).isLt
    obtain h | h | h | h | h | h | h | h : (y (1 : Fin 2)).val / 128 = 7 ∨ (y (1 : Fin 2)).val / 128 = 6
        ∨ (y (1 : Fin 2)).val / 128 = 5 ∨ (y (1 : Fin 2)).val / 128 = 4 ∨ (y (1 : Fin 2)).val / 128 = 3
        ∨ (y (1 : Fin 2)).val / 128 = 2 ∨ (y (1 : Fin 2)).val / 128 = 1 ∨ (y (1 : Fin 2)).val / 128 = 0 := by omega
    · exact ⟨_, List.mem_cons_self, mem_w _ (k0_off17_inb i k k0_h1) k (7 : Fin 8) (off17_eq k) y hy h⟩
    · exact ⟨_, (List.mem_cons_of_mem _ List.mem_cons_self), mem_w _ (k0_off15_inb i k k0_h1) k (6 : Fin 8) (off15_eq k) y hy h⟩
    · exact ⟨_, (List.mem_cons_of_mem _ (List.mem_cons_of_mem _ List.mem_cons_self)), mem_w _ (k0_off13_inb i k k0_h1) k (5 : Fin 8) (off13_eq k) y hy h⟩
    · exact ⟨_, (List.mem_cons_of_mem _ (List.mem_cons_of_mem _ (List.mem_cons_of_mem _ List.mem_cons_self))), mem_w _ (k0_off11_inb i k k0_h1) k (4 : Fin 8) (off11_eq k) y hy h⟩
    · exact ⟨_, (List.mem_cons_of_mem _ (List.mem_cons_of_mem _ (List.mem_cons_of_mem _ (List.mem_cons_of_mem _ List.mem_cons_self)))), mem_w _ (k0_off9_inb i k k0_h1) k (3 : Fin 8) (off9_eq k) y hy h⟩
    · exact ⟨_, (List.mem_cons_of_mem _ (List.mem_cons_of_mem _ (List.mem_cons_of_mem _ (List.mem_cons_of_mem _ (List.mem_cons_of_mem _ List.mem_cons_self))))), mem_w _ (k0_off7_inb i k k0_h1) k (2 : Fin 8) (off7_eq k) y hy h⟩
    · exact ⟨_, (List.mem_cons_of_mem _ (List.mem_cons_of_mem _ (List.mem_cons_of_mem _ (List.mem_cons_of_mem _ (List.mem_cons_of_mem _ (List.mem_cons_of_mem _ List.mem_cons_self)))))), mem_w _ (k0_off5_inb i k k0_h1) k (1 : Fin 8) (off5_eq k) y hy h⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_w _ (k0_off3_inb i k k0_h1) k (0 : Fin 8) (off3_eq k) y hy h⟩

/-- The pieces of the trips before `k`: they agree with the dequantised weights and cover the first
    `k` block rows. -/
theorem pb_w (c : Dev nD) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (k0_h1 : k0_cond1 i = 1#1) (f6 : BufTy.Contents (Elt F) arg6.view.ty)
    (f7 : BufTy.Contents (Elt F) arg7.view.ty) (k : ℕ) (hk : k ≤ k0_t1_loop.trips) :
    (∀ p ∈ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k, ∀ x, p.2 x
      = WD (arg6.view.read (Elt F) f6) (arg7.view.read (Elt F) f7) (p.1.emb x))
    ∧ ∀ y : S4096x1024.Idx, (y (0 : Fin 2)).val / 128 < k →
      ∃ p ∈ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k, y ∈ p.1.set := by
  induction k with
  | zero =>
    rw [show pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 0 = [] from rfl]
    exact ⟨fun p hp => absurd hp List.not_mem_nil, fun y hy => absurd hy (Nat.not_lt_zero _)⟩
  | succ k ih =>
    have ih := ih (by omega)
    have ht := trip_w c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 ⟨k, hk⟩
    rw [pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 ⟨k, hk⟩]
    refine ⟨fun p hp => ?_, fun y hy => ?_⟩
    · rcases List.mem_append.1 hp with h | h
      · exact ht.1 p h
      · exact ih.1 p h
    · rcases Nat.lt_succ_iff_lt_or_eq.1 hy with h | h
      · obtain ⟨p, hp, hs⟩ := ih.2 y h
        exact ⟨p, List.mem_append_right _ hp, hs⟩
      · obtain ⟨p, hp, hs⟩ := ht.2 y h
        exact ⟨p, List.mem_append_left _ hp, hs⟩

/-- After all trips the weight scratch holds the dequantised weights. -/
theorem read_wd (c : Dev nD) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (k0_h1 : k0_cond1 i = 1#1) (f6 : BufTy.Contents (Elt F) arg6.view.ty)
    (f7 : BufTy.Contents (Elt F) arg7.view.ty) (f18 : BufTy.Contents (Elt F) arg18.view.ty) :
    arg18.view.read (Elt F) (arg18.view.writes (Elt F) f18 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k0_t1_loop.trips))
      = WD (arg6.view.read (Elt F) f6) (arg7.view.read (Elt F) f7) := by
  have h := pb_w c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k0_t1_loop.trips le_rfl
  have hc : ∀ y : S4096x1024.Idx, ∃ p ∈ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k0_t1_loop.trips, y ∈ p.1.set := fun y =>
    h.2 y (Nat.lt_of_lt_of_eq (Nat.div_lt_of_lt_mul (show (y (0 : Fin 2)).val < 128 * 32 from (y (0 : Fin 2)).isLt)) (by decide +kernel))
  refine (View.read_writes_eq_canon _ _ _ hc).trans ?_
  funext y
  exact View.canon_apply_of_pieces _ _ h.1 y (hc y)

/-- The running sums after a tile's step: row `b` of the six gains the tile's column sums, in eight partial sums. -/
def MA (i : grid0.Coords) (v6 : Elt F .i32) (X19 : Vec F S512x4096 .bf16) (X18 : Vec F S4096x1024 .bf16)
    (X3 : Vec F S1x512x1024 .bf16) (X8 : Vec F S1x1024 .f32) (X9 : Vec F S1x1024 .f32) (X10 : Vec F S1x1024 .f32)
    (X20 : Vec F S6x8x1024 .f32) : Vec F S6x8x1024 .f32 := fun y =>
  if (y (0 : Fin 3)).val = (i 0).val then
    k0_pay5 i v6 (k0_pay59 X19 X18 X3 X8 X9) X10
      (fun z : S1x8x1024.Idx => X20 (ix3 (y (0 : Fin 3)) (z (1 : Fin 3)) (z (2 : Fin 3))))
      (ix3 (0 : Fin 1) (y (1 : Fin 3)) (y (2 : Fin 3)))
  else X20 y

theorem off18_eq : ∀ i : grid0.Coords, k0_off18 i = ![(i 0).val, 0, 0] := by decide +kernel

end Cert.Kernel.Hand
end
-- ==== Proof.K.Triples.lean ====
/- THE FOUR STRETCHES of the kernel body, each as a separation-logic triple: what each's four conditional stretches does to the buffers it touches,
   for whole staging buffers at any contents and any float interpretation. -/
module

public import proofs.«01_k».proof.Proof.K.Body
public import proofs.«01_k».proof.Proof.K.Vals
public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WritesUnit
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx
open Cert.Kernel Cert.Kernel.Gen

variable {F : FTy → Type} [FloatOps F]

local notation "𝕄" => MT nD τ sig Unit (Elt F) ℕ (UR sig nD τ) ℕ

theorem z3 : (![0, 0, 0] : Fin 3 → ℕ) = fun _ => 0 := by decide
theorem z2 : (![0, 0] : Fin 2 → ℕ) = fun _ => 0 := by decide

/-- A single store of a whole buffer leaves its payload. -/
theorem read_whole1 {sp : Space} {S : Shape} {e : EltTy} (v : View sig .tc sp S e) (f : v.ty.Contents (Elt F))
    (off : Fin S.rank → ℕ) (h : off = fun _ => 0) (inb) (w : S.Idx → Elt F e) :
    v.read (Elt F) (v.writes (Elt F) f [(⟨Rect.unit (s := S) off S.size inb, w⟩ : View.Piece (Elt F) S e)]) = w :=
  (View.read_writes_eq_canon _ _ _ (fun y => ⟨_, List.mem_cons_self, View.mem_set_unit_zero h inb y⟩)).trans
    (View.canon_unit_zero h _ _)

/-- A load of a whole buffer is what is read there. -/
theorem readAt_whole {sp : Space} {S : Shape} {e : EltTy} (v : View sig .tc sp S e) (f : v.ty.Contents (Elt F))
    (off : Fin S.rank → ℕ) (h : off = fun _ => 0) (inb) :
    v.readAt (Elt F) (Rect.unit (s := S) off S.size inb).toLoadRect f = v.read (Elt F) f :=
  View.ld_unit_zero h inb (v.read (Elt F) f)

/-- Storing the new partial sums over row `b` of the running sums is the step of the running sums. -/
theorem read_ma {sp : Space} (v : View sig .tc sp S6x8x1024 .f32) (f : v.ty.Contents (Elt F))
    (i : grid0.Coords) (v6 : Elt F .i32) (X19 : Vec F S512x4096 .bf16) (X18 : Vec F S4096x1024 .bf16)
    (X3 : Vec F S1x512x1024 .bf16) (X8 : Vec F S1x1024 .f32) (X9 : Vec F S1x1024 .f32) (X10 : Vec F S1x1024 .f32)
    (inb inb') :
    v.read (Elt F) (v.writes (Elt F) f [(⟨Rect.unit (s := S6x8x1024) (k0_off18 i) S1x8x1024.size inb,
      k0_pay5 i v6 (k0_pay59 X19 X18 X3 X8 X9) X10
        (View.ld (v.read (Elt F) f) (Rect.unit (s := S6x8x1024) (k0_off18 i) S1x8x1024.size inb'))⟩ : View.Piece (Elt F) S6x8x1024 .f32)])
      = MA i v6 X19 X18 X3 X8 X9 X10 (v.read (Elt F) f) := by
  funext y
  unfold MA
  split
  · next hy =>
    refine (View.read_writes_cons_unit_of_mem v f inb _ [] y (ix3 (0 : Fin 1) (y (1 : Fin 3)) (y (2 : Fin 3))) (off18_eq i) fun a => ?_).trans ?_
    · match a with
      | ⟨0, _⟩ => exact hy
      | ⟨1, _⟩ => exact (Nat.zero_add _).symm
      | ⟨2, _⟩ => exact (Nat.zero_add _).symm
    refine congrArg (fun g => k0_pay5 i v6 (k0_pay59 X19 X18 X3 X8 X9) X10 g (ix3 (0 : Fin 1) (y (1 : Fin 3)) (y (2 : Fin 3)))) ?_
    funext z
    show v.read (Elt F) f _ = v.read (Elt F) f _
    refine congrArg (v.read (Elt F) f) ?_
    funext a
    apply Fin.ext
    have hz : (z (0 : Fin 3)).val < 1 := (z (0 : Fin 3)).isLt
    have e0 : k0_off18 i (0 : Fin 3) = (i 0).val := congrFun (off18_eq i) 0
    have e1 : k0_off18 i (1 : Fin 3) = 0 := congrFun (off18_eq i) 1
    have e2 : k0_off18 i (2 : Fin 3) = 0 := congrFun (off18_eq i) 2
    match a with
    | ⟨0, _⟩ =>
      show k0_off18 i (0 : Fin 3) + 1 * (z (0 : Fin 3)).val = (y (0 : Fin 3)).val
      omega
    | ⟨1, _⟩ =>
      show k0_off18 i (1 : Fin 3) + 1 * (z (1 : Fin 3)).val = (z (1 : Fin 3)).val
      omega
    | ⟨2, _⟩ =>
      show k0_off18 i (2 : Fin 3) + 1 * (z (2 : Fin 3)).val = (z (2 : Fin 3)).val
      omega
  · next hy =>
    exact (View.read_writes_cons_unit_of_not_mem v f inb _ [] y (off18_eq i) (0 : Fin 3) (by
      show (y (0 : Fin 3)).val < (i 0).val ∨ (i 0).val + 1 ≤ (y (0 : Fin 3)).val
      omega)).trans rfl

set_option maxHeartbeats 4000000 in
/-- The first stretch. -/
theorem tripleA (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (k0_h1 : k0_cond1 i = 1#1)
    (X6 : Vec F S4096x1024 .fp8e4m3) (X7 : Vec F S32x8 .f32) (k : Prog (TpuEff nD τ sig (Elt F) Λ₀ .tc) PUnit) (K : PUnit → sProp 𝕄) :
    iprop(owns (c : Thread nD τ) arg6 fullShare X6 ∗ owns (c : Thread nD τ) arg7 fullShare X7 ∗ (∃ d, owns (c : Thread nD τ) arg18 fullShare d) ∗ (∃ d, owns (c : Thread nD τ) arg20 fullShare d)
        ∗ (iprop(owns (c : Thread nD τ) arg6 fullShare X6 ∗ owns (c : Thread nD τ) arg7 fullShare X7 ∗ owns (c : Thread nD τ) arg18 fullShare (WD X6 X7) ∗ owns (c : Thread nD τ) arg20 fullShare (k0_pay1 (F := F))) -∗ wp frame (wpE (defs₀ (F := F)) Variants.none (c : Thread nD τ) none) E k K))
      ⊢ wp frame (wpE (defs₀ (F := F)) Variants.none (c : Thread nD τ) none) E (kernA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 k) K := by
  unfold kernA
  unfold owns
  iintro ⟨⟨%farg6, %harg6', Harg6⟩, ⟨%farg7, %harg7', Harg7⟩, ⟨%darg18, %farg18, -, Harg18⟩, ⟨%darg20, %farg20, -, Harg20⟩, Hk⟩
  subst harg6' harg7'
  sl_exec
  iapply Hk
  isplitl [Harg6]
  · iexists farg6; isplitr; · ipureintro; rfl
    iexact Harg6
  isplitl [Harg7]
  · iexists farg7; isplitr; · ipureintro; rfl
    iexact Harg7
  isplitl [Harg18]
  · iexists _; isplitr
    swap; · iexact Harg18
    ipureintro
    exact read_wd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 farg6 farg7 _
  iexists _; isplitr
  swap; · iexact Harg20
  ipureintro
  unfold tripleA.sl.Harg20_1
  exact read_whole1 _ _ _ z3 _ _

set_option maxHeartbeats 4000000 in
/-- The second stretch. -/
theorem tripleB (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (v6 : Elt F .i32)
    (X3 : Vec F S1x512x1024 .bf16) (X4 : Vec F S1x512x4096 .fp8e4m3) (X5 : Vec F S1x512x32 .f32) (X8 : Vec F S1x1024 .f32) (X9 : Vec F S1x1024 .f32) (X10 : Vec F S1x1024 .f32) (X18 : Vec F S4096x1024 .bf16) (X20 : Vec F S6x8x1024 .f32) (k : Prog (TpuEff nD τ sig (Elt F) Λ₀ .tc) PUnit) (K : PUnit → sProp 𝕄) :
    iprop(owns (c : Thread nD τ) arg3 fullShare X3 ∗ owns (c : Thread nD τ) arg4 fullShare X4 ∗ owns (c : Thread nD τ) arg5 fullShare X5 ∗ owns (c : Thread nD τ) arg8 fullShare X8 ∗ owns (c : Thread nD τ) arg9 fullShare X9 ∗ owns (c : Thread nD τ) arg10 fullShare X10 ∗ owns (c : Thread nD τ) arg18 fullShare X18 ∗ owns (c : Thread nD τ) arg20 fullShare X20 ∗ (∃ d, owns (c : Thread nD τ) arg12 fullShare d) ∗ (∃ d, owns (c : Thread nD τ) arg19 fullShare d)
        ∗ (iprop(owns (c : Thread nD τ) arg3 fullShare X3 ∗ owns (c : Thread nD τ) arg4 fullShare X4 ∗ owns (c : Thread nD τ) arg5 fullShare X5 ∗ owns (c : Thread nD τ) arg8 fullShare X8 ∗ owns (c : Thread nD τ) arg9 fullShare X9 ∗ owns (c : Thread nD τ) arg10 fullShare X10 ∗ owns (c : Thread nD τ) arg18 fullShare X18 ∗ owns (c : Thread nD τ) arg12 fullShare (k0_pay4 i v6 (k0_pay59 (HD X4 X5) X18 X3 X8 X9) X10) ∗ owns (c : Thread nD τ) arg19 fullShare (HD X4 X5) ∗ owns (c : Thread nD τ) arg20 fullShare (MA i v6 (HD X4 X5) X18 X3 X8 X9 X10 X20)) -∗ wp frame (wpE (defs₀ (F := F)) Variants.none (c : Thread nD τ) none) E k K))
      ⊢ wp frame (wpE (defs₀ (F := F)) Variants.none (c : Thread nD τ) none) E (kernB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 k) K := by
  unfold kernB
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%farg3, %harg3', Harg3⟩, ⟨%farg4, %harg4', Harg4⟩, ⟨%farg5, %harg5', Harg5⟩, ⟨%farg8, %harg8', Harg8⟩, ⟨%farg9, %harg9', Harg9⟩, ⟨%farg10, %harg10', Harg10⟩, ⟨%farg18, %harg18', Harg18⟩, ⟨%farg20, %harg20', Harg20⟩, ⟨%darg12, %farg12, -, Harg12⟩, ⟨%darg19, %farg19, -, Harg19⟩, Hk⟩
  subst harg3' harg4' harg5' harg8' harg9' harg10' harg18' harg20'
  sl_exec
  have hP : ∀ p ∈ tripleB.sl.Harg19_32 c arg4 arg5 farg4 farg5, ∀ x, p.2 x
      = HD (arg4.view.read (Elt F) farg4) (arg5.view.read (Elt F) farg5) (p.1.emb x) := by
    unfold tripleB.sl.Harg19_32
    refine View.PiecesOf.mem ?_
    exact ⟨fun x => pay_h _ _ 31 3968 rfl _ _ inb_S512x4096_S512x128_0_3968 x, fun x => pay_h _ _ 30 3840 rfl _ _ inb_S512x4096_S512x128_0_3840 x, fun x => pay_h _ _ 29 3712 rfl _ _ inb_S512x4096_S512x128_0_3712 x, fun x => pay_h _ _ 28 3584 rfl _ _ inb_S512x4096_S512x128_0_3584 x, fun x => pay_h _ _ 27 3456 rfl _ _ inb_S512x4096_S512x128_0_3456 x, fun x => pay_h _ _ 26 3328 rfl _ _ inb_S512x4096_S512x128_0_3328 x, fun x => pay_h _ _ 25 3200 rfl _ _ inb_S512x4096_S512x128_0_3200 x, fun x => pay_h _ _ 24 3072 rfl _ _ inb_S512x4096_S512x128_0_3072 x, fun x => pay_h _ _ 23 2944 rfl _ _ inb_S512x4096_S512x128_0_2944 x, fun x => pay_h _ _ 22 2816 rfl _ _ inb_S512x4096_S512x128_0_2816 x, fun x => pay_h _ _ 21 2688 rfl _ _ inb_S512x4096_S512x128_0_2688 x, fun x => pay_h _ _ 20 2560 rfl _ _ inb_S512x4096_S512x128_0_2560 x, fun x => pay_h _ _ 19 2432 rfl _ _ inb_S512x4096_S512x128_0_2432 x, fun x => pay_h _ _ 18 2304 rfl _ _ inb_S512x4096_S512x128_0_2304 x, fun x => pay_h _ _ 17 2176 rfl _ _ inb_S512x4096_S512x128_0_2176 x, fun x => pay_h _ _ 16 2048 rfl _ _ inb_S512x4096_S512x128_0_2048 x, fun x => pay_h _ _ 15 1920 rfl _ _ inb_S512x4096_S512x128_0_1920 x, fun x => pay_h _ _ 14 1792 rfl _ _ inb_S512x4096_S512x128_0_1792 x, fun x => pay_h _ _ 13 1664 rfl _ _ inb_S512x4096_S512x128_0_1664 x, fun x => pay_h _ _ 12 1536 rfl _ _ inb_S512x4096_S512x128_0_1536 x, fun x => pay_h _ _ 11 1408 rfl _ _ inb_S512x4096_S512x128_0_1408 x, fun x => pay_h _ _ 10 1280 rfl _ _ inb_S512x4096_S512x128_0_1280 x, fun x => pay_h _ _ 9 1152 rfl _ _ inb_S512x4096_S512x128_0_1152 x, fun x => pay_h _ _ 8 1024 rfl _ _ inb_S512x4096_S512x128_0_1024 x, fun x => pay_h _ _ 7 896 rfl _ _ inb_S512x4096_S512x128_0_896 x, fun x => pay_h _ _ 6 768 rfl _ _ inb_S512x4096_S512x128_0_768 x, fun x => pay_h _ _ 5 640 rfl _ _ inb_S512x4096_S512x128_0_640 x, fun x => pay_h _ _ 4 512 rfl _ _ inb_S512x4096_S512x128_0_512 x, fun x => pay_h _ _ 3 384 rfl _ _ inb_S512x4096_S512x128_0_384 x, fun x => pay_h _ _ 2 256 rfl _ _ inb_S512x4096_S512x128_0_256 x, fun x => pay_h _ _ 1 128 rfl _ _ inb_S512x4096_S512x128_0_128 x, fun x => pay_h _ _ 0 0 rfl _ _ inb_S512x4096_S512x128_0_0 x, trivial⟩
  have hC : ∀ y : S512x4096.Idx, ∃ p ∈ tripleB.sl.Harg19_32 c arg4 arg5 farg4 farg5, y ∈ p.1.set := by
    unfold tripleB.sl.Harg19_32
    exact fun y => View.cover_of_tiled (s := S512x4096) _ ![512, 128] (by rfl) y
  have hv : tripleB.sl.v404 c arg4 arg5 arg19 farg4 farg5 = HD (arg4.view.read (Elt F) farg4) (arg5.view.read (Elt F) farg5) := by
    unfold tripleB.sl.v404
    refine (View.readCov_eq_canon _ _ _ (fun j => hC _)).trans ?_
    funext j
    refine (View.canon_apply_of_pieces _ _ hP _ (hC _)).trans ?_
    exact congrFun (View.ld_unit_zero z2 inb_S512x4096_S512x4096_0_0 (HD (arg4.view.read (Elt F) farg4) (arg5.view.read (Elt F) farg5))) j
  iapply Hk
  isplitl [Harg3]
  · iexists farg3; isplitr; · ipureintro; rfl
    iexact Harg3
  isplitl [Harg4]
  · iexists farg4; isplitr; · ipureintro; rfl
    iexact Harg4
  isplitl [Harg5]
  · iexists farg5; isplitr; · ipureintro; rfl
    iexact Harg5
  isplitl [Harg8]
  · iexists farg8; isplitr; · ipureintro; rfl
    iexact Harg8
  isplitl [Harg9]
  · iexists farg9; isplitr; · ipureintro; rfl
    iexact Harg9
  isplitl [Harg10]
  · iexists farg10; isplitr; · ipureintro; rfl
    iexact Harg10
  isplitl [Harg18]
  · iexists farg18; isplitr; · ipureintro; rfl
    iexact Harg18
  isplitl [Harg12]
  · iexists _; isplitr
    swap; · iexact Harg12
    ipureintro
    refine (read_whole1 _ _ _ z3 _ _).trans ?_
    unfold tripleB.sl.r_11
    rw [hv, readAt_whole arg18.view _ _ z2, readAt_whole arg3.view _ _ z3, readAt_whole arg8.view _ _ z2, readAt_whole arg9.view _ _ z2, readAt_whole arg10.view _ _ z2]
  isplitl [Harg19]
  · iexists _; isplitr
    swap; · iexact Harg19
    ipureintro
    refine (View.read_writes_eq_canon _ _ _ hC).trans ?_
    funext y
    exact View.canon_apply_of_pieces _ _ hP y (hC y)
  iexists _; isplitr
  swap; · iexact Harg20
  ipureintro
  unfold tripleB.sl.r_11
  rw [hv, readAt_whole arg18.view _ _ z2, readAt_whole arg3.view _ _ z3, readAt_whole arg8.view _ _ z2, readAt_whole arg9.view _ _ z2, readAt_whole arg10.view _ _ z2]
  exact read_ma _ _ i v6 _ _ _ _ _ _ _ _

set_option maxHeartbeats 4000000 in
/-- The third stretch leaves zeros in the tile. -/
theorem tripleC (c : Dev nD) (E : Set ℕ) (arg12 : Memref sig .tc .vmem S1x512x1024 .f32)
     (k : Prog (TpuEff nD τ sig (Elt F) Λ₀ .tc) PUnit) (K : PUnit → sProp 𝕄) :
    iprop((∃ d, owns (c : Thread nD τ) arg12 fullShare d)
        ∗ (iprop(owns (c : Thread nD τ) arg12 fullShare (k0_pay6 (F := F))) -∗ wp frame (wpE (defs₀ (F := F)) Variants.none (c : Thread nD τ) none) E k K))
      ⊢ wp frame (wpE (defs₀ (F := F)) Variants.none (c : Thread nD τ) none) E (kernC arg12 k) K := by
  unfold kernC

  unfold owns
  iintro ⟨⟨%darg12, %farg12, -, Harg12⟩, Hk⟩
  sl_exec
  iapply Hk
  iexists _; isplitr
  swap; · iexact Harg12
  ipureintro
  exact read_whole1 _ _ _ z3 _ _

set_option maxHeartbeats 4000000 in
/-- The last stretch. -/
theorem tripleD (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole)
    (X11 : Vec F S6x1 .i32) (X20 : Vec F S6x8x1024 .f32) (k : Prog (TpuEff nD τ sig (Elt F) Λ₀ .tc) PUnit) (K : PUnit → sProp 𝕄) :
    iprop(owns (c : Thread nD τ) arg11 fullShare X11 ∗ owns (c : Thread nD τ) arg20 fullShare X20 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg11 fullShare X11 ∗ owns (c : Thread nD τ) arg20 fullShare X20 ∗ owns (c : Thread nD τ) arg13 fullShare (k0_pay60 X20 X11) ∗ owns (c : Thread nD τ) arg14 fullShare (k0_pay63 X20 X11) ∗ owns (c : Thread nD τ) arg15 fullShare (k0_pay62 X20 X11) ∗ owns (c : Thread nD τ) arg16 fullShare (k0_pay9 (k0_pay64 X20 X11) (k0_pay65 X20 X11)) ∗ owns (c : Thread nD τ) arg17 fullShare (k0_pay8 (k0_pay64 X20 X11) (k0_pay65 X20 X11))) -∗ wp frame (wpE (defs₀ (F := F)) Variants.none (c : Thread nD τ) none) E k K))
      ⊢ wp frame (wpE (defs₀ (F := F)) Variants.none (c : Thread nD τ) none) E (kernD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k) K := by
  unfold kernD
  simp only [k0_part15_eq_skeleton]
  unfold owns
  iintro ⟨⟨%farg11, %harg11', Harg11⟩, ⟨%farg20, %harg20', Harg20⟩, ⟨%darg13, %farg13, -, Harg13⟩, ⟨%darg14, %farg14, -, Harg14⟩, ⟨%darg15, %farg15, -, Harg15⟩, ⟨%darg16, %farg16, -, Harg16⟩, ⟨%darg17, %farg17, -, Harg17⟩, Hk⟩
  subst harg11' harg20'
  sl_exec
  iapply Hk
  isplitl [Harg11]
  · iexists farg11; isplitr; · ipureintro; rfl
    iexact Harg11
  isplitl [Harg20]
  · iexists farg20; isplitr; · ipureintro; rfl
    iexact Harg20
  isplitl [Harg13]
  · iexists _; isplitr
    swap; · iexact Harg13
    ipureintro
    refine (read_whole1 _ _ _ z2 _ _).trans ?_
    rw [readAt_whole _ _ _ z3, readAt_whole _ _ _ z2]
  isplitl [Harg14]
  · iexists _; isplitr
    swap; · iexact Harg14
    ipureintro
    refine (read_whole1 _ _ _ z2 _ _).trans ?_
    rw [readAt_whole _ _ _ z3, readAt_whole _ _ _ z2]
  isplitl [Harg15]
  · iexists _; isplitr
    swap; · iexact Harg15
    ipureintro
    refine (read_whole1 _ _ _ z2 _ _).trans ?_
    rw [readAt_whole _ _ _ z3, readAt_whole _ _ _ z2]
  isplitl [Harg16]
  · iexists _; isplitr
    swap; · iexact Harg16
    ipureintro
    refine (read_whole1 _ _ _ z2 _ _).trans ?_
    unfold tripleD.sl.r tripleD.sl.r_1
    rw [readAt_whole _ _ _ z3, readAt_whole _ _ _ z2]
  iexists _; isplitr
  swap; · iexact Harg17
  ipureintro
  refine (read_whole1 _ _ _ z2 _ _).trans ?_
  unfold tripleD.sl.r tripleD.sl.r_1
  rw [readAt_whole _ _ _ z3, readAt_whole _ _ _ z2]

end Cert.Kernel.Hand
end
-- ==== Proof.K.Whole.lean ====
/- THE WHOLE BODY of the kernel as one triple: its four conditional stretches composed; what each of the body's four conditional stretches does to the buffers it touches,
   for whole staging buffers at any contents and any float interpretation. -/
module

public import proofs.«01_k».proof.Proof.K.Triples
public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx
open Cert.Kernel Cert.Kernel.Gen

variable {F : FTy → Type} [FloatOps F]

local notation "𝕄" => MT nD τ sig Unit (Elt F) ℕ (UR sig nD τ) ℕ

/-- The third stretch runs exactly where the second does not. -/
theorem cond3_iff (i : grid0.Coords) (v : BitVec 32) : k0_cond3 i v = 1#1 ↔ ¬ k0_cond2 i v = 1#1 := by
  unfold k0_cond3 k0_cond2
  dsimp only
  generalize Scalar.subi v (Scalar.muli (BitVec.ofNat 32 (i 1).val) 512#32) = x
  have e : BitVec.sle x 0#32 = !(BitVec.slt 0#32 x) := BitVec.sle_eq_not_slt
  show Scalar.cmpi .ne (Scalar.extui (BitVec.ofBool (BitVec.sle x 0#32))) 0#32 = 1#1 ↔ ¬ Scalar.cmpi .ne (Scalar.extui (BitVec.ofBool (BitVec.slt 0#32 x))) 0#32 = 1#1
  rw [e]
  cases BitVec.slt 0#32 x <;> decide

/-- The word of the length table the body reads at a point: its row's length. -/
def lenAt (X2 : Vec F S6 .i32) (i : grid0.Coords) : BitVec 32 :=
  X2 ((Rect.unit (s := S6) (k0_off1 i) S1.size (k0_off1_inb i)).emb (Shape.Idx.first (s := S1) (by rw [numel1_S1]; exact Nat.one_pos)))

/-- The weight scratch after a point. -/
def W18 (i : grid0.Coords) (X6 : Vec F S4096x1024 .fp8e4m3) (X7 : Vec F S32x8 .f32) (Y18 : Vec F S4096x1024 .bf16) : Vec F S4096x1024 .bf16 :=
  if k0_cond1 i = 1#1 then WD X6 X7 else Y18
/-- The running sums as a point finds them: zeroed at the first. -/
def Z20 (i : grid0.Coords) (Y20 : Vec F S6x8x1024 .f32) : Vec F S6x8x1024 .f32 :=
  if k0_cond1 i = 1#1 then k0_pay1 else Y20
/-- The running sums after a point. -/
def M20 (i : grid0.Coords) (v6 : Elt F .i32) (X19 : Vec F S512x4096 .bf16) (X18 : Vec F S4096x1024 .bf16) (X3 : Vec F S1x512x1024 .bf16) (X8 : Vec F S1x1024 .f32) (X9 : Vec F S1x1024 .f32) (X10 : Vec F S1x1024 .f32) (X20 : Vec F S6x8x1024 .f32) : Vec F S6x8x1024 .f32 :=
  if k0_cond2 i v6 = 1#1 then MA i v6 X19 X18 X3 X8 X9 X10 X20 else X20
/-- The output tile of a point. -/
def T12 (i : grid0.Coords) (v6 : Elt F .i32) (X19 : Vec F S512x4096 .bf16) (X18 : Vec F S4096x1024 .bf16) (X3 : Vec F S1x512x1024 .bf16) (X8 : Vec F S1x1024 .f32) (X9 : Vec F S1x1024 .f32) (X10 : Vec F S1x1024 .f32) : Vec F S1x512x1024 .f32 :=
  if k0_cond2 i v6 = 1#1 then k0_pay4 i v6 (k0_pay59 X19 X18 X3 X8 X9) X10 else k0_pay6
/-- What argument 13 holds after a point: written at the last one only. -/
def O13 (i : grid0.Coords) (X20 : Vec F S6x8x1024 .f32) (X11 : Vec F S6x1 .i32) (Y : Vec F S6x1024 .f32) : Vec F S6x1024 .f32 :=
  if k0_cond4 i = 1#1 then (k0_pay60 X20 X11) else Y
/-- What argument 14 holds after a point: written at the last one only. -/
def O14 (i : grid0.Coords) (X20 : Vec F S6x8x1024 .f32) (X11 : Vec F S6x1 .i32) (Y : Vec F S6x1024 .i8) : Vec F S6x1024 .i8 :=
  if k0_cond4 i = 1#1 then (k0_pay63 X20 X11) else Y
/-- What argument 15 holds after a point: written at the last one only. -/
def O15 (i : grid0.Coords) (X20 : Vec F S6x8x1024 .f32) (X11 : Vec F S6x1 .i32) (Y : Vec F S6x1 .f32) : Vec F S6x1 .f32 :=
  if k0_cond4 i = 1#1 then (k0_pay62 X20 X11) else Y
/-- What argument 16 holds after a point: written at the last one only. -/
def O16 (i : grid0.Coords) (X20 : Vec F S6x8x1024 .f32) (X11 : Vec F S6x1 .i32) (Y : Vec F S6x256 .i8) : Vec F S6x256 .i8 :=
  if k0_cond4 i = 1#1 then (k0_pay9 (k0_pay64 X20 X11) (k0_pay65 X20 X11)) else Y
/-- What argument 17 holds after a point: written at the last one only. -/
def O17 (i : grid0.Coords) (X20 : Vec F S6x8x1024 .f32) (X11 : Vec F S6x1 .i32) (Y : Vec F S6x1 .f32) : Vec F S6x1 .f32 :=
  if k0_cond4 i = 1#1 then (k0_pay8 (k0_pay64 X20 X11) (k0_pay65 X20 X11)) else Y

/-- The first stretch under its condition. -/
theorem stA (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (X6 : Vec F S4096x1024 .fp8e4m3) (X7 : Vec F S32x8 .f32) (Y18 : Vec F S4096x1024 .bf16) (Y20 : Vec F S6x8x1024 .f32) (k : Prog (TpuEff nD τ sig (Elt F) Λ₀ .tc) PUnit) (K : PUnit → sProp 𝕄) :
    iprop(owns (c : Thread nD τ) arg6 fullShare X6 ∗ owns (c : Thread nD τ) arg7 fullShare X7 ∗ owns (c : Thread nD τ) arg18 fullShare Y18 ∗ owns (c : Thread nD τ) arg20 fullShare Y20 ∗ (iprop(owns (c : Thread nD τ) arg6 fullShare X6 ∗ owns (c : Thread nD τ) arg7 fullShare X7 ∗ owns (c : Thread nD τ) arg18 fullShare (W18 i X6 X7 Y18) ∗ owns (c : Thread nD τ) arg20 fullShare (Z20 i Y20)) -∗ wp frame (wpE (defs₀ (F := F)) Variants.none (c : Thread nD τ) none) E k K))
      ⊢ wp frame (wpE (defs₀ (F := F)) Variants.none (c : Thread nD τ) none) E (if k0_h1 : k0_cond1 i = 1#1 then kernA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 k else k) K := by
  unfold W18 Z20
  by_cases h : k0_cond1 i = 1#1
  · rw [dif_pos h, if_pos h, if_pos h]
    refine BIBase.Entails.trans ?_ (tripleA c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h X6 X7 k K)
    iintro ⟨H6, H7, H18, H20, Hk⟩
    isplitl [H6]; · iexact H6
    isplitl [H7]; · iexact H7
    isplitl [H18]; · iexists Y18; iexact H18
    isplitl [H20]; · iexists Y20; iexact H20
    iexact Hk
  · rw [dif_neg h, if_neg h, if_neg h]
    iintro ⟨H6, H7, H18, H20, Hk⟩
    iapply Hk
    isplitl [H6]; · iexact H6
    isplitl [H7]; · iexact H7
    isplitl [H18]; · iexact H18
    iexact H20

/-- The last stretch under its condition. -/
theorem stD (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (X11 : Vec F S6x1 .i32) (X20 : Vec F S6x8x1024 .f32) (Y13 : Vec F S6x1024 .f32) (Y14 : Vec F S6x1024 .i8) (Y15 : Vec F S6x1 .f32) (Y16 : Vec F S6x256 .i8) (Y17 : Vec F S6x1 .f32) (k : Prog (TpuEff nD τ sig (Elt F) Λ₀ .tc) PUnit) (K : PUnit → sProp 𝕄) :
    iprop(owns (c : Thread nD τ) arg11 fullShare X11 ∗ owns (c : Thread nD τ) arg20 fullShare X20 ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ (iprop(owns (c : Thread nD τ) arg11 fullShare X11 ∗ owns (c : Thread nD τ) arg20 fullShare X20 ∗ owns (c : Thread nD τ) arg13 fullShare (O13 i X20 X11 Y13) ∗ owns (c : Thread nD τ) arg14 fullShare (O14 i X20 X11 Y14) ∗ owns (c : Thread nD τ) arg15 fullShare (O15 i X20 X11 Y15) ∗ owns (c : Thread nD τ) arg16 fullShare (O16 i X20 X11 Y16) ∗ owns (c : Thread nD τ) arg17 fullShare (O17 i X20 X11 Y17)) -∗ wp frame (wpE (defs₀ (F := F)) Variants.none (c : Thread nD τ) none) E k K))
      ⊢ wp frame (wpE (defs₀ (F := F)) Variants.none (c : Thread nD τ) none) E (if k0_h4 : k0_cond4 i = 1#1 then kernD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k else k) K := by
  unfold O13 O14 O15 O16 O17
  by_cases h : k0_cond4 i = 1#1
  · rw [dif_pos h, if_pos h, if_pos h, if_pos h, if_pos h, if_pos h]
    refine BIBase.Entails.trans ?_ (tripleD c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X11 X20 k K)
    iintro ⟨Harg11, Harg20, Harg13, Harg14, Harg15, Harg16, Harg17, Hk⟩
    isplitl [Harg11]; · iexact Harg11
    isplitl [Harg20]; · iexact Harg20
    isplitl [Harg13]; · iexists Y13; iexact Harg13
    isplitl [Harg14]; · iexists Y14; iexact Harg14
    isplitl [Harg15]; · iexists Y15; iexact Harg15
    isplitl [Harg16]; · iexists Y16; iexact Harg16
    isplitl [Harg17]; · iexists Y17; iexact Harg17
    iintro ⟨Harg11, Harg20, Harg13, Harg14, Harg15, Harg16, Harg17⟩
    iapply Hk
    isplitl [Harg11]; · iexact Harg11
    isplitl [Harg20]; · iexact Harg20
    isplitl [Harg13]; · iexact Harg13
    isplitl [Harg14]; · iexact Harg14
    isplitl [Harg15]; · iexact Harg15
    isplitl [Harg16]; · iexact Harg16
    iexact Harg17
  · rw [dif_neg h, if_neg h, if_neg h, if_neg h, if_neg h, if_neg h]
    iintro ⟨Harg11, Harg20, Harg13, Harg14, Harg15, Harg16, Harg17, Hk⟩
    iapply Hk
    isplitl [Harg11]; · iexact Harg11
    isplitl [Harg20]; · iexact Harg20
    isplitl [Harg13]; · iexact Harg13
    isplitl [Harg14]; · iexact Harg14
    isplitl [Harg15]; · iexact Harg15
    isplitl [Harg16]; · iexact Harg16
    iexact Harg17

/-- The second and third stretches under their conditions: one of the two runs. -/
theorem stBC (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (v6 : Elt F .i32) (X3 : Vec F S1x512x1024 .bf16) (X4 : Vec F S1x512x4096 .fp8e4m3) (X5 : Vec F S1x512x32 .f32) (X8 : Vec F S1x1024 .f32) (X9 : Vec F S1x1024 .f32) (X10 : Vec F S1x1024 .f32) (X18 : Vec F S4096x1024 .bf16) (X20 : Vec F S6x8x1024 .f32) (k : Prog (TpuEff nD τ sig (Elt F) Λ₀ .tc) PUnit) (K : PUnit → sProp 𝕄) :
    iprop(owns (c : Thread nD τ) arg3 fullShare X3 ∗ owns (c : Thread nD τ) arg4 fullShare X4 ∗ owns (c : Thread nD τ) arg5 fullShare X5 ∗ owns (c : Thread nD τ) arg8 fullShare X8 ∗ owns (c : Thread nD τ) arg9 fullShare X9 ∗ owns (c : Thread nD τ) arg10 fullShare X10 ∗ owns (c : Thread nD τ) arg18 fullShare X18 ∗ owns (c : Thread nD τ) arg20 fullShare X20 ∗ (∃ d, owns (c : Thread nD τ) arg12 fullShare d) ∗ (∃ d, owns (c : Thread nD τ) arg19 fullShare d) ∗ (iprop(owns (c : Thread nD τ) arg3 fullShare X3 ∗ owns (c : Thread nD τ) arg4 fullShare X4 ∗ owns (c : Thread nD τ) arg5 fullShare X5 ∗ owns (c : Thread nD τ) arg8 fullShare X8 ∗ owns (c : Thread nD τ) arg9 fullShare X9 ∗ owns (c : Thread nD τ) arg10 fullShare X10 ∗ owns (c : Thread nD τ) arg18 fullShare X18 ∗ owns (c : Thread nD τ) arg12 fullShare (T12 i v6 (HD X4 X5) X18 X3 X8 X9 X10) ∗ (∃ d, owns (c : Thread nD τ) arg19 fullShare d) ∗ owns (c : Thread nD τ) arg20 fullShare (M20 i v6 (HD X4 X5) X18 X3 X8 X9 X10 X20)) -∗ wp frame (wpE (defs₀ (F := F)) Variants.none (c : Thread nD τ) none) E k K))
      ⊢ wp frame (wpE (defs₀ (F := F)) Variants.none (c : Thread nD τ) none) E (if k0_h2 : k0_cond2 i v6 = 1#1 then kernB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 (if k0_h3 : k0_cond3 i v6 = 1#1 then kernC arg12 k else k) else (if k0_h3 : k0_cond3 i v6 = 1#1 then kernC arg12 k else k)) K := by
  unfold T12 M20
  by_cases h : k0_cond2 i v6 = 1#1
  · have h3 : ¬ k0_cond3 i v6 = 1#1 := fun h3 => (cond3_iff i v6).1 h3 h
    rw [dif_pos h, dif_neg h3, if_pos h, if_pos h]
    refine BIBase.Entails.trans ?_ (tripleB c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 X3 X4 X5 X8 X9 X10 X18 X20 k K)
    iintro ⟨Harg3, Harg4, Harg5, Harg8, Harg9, Harg10, Harg18, Harg20, Harg12, Harg19, Hk⟩
    isplitl [Harg3]; · iexact Harg3
    isplitl [Harg4]; · iexact Harg4
    isplitl [Harg5]; · iexact Harg5
    isplitl [Harg8]; · iexact Harg8
    isplitl [Harg9]; · iexact Harg9
    isplitl [Harg10]; · iexact Harg10
    isplitl [Harg18]; · iexact Harg18
    isplitl [Harg20]; · iexact Harg20
    isplitl [Harg12]; · iexact Harg12
    isplitl [Harg19]; · iexact Harg19
    iintro ⟨Harg3, Harg4, Harg5, Harg8, Harg9, Harg10, Harg18, Harg12, Harg19, Harg20⟩
    iapply Hk
    isplitl [Harg3]; · iexact Harg3
    isplitl [Harg4]; · iexact Harg4
    isplitl [Harg5]; · iexact Harg5
    isplitl [Harg8]; · iexact Harg8
    isplitl [Harg9]; · iexact Harg9
    isplitl [Harg10]; · iexact Harg10
    isplitl [Harg18]; · iexact Harg18
    isplitl [Harg12]; · iexact Harg12
    isplitl [Harg19]; · iexists _; iexact Harg19
    iexact Harg20
  · have h3 : k0_cond3 i v6 = 1#1 := (cond3_iff i v6).2 h
    rw [dif_neg h, dif_pos h3, if_neg h, if_neg h]
    refine BIBase.Entails.trans ?_ (tripleC c E arg12 k K)
    iintro ⟨Harg3, Harg4, Harg5, Harg8, Harg9, Harg10, Harg18, Harg20, Harg12, Harg19, Hk⟩
    isplitl [Harg12]; · iexact Harg12
    iintro Harg12
    iapply Hk
    isplitl [Harg3]; · iexact Harg3
    isplitl [Harg4]; · iexact Harg4
    isplitl [Harg5]; · iexact Harg5
    isplitl [Harg8]; · iexact Harg8
    isplitl [Harg9]; · iexact Harg9
    isplitl [Harg10]; · iexact Harg10
    isplitl [Harg18]; · iexact Harg18
    isplitl [Harg12]; · iexact Harg12
    isplitl [Harg19]; · iexact Harg19
    iexact Harg20

/-- The load of the point's length. -/
theorem stLoad (c : Dev nD) (E : Set ℕ) (i : grid0.Coords) (arg2 : Memref sig .tc .smem S6 .i32) (q : PosShare TreeShare) (X2 : Vec F S6 .i32) (rest : BitVec 32 → Prog (TpuEff nD τ sig (Elt F) Λ₀ .tc) PUnit) (K : PUnit → sProp 𝕄) :
    iprop(owns (c : Thread nD τ) arg2 q X2 ∗ (iprop(owns (c : Thread nD τ) arg2 q X2) -∗ wp frame (wpE (defs₀ (F := F)) Variants.none (c : Thread nD τ) none) E (rest (lenAt X2 i)) K))
      ⊢ wp frame (wpE (defs₀ (F := F)) Variants.none (c : Thread nD τ) none) E (smemLoad arg2 (Rect.unit (s := S6) (k0_off1 i) S1.size (k0_off1_inb i)) numel1_S1 rfl >>= fun v6 : Elt F .i32 => rest v6) K := by
  unfold owns
  iintro ⟨⟨%f2, %h2, H2⟩, Hk⟩
  subst h2
  sl_exec
  iapply Hk
  iexists f2; isplitr; · ipureintro; rfl
  iexact H2

set_option maxHeartbeats 4000000 in
/-- The whole body at a grid point, from any contents of its buffers. -/
theorem sound_kernel (c : Dev nD) (E : Set ℕ) (q : PosShare TreeShare) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (X2 : Vec F S6 .i32) (X3 : Vec F S1x512x1024 .bf16) (X4 : Vec F S1x512x4096 .fp8e4m3) (X5 : Vec F S1x512x32 .f32) (X6 : Vec F S4096x1024 .fp8e4m3) (X7 : Vec F S32x8 .f32) (X8 : Vec F S1x1024 .f32) (X9 : Vec F S1x1024 .f32) (X10 : Vec F S1x1024 .f32) (X11 : Vec F S6x1 .i32) (Y13 : Vec F S6x1024 .f32) (Y14 : Vec F S6x1024 .i8) (Y15 : Vec F S6x1 .f32) (Y16 : Vec F S6x256 .i8) (Y17 : Vec F S6x1 .f32) (Y18 : Vec F S4096x1024 .bf16) (Y20 : Vec F S6x8x1024 .f32) (K : PUnit → sProp 𝕄) :
    iprop(owns (c : Thread nD τ) arg2 q X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ (∃ d, owns (c : Thread nD τ) arg12 fullShare d) ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare Y18 ∗ (∃ d, owns (c : Thread nD τ) arg19 fullShare d) ∗ owns (c : Thread nD τ) arg20 fullShare Y20
        ∗ (iprop(owns (c : Thread nD τ) arg2 q X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare (T12 i (lenAt X2 i) (HD X4 X5) (W18 i X6 X7 Y18) X3 X8 X9 X10) ∗ owns (c : Thread nD τ) arg13 fullShare (O13 i (M20 i (lenAt X2 i) (HD X4 X5) (W18 i X6 X7 Y18) X3 X8 X9 X10 (Z20 i Y20)) X11 Y13) ∗ owns (c : Thread nD τ) arg14 fullShare (O14 i (M20 i (lenAt X2 i) (HD X4 X5) (W18 i X6 X7 Y18) X3 X8 X9 X10 (Z20 i Y20)) X11 Y14) ∗ owns (c : Thread nD τ) arg15 fullShare (O15 i (M20 i (lenAt X2 i) (HD X4 X5) (W18 i X6 X7 Y18) X3 X8 X9 X10 (Z20 i Y20)) X11 Y15) ∗ owns (c : Thread nD τ) arg16 fullShare (O16 i (M20 i (lenAt X2 i) (HD X4 X5) (W18 i X6 X7 Y18) X3 X8 X9 X10 (Z20 i Y20)) X11 Y16) ∗ owns (c : Thread nD τ) arg17 fullShare (O17 i (M20 i (lenAt X2 i) (HD X4 X5) (W18 i X6 X7 Y18) X3 X8 X9 X10 (Z20 i Y20)) X11 Y17) ∗ owns (c : Thread nD τ) arg18 fullShare (W18 i X6 X7 Y18) ∗ (∃ d, owns (c : Thread nD τ) arg19 fullShare d) ∗ owns (c : Thread nD τ) arg20 fullShare (M20 i (lenAt X2 i) (HD X4 X5) (W18 i X6 X7 Y18) X3 X8 X9 X10 (Z20 i Y20))) -∗ K ⟨⟩))
      ⊢ wp frame (wpE (defs₀ (F := F)) Variants.none (c : Thread nD τ) none) E (cc0__body_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_eq]
  dsimp only
  iintro ⟨Harg2, Harg3, Harg4, Harg5, Harg6, Harg7, Harg8, Harg9, Harg10, Harg11, Harg12, Harg13, Harg14, Harg15, Harg16, Harg17, Harg18, Harg19, Harg20, Hk⟩
  iapply (stA c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X7 Y18 Y20 _ K)
  isplitl [Harg6]; · iexact Harg6
  isplitl [Harg7]; · iexact Harg7
  isplitl [Harg18]; · iexact Harg18
  isplitl [Harg20]; · iexact Harg20
  iintro ⟨Harg6, Harg7, Harg18, Harg20⟩
  iapply (stLoad c E i arg2 q X2 _ K)
  isplitl [Harg2]; · iexact Harg2
  iintro Harg2
  iapply (stBC c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (lenAt X2 i) X3 X4 X5 X8 X9 X10 (W18 i X6 X7 Y18) (Z20 i Y20) _ K)
  isplitl [Harg3]; · iexact Harg3
  isplitl [Harg4]; · iexact Harg4
  isplitl [Harg5]; · iexact Harg5
  isplitl [Harg8]; · iexact Harg8
  isplitl [Harg9]; · iexact Harg9
  isplitl [Harg10]; · iexact Harg10
  isplitl [Harg18]; · iexact Harg18
  isplitl [Harg20]; · iexact Harg20
  isplitl [Harg12]; · iexact Harg12
  isplitl [Harg19]; · iexact Harg19
  iintro ⟨Harg3, Harg4, Harg5, Harg8, Harg9, Harg10, Harg18, Harg12, Harg19, Harg20⟩
  iapply (stD c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X11 (M20 i (lenAt X2 i) (HD X4 X5) (W18 i X6 X7 Y18) X3 X8 X9 X10 (Z20 i Y20)) Y13 Y14 Y15 Y16 Y17 _ K)
  isplitl [Harg11]; · iexact Harg11
  isplitl [Harg20]; · iexact Harg20
  isplitl [Harg13]; · iexact Harg13
  isplitl [Harg14]; · iexact Harg14
  isplitl [Harg15]; · iexact Harg15
  isplitl [Harg16]; · iexact Harg16
  isplitl [Harg17]; · iexact Harg17
  iintro ⟨Harg11, Harg20, Harg13, Harg14, Harg15, Harg16, Harg17⟩
  sl_step
  iapply Hk
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  isplitl [Harg17]; · iexact Harg17
  isplitl [Harg18]; · iexact Harg18
  isplitl [Harg19]; · iexact Harg19
  iexact Harg20

end Cert.Kernel.Hand
end
-- ==== Proof.K.Adm.lean ====
/- THE TABLE OF LENGTHS: every table is admissible (the tile fetched is always one of the sixteen), and
   which tile is fetched. -/
module

public import proofs.«01_k».proof.Proof.K.Whole
public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx
open Cert.Kernel Cert.Kernel.Gen

variable {F : FTy → Type} [FloatOps F]

local notation "𝕄" => MT nD τ sig Unit (Elt F) ℕ (UR sig nD τ) ℕ

/-- The tile fetched for tile `t` of a row of length `n`: `t`, or the last tile the row reaches into, the lesser. -/
def tileOf (n : BitVec 32) (t : ℕ) : BitVec 32 :=
  let v3 : BitVec 32 := Scalar.subi (Scalar.addi n 512#32) 1#32
  let v4 : BitVec 32 := Scalar.divsi v3 512#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt (512#32 : BitVec 32) 0#32)) (Scalar.extui (Scalar.cmpi .slt (512#32 : BitVec 32) 0#32))
  let v18 : BitVec 1 := Scalar.andi (Scalar.cmpi .ne v9 v14) (Scalar.cmpi .ne (Scalar.remsi v3 512#32) 0#32)
  let v20 : BitVec 32 := Scalar.select v18 (Scalar.subi v4 1#32) v4
  Scalar.minsi (BitVec.ofNat 32 t) (Scalar.maxsi (Scalar.subi v20 1#32) 0#32)

/-- The lesser of a tile number and something not negative is a tile number no greater. -/
theorem min_max_le (t : ℕ) (ht : t < 16) (x : BitVec 32) :
    (Scalar.minsi (BitVec.ofNat 32 t) (Scalar.maxsi x 0#32)).toNat ≤ t := by
  have e : (BitVec.ofNat 32 t).toNat = t := by rw [BitVec.toNat_ofNat]; omega
  have ei : (BitVec.ofNat 32 t).toInt = t := by rw [BitVec.toInt_eq_toNat_of_lt (by omega), e]
  show (if (BitVec.ofNat 32 t).slt (if (0#32 : BitVec 32).slt x then x else 0#32) then BitVec.ofNat 32 t else (if (0#32 : BitVec 32).slt x then x else 0#32)).toNat ≤ t
  by_cases h2 : (0#32 : BitVec 32).slt x = true
  · rw [if_pos h2]
    by_cases h1 : (BitVec.ofNat 32 t).slt x = true
    · rw [if_pos h1, e]
    · rw [if_neg h1]
      have h1 := BitVec.slt_iff_toInt_lt.not.1 h1
      have h2 := BitVec.slt_iff_toInt_lt.1 h2
      rw [ei] at h1
      have h0 : (0#32 : BitVec 32).toInt = 0 := by decide
      rw [h0] at h2
      rw [BitVec.toInt_eq_toNat_cond] at h1 h2
      split at h1 <;> omega
  · rw [if_neg h2]
    split
    · rw [e]
    · exact Nat.zero_le t

theorem tileOf_le (n : BitVec 32) (t : ℕ) (ht : t < 16) : (tileOf n t).toNat ≤ t := min_max_le t ht _

variable (pf : pre0.Contents (Elt F))

/-- The three data-dependent index maps are one: the row, the tile fetched, the first column. -/
theorem tr0_eq (i : grid0.Coords) : cc0_transform_0 k0_off1_inb numel1_S1 pf i
    = ![(BitVec.ofNat 32 (i 0).val).toNat, (tileOf (lenAt (F := F) (pf 0) i) (i 1).val).toNat, 0] := rfl
theorem tr1_eq (i : grid0.Coords) : cc0_transform_1 k0_off1_inb numel1_S1 pf i
    = ![(BitVec.ofNat 32 (i 0).val).toNat, (tileOf (lenAt (F := F) (pf 0) i) (i 1).val).toNat, 0] := rfl
theorem tr2_eq (i : grid0.Coords) : cc0_transform_2 k0_off1_inb numel1_S1 pf i
    = ![(BitVec.ofNat 32 (i 0).val).toNat, (tileOf (lenAt (F := F) (pf 0) i) (i 1).val).toNat, 0] := rfl

theorem row_lt (i : grid0.Coords) : (BitVec.ofNat 32 (i 0).val).toNat < 6 := by
  have h : (i 0).val < 6 := (i 0).isLt
  rw [BitVec.toNat_ofNat]; omega
theorem tile_lt (n : BitVec 32) (i : grid0.Coords) : (tileOf n (i 1).val).toNat < 16 :=
  Nat.lt_of_le_of_lt (tileOf_le n _ (i 1).isLt) (i 1).isLt

/-- A block at a row and a tile is inside array 0. -/
theorem blk0 (x y : ℕ) (hx : x < 6) (hy : y < 16) : ∀ a, ((![x, y, 0] : Fin 3 → ℕ) a + 1) * S1x512x1024.size a ≤ S6x8192x1024.size a := fun a =>
  match a with
  | ⟨0, _⟩ => by show (x + 1) * 1 ≤ 6; omega
  | ⟨1, _⟩ => by show (y + 1) * 512 ≤ 8192; omega
  | ⟨2, _⟩ => by show (0 + 1) * 1024 ≤ 1024; omega
/-- A block at a row and a tile is inside array 1. -/
theorem blk1 (x y : ℕ) (hx : x < 6) (hy : y < 16) : ∀ a, ((![x, y, 0] : Fin 3 → ℕ) a + 1) * S1x512x4096.size a ≤ S6x8192x4096.size a := fun a =>
  match a with
  | ⟨0, _⟩ => by show (x + 1) * 1 ≤ 6; omega
  | ⟨1, _⟩ => by show (y + 1) * 512 ≤ 8192; omega
  | ⟨2, _⟩ => by show (0 + 1) * 4096 ≤ 4096; omega
/-- A block at a row and a tile is inside array 2. -/
theorem blk2 (x y : ℕ) (hx : x < 6) (hy : y < 16) : ∀ a, ((![x, y, 0] : Fin 3 → ℕ) a + 1) * S1x512x32.size a ≤ S6x8192x32.size a := fun a =>
  match a with
  | ⟨0, _⟩ => by show (x + 1) * 1 ≤ 6; omega
  | ⟨1, _⟩ => by show (y + 1) * 512 ≤ 8192; omega
  | ⟨2, _⟩ => by show (0 + 1) * 32 ≤ 32; omega

/-- EVERY table of lengths is admissible. -/
theorem ok_all : ok0 pf := by
  unfold ok0
  refine ⟨fun i => ?_, fun i => ?_, fun i => ?_⟩
  · rw [tr0_eq]
    exact ⟨blk0 _ _ (row_lt i) (tile_lt _ i), .inr (.inl (.inr ⟨(Nat.le_succ 2 : 2 ≤ 3), rfl, .inl ⟨Dvd.dvd.mul_left (show 2 ∣ 512 by decide) _, (show 2 ∣ 512 by decide)⟩⟩))⟩
  · rw [tr1_eq]
    exact ⟨blk1 _ _ (row_lt i) (tile_lt _ i), .inr (.inl (.inr ⟨(Nat.le_succ 2 : 2 ≤ 3), rfl, .inl ⟨Dvd.dvd.mul_left (show 4 ∣ 512 by decide) _, (show 4 ∣ 512 by decide)⟩⟩))⟩
  · rw [tr2_eq]
    exact ⟨blk2 _ _ (row_lt i) (tile_lt _ i), .inl rfl⟩

end Cert.Kernel.Hand
end
-- ==== Proof.K.Dats.lean ====
/- THE PROOF DATA of the pipeline: what every buffer holds after each grid point, and the body obligation. -/
module

public import proofs.«01_k».proof.Proof.K.Adm
public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched, and the host operations' results. -/
abbrev V (c : Dev nD) (b : Ref sig .tc) : Buf (Elt F) ((c : Thread nD τ).loc b) :=
  StableHlo.after (hostOps0 (F := F)) (fun b => m (c, b)) b

/-- The table of lengths the region finds. -/
def pf : pre0.Contents (Elt F) := fun k => V m 0 (pre0.ref k)

/-- The table, admissible. -/
def adm : (p : Fin 1) → (pcfgs (F := F) p).Adm := fun _ => ⟨pf m, ok_all (pf m)⟩

/-- The pipeline at the table. -/
abbrev cf : Cfg sig Λ₀ := Pipeline.pin (pcfgs (F := F)) (adm m) 0

/-- Window `w`'s block at point `t`, read off its array as the region finds it. -/
def iblk (c : Dev nD) (w : Fin (cf m).W) (t : Fin (cf m).N) : (((cf m).win w).xblock ((cf m).grid.coords t)).Idx → Elt F ((cf m).win w).elt :=
  (((cf m).win w).blk t).view.read (Elt F) (V m c (Pipeline.arrRef spec0 w))

/-- Window 0's block at point `t`, at its own type. -/
def X3b (c : Dev nD) (t : Fin grid0.N) : Vec F S1x512x1024 .bf16 := iblk m c 0 t
/-- Window 1's block at point `t`, at its own type. -/
def X4b (c : Dev nD) (t : Fin grid0.N) : Vec F S1x512x4096 .fp8e4m3 := iblk m c 1 t
/-- Window 2's block at point `t`, at its own type. -/
def X5b (c : Dev nD) (t : Fin grid0.N) : Vec F S1x512x32 .f32 := iblk m c 2 t
/-- Window 3's block at point `t`, at its own type. -/
def X6b (c : Dev nD) (t : Fin grid0.N) : Vec F S4096x1024 .fp8e4m3 := iblk m c 3 t
/-- Window 4's block at point `t`, at its own type. -/
def X7b (c : Dev nD) (t : Fin grid0.N) : Vec F S32x8 .f32 := iblk m c 4 t
/-- Window 5's block at point `t`, at its own type. -/
def X8b (c : Dev nD) (t : Fin grid0.N) : Vec F S1x1024 .f32 := iblk m c 5 t
/-- Window 6's block at point `t`, at its own type. -/
def X9b (c : Dev nD) (t : Fin grid0.N) : Vec F S1x1024 .f32 := iblk m c 6 t
/-- Window 7's block at point `t`, at its own type. -/
def X10b (c : Dev nD) (t : Fin grid0.N) : Vec F S1x1024 .f32 := iblk m c 7 t
/-- Window 8's block at point `t`, at its own type. -/
def X11b (c : Dev nD) (t : Fin grid0.N) : Vec F S6x1 .i32 := iblk m c 8 t

/-- The table of lengths. -/
def Lb : Vec F S6 .i32 := pf m 0

/-- The dequantised weights after `n` points. -/
def wdAt (c : Dev nD) : ℕ → Vec F S4096x1024 .bf16
  | 0 => WD (X6b m c ⟨0, by decide⟩) (X7b m c ⟨0, by decide⟩)
  | n + 1 => if h : n < grid0.N then W18 (grid0.coords ⟨n, h⟩) (X6b m c ⟨n, h⟩) (X7b m c ⟨n, h⟩) (wdAt c n) else wdAt c n

/-- The running sums after point `t`, from those it finds and the weights it leaves. -/
def accStep (c : Dev nD) (t : Fin grid0.N) (w : Vec F S4096x1024 .bf16) (a : Vec F S6x8x1024 .f32) : Vec F S6x8x1024 .f32 :=
  M20 (grid0.coords t) (lenAt (Lb m) (grid0.coords t)) (HD (X4b m c t) (X5b m c t)) w (X3b m c t) (X8b m c t) (X9b m c t) (X10b m c t) (Z20 (grid0.coords t) a)

/-- The running sums after `n` points. -/
def accAt (c : Dev nD) : ℕ → Vec F S6x8x1024 .f32
  | 0 => k0_pay1
  | n + 1 => if h : n < grid0.N then accStep m c ⟨n, h⟩ (wdAt m c (n + 1)) (accAt c n) else accAt c n

theorem wdAt_succ (c : Dev nD) (t : Fin grid0.N) :
    wdAt m c (t.val + 1) = W18 (grid0.coords t) (X6b m c t) (X7b m c t) (wdAt m c t.val) := dif_pos t.isLt
theorem accAt_succ (c : Dev nD) (t : Fin grid0.N) :
    accAt m c (t.val + 1) = accStep m c t (wdAt m c (t.val + 1)) (accAt m c t.val) := dif_pos t.isLt

/-- The output tile of point `t`. -/
@[irreducible] def tile (c : Dev nD) (t : Fin grid0.N) : Vec F S1x512x1024 .f32 :=
  T12 (grid0.coords t) (lenAt (Lb m) (grid0.coords t)) (HD (X4b m c t) (X5b m c t)) (wdAt m c (t.val + 1)) (X3b m c t) (X8b m c t) (X9b m c t) (X10b m c t)

/-- The first condition holds at the first point alone. -/
theorem cond1_iff : ∀ t : Fin grid0.N, k0_cond1 (grid0.coords t) = 1#1 ↔ t.val = 0 := by decide +kernel
/-- The last condition holds at the last point alone. -/
theorem cond4_iff : ∀ t : Fin grid0.N, k0_cond4 (grid0.coords t) = 1#1 ↔ t.val + 1 = grid0.N := by decide +kernel

/-- At the first point what the weights' scratch held does not matter. -/
theorem W18_any (t : Fin grid0.N) (X6 : Vec F S4096x1024 .fp8e4m3) (X7 : Vec F S32x8 .f32) (Y Y' : Vec F S4096x1024 .bf16) (h : t.val ≠ 0 → Y = Y') :
    W18 (grid0.coords t) X6 X7 Y = W18 (grid0.coords t) X6 X7 Y' := by
  by_cases h0 : t.val = 0
  · unfold W18; rw [if_pos ((cond1_iff t).2 h0), if_pos ((cond1_iff t).2 h0)]
  · rw [h h0]
/-- At the first point what the running sums held does not matter. -/
theorem Z20_any (t : Fin grid0.N) (Y Y' : Vec F S6x8x1024 .f32) (h : t.val ≠ 0 → Y = Y') :
    Z20 (grid0.coords t) Y = Z20 (grid0.coords t) Y' := by
  by_cases h0 : t.val = 0
  · unfold Z20; rw [if_pos ((cond1_iff t).2 h0), if_pos ((cond1_iff t).2 h0)]
  · rw [h h0]

/-- The invariant between points: half of the table, the generator register, the weights' scratch and the
    running sums at what the points so far left (anything before the first), the token scratch at anything. -/
@[irreducible] def Φn (c : Dev nD) (n : ℕ) : sProp 𝕄 :=
  iprop(((c : Thread nD τ).loc main_arg8 ↦{fullShare.right} Lb m) ∗ (∃ r, prngReg c r)
    ∗ (∃ (Y18 : Vec F S4096x1024 .bf16) (Y20 : Vec F S6x8x1024 .f32), ⌜n ≠ 0 → Y18 = wdAt m c n ∧ Y20 = accAt m c n⌝
        ∗ ((c : Thread nD τ).loc cc0_scratch0 ↦{fullShare} Y18) ∗ ((c : Thread nD τ).loc cc0_scratch2 ↦{fullShare} Y20))
    ∗ (∃ f : Buf (Elt F) ((c : Thread nD τ).loc cc0_scratch1), ((c : Thread nD τ).loc cc0_scratch1 ↦{fullShare} f)))

/-- The proof data of the pipeline on core `c`. -/
def dats (p : Fin 1) (c : Dev nD) : Dat τ (Elt F) Unit ℕ (UR sig nD τ) ℕ (Pipeline.pin (pcfgs (F := F)) (adm m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => tile m c t
    | ⟨10, _⟩ => k0_pay60 (accAt m c (t.val + 1)) (X11b m c t)
    | ⟨11, _⟩ => k0_pay63 (accAt m c (t.val + 1)) (X11b m c t)
    | ⟨12, _⟩ => k0_pay62 (accAt m c (t.val + 1)) (X11b m c t)
    | ⟨13, _⟩ => k0_pay9 (k0_pay64 (accAt m c (t.val + 1)) (X11b m c t)) (k0_pay65 (accAt m c (t.val + 1)) (X11b m c t))
    | ⟨14, _⟩ => k0_pay8 (k0_pay64 (accAt m c (t.val + 1)) (X11b m c t)) (k0_pay65 (accAt m c (t.val + 1)) (X11b m c t))
  Φ n := Φn m c n.val
  q _ := fullShare
  owed _ := 0

theorem A_eq (c : Dev nD) (w : Fin (cf m).W) : (dats m 0 c).A w = V m c (Pipeline.arrRef spec0 w) := by
  dsimp only [dats]

theorem after_0 (c : Dev nD) (t : Fin (cf m).N) : (dats m 0 c).after 0 t = iblk m c 0 t := (rfl)
theorem after_1 (c : Dev nD) (t : Fin (cf m).N) : (dats m 0 c).after 1 t = iblk m c 1 t := (rfl)
theorem after_2 (c : Dev nD) (t : Fin (cf m).N) : (dats m 0 c).after 2 t = iblk m c 2 t := (rfl)
theorem after_3 (c : Dev nD) (t : Fin (cf m).N) : (dats m 0 c).after 3 t = iblk m c 3 t := (rfl)
theorem after_4 (c : Dev nD) (t : Fin (cf m).N) : (dats m 0 c).after 4 t = iblk m c 4 t := (rfl)
theorem after_5 (c : Dev nD) (t : Fin (cf m).N) : (dats m 0 c).after 5 t = iblk m c 5 t := (rfl)
theorem after_6 (c : Dev nD) (t : Fin (cf m).N) : (dats m 0 c).after 6 t = iblk m c 6 t := (rfl)
theorem after_7 (c : Dev nD) (t : Fin (cf m).N) : (dats m 0 c).after 7 t = iblk m c 7 t := (rfl)
theorem after_8 (c : Dev nD) (t : Fin (cf m).N) : (dats m 0 c).after 8 t = iblk m c 8 t := (rfl)
theorem after_9 (c : Dev nD) (t : Fin (cf m).N) : (dats m 0 c).after 9 t = tile m c t := (rfl)
theorem after_10 (c : Dev nD) (t : Fin (cf m).N) : (dats m 0 c).after 10 t = k0_pay60 (accAt m c (t.val + 1)) (X11b m c t) := (rfl)
theorem after_11 (c : Dev nD) (t : Fin (cf m).N) : (dats m 0 c).after 11 t = k0_pay63 (accAt m c (t.val + 1)) (X11b m c t) := (rfl)
theorem after_12 (c : Dev nD) (t : Fin (cf m).N) : (dats m 0 c).after 12 t = k0_pay62 (accAt m c (t.val + 1)) (X11b m c t) := (rfl)
theorem after_13 (c : Dev nD) (t : Fin (cf m).N) : (dats m 0 c).after 13 t = k0_pay9 (k0_pay64 (accAt m c (t.val + 1)) (X11b m c t)) (k0_pay65 (accAt m c (t.val + 1)) (X11b m c t)) := (rfl)
theorem after_14 (c : Dev nD) (t : Fin (cf m).N) : (dats m 0 c).after 14 t = k0_pay8 (k0_pay64 (accAt m c (t.val + 1)) (X11b m c t)) (k0_pay65 (accAt m c (t.val + 1)) (X11b m c t)) := (rfl)

/-! Each input window holds its block at every point. -/
theorem before_0 (c : Dev nD) (t : Fin (cf m).N) (d) : (dats m 0 c).before 0 t d = X3b m c t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf X3b iblk; rw [A_eq]; try rfl)
theorem before_1 (c : Dev nD) (t : Fin (cf m).N) (d) : (dats m 0 c).before 1 t d = X4b m c t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf X4b iblk; rw [A_eq]; try rfl)
theorem before_2 (c : Dev nD) (t : Fin (cf m).N) (d) : (dats m 0 c).before 2 t d = X5b m c t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf X5b iblk; rw [A_eq]; try rfl)
theorem before_3 (c : Dev nD) (t : Fin (cf m).N) (d) : (dats m 0 c).before 3 t d = X6b m c t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf X6b iblk; rw [A_eq]; try rfl)
theorem before_4 (c : Dev nD) (t : Fin (cf m).N) (d) : (dats m 0 c).before 4 t d = X7b m c t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf X7b iblk; rw [A_eq]; try rfl)
theorem before_5 (c : Dev nD) (t : Fin (cf m).N) (d) : (dats m 0 c).before 5 t d = X8b m c t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf X8b iblk; rw [A_eq]; try rfl)
theorem before_6 (c : Dev nD) (t : Fin (cf m).N) (d) : (dats m 0 c).before 6 t d = X9b m c t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf X9b iblk; rw [A_eq]; try rfl)
theorem before_7 (c : Dev nD) (t : Fin (cf m).N) (d) : (dats m 0 c).before 7 t d = X10b m c t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf X10b iblk; rw [A_eq]; try rfl)
theorem before_8 (c : Dev nD) (t : Fin (cf m).N) (d) : (dats m 0 c).before 8 t d = X11b m c t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf X11b iblk; rw [A_eq]; try rfl)

end Cert.Kernel.Hand
end
-- ==== Proof.K.Oblig.lean ====
/- THE BODY OBLIGATION: at every grid point the body takes the buffers from what the proof data says before
   the point to what it says after it; and the launch. -/
module

public import proofs.«01_k».proof.Proof.K.Dats
public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.StableHlo.RunRead
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging memref of window `w` at point `t`. -/
abbrev st (w : Fin (cf m).W) (t : Fin (cf m).N) := ((cf m).win w).stage ((cf m).slots t w)

/-- Window 10 is written back at the last point alone. -/
theorem flush_10 (t : Fin (cf m).N) : ((cf m).win 10).flush t = decide (t.val + 1 = grid0.N) := by
  unfold Window.flush
  have h : ¬ ∃ h : t.val + 1 < (cf m).grid.N, ((cf m).win 10).index ⟨t.val + 1, h⟩ ≠ ((cf m).win 10).index t := fun ⟨_, h⟩ => h rfl
  rw [decide_eq_false h, Bool.or_false]
  rfl
/-- What the body leaves in window 10's buffer is what is asked of it. -/
theorem leave_10 (c : Dev nD) (t : Fin grid0.N) (d) :
    owns (c : Thread nD τ) (st m 10 t) fullShare (O13 (grid0.coords t) (accAt m c (t.val + 1)) (X11b m c t) ((dats m 0 c).before 10 t d))
    ⊢ (match (cf m).idle 10 (grid0.coords t) with
        | true => match ((cf m).win 10).flush t with
          | false => iprop(∃ d, owns (c : Thread nD τ) (st m 10 t) fullShare ((dats m 0 c).before 10 t d))
          | true => owns (c : Thread nD τ) (st m 10 t) fullShare ((dats m 0 c).after 10 t)
        | false => owns (c : Thread nD τ) (st m 10 t) fullShare ((dats m 0 c).after 10 t) : sProp 𝕄) := by
  rw [show (cf m).idle 10 (grid0.coords t) = !(k0_cond4 (grid0.coords t) == 1#1) from rfl, flush_10, after_10]
  by_cases h : k0_cond4 (grid0.coords t) = 1#1
  · have e : O13 (grid0.coords t) (accAt m c (t.val + 1)) (X11b m c t) ((dats m 0 c).before 10 t d) = _ := if_pos h
    refine (Entails.of_eq (congrArg (fun Z => owns (c : Thread nD τ) (st m 10 t) fullShare Z) e)).trans ?_
    rw [beq_iff_eq.2 h]
    exact .rfl
  · have e : O13 (grid0.coords t) (accAt m c (t.val + 1)) (X11b m c t) ((dats m 0 c).before 10 t d) = _ := if_neg h
    refine (Entails.of_eq (congrArg (fun Z => owns (c : Thread nD τ) (st m 10 t) fullShare Z) e)).trans ?_
    rw [beq_eq_false_iff_ne.2 h, decide_eq_false (mt (cond4_iff t).2 h)]
    show _ ⊢ iprop(∃ d, owns (c : Thread nD τ) (st m 10 t) fullShare ((dats m 0 c).before 10 t d))
    iintro H; iexists d; iexact H
/-- Window 11 is written back at the last point alone. -/
theorem flush_11 (t : Fin (cf m).N) : ((cf m).win 11).flush t = decide (t.val + 1 = grid0.N) := by
  unfold Window.flush
  have h : ¬ ∃ h : t.val + 1 < (cf m).grid.N, ((cf m).win 11).index ⟨t.val + 1, h⟩ ≠ ((cf m).win 11).index t := fun ⟨_, h⟩ => h rfl
  rw [decide_eq_false h, Bool.or_false]
  rfl
/-- What the body leaves in window 11's buffer is what is asked of it. -/
theorem leave_11 (c : Dev nD) (t : Fin grid0.N) (d) :
    owns (c : Thread nD τ) (st m 11 t) fullShare (O14 (grid0.coords t) (accAt m c (t.val + 1)) (X11b m c t) ((dats m 0 c).before 11 t d))
    ⊢ (match (cf m).idle 11 (grid0.coords t) with
        | true => match ((cf m).win 11).flush t with
          | false => iprop(∃ d, owns (c : Thread nD τ) (st m 11 t) fullShare ((dats m 0 c).before 11 t d))
          | true => owns (c : Thread nD τ) (st m 11 t) fullShare ((dats m 0 c).after 11 t)
        | false => owns (c : Thread nD τ) (st m 11 t) fullShare ((dats m 0 c).after 11 t) : sProp 𝕄) := by
  rw [show (cf m).idle 11 (grid0.coords t) = !(k0_cond4 (grid0.coords t) == 1#1) from rfl, flush_11, after_11]
  by_cases h : k0_cond4 (grid0.coords t) = 1#1
  · have e : O14 (grid0.coords t) (accAt m c (t.val + 1)) (X11b m c t) ((dats m 0 c).before 11 t d) = _ := if_pos h
    refine (Entails.of_eq (congrArg (fun Z => owns (c : Thread nD τ) (st m 11 t) fullShare Z) e)).trans ?_
    rw [beq_iff_eq.2 h]
    exact .rfl
  · have e : O14 (grid0.coords t) (accAt m c (t.val + 1)) (X11b m c t) ((dats m 0 c).before 11 t d) = _ := if_neg h
    refine (Entails.of_eq (congrArg (fun Z => owns (c : Thread nD τ) (st m 11 t) fullShare Z) e)).trans ?_
    rw [beq_eq_false_iff_ne.2 h, decide_eq_false (mt (cond4_iff t).2 h)]
    show _ ⊢ iprop(∃ d, owns (c : Thread nD τ) (st m 11 t) fullShare ((dats m 0 c).before 11 t d))
    iintro H; iexists d; iexact H
/-- Window 12 is written back at the last point alone. -/
theorem flush_12 (t : Fin (cf m).N) : ((cf m).win 12).flush t = decide (t.val + 1 = grid0.N) := by
  unfold Window.flush
  have h : ¬ ∃ h : t.val + 1 < (cf m).grid.N, ((cf m).win 12).index ⟨t.val + 1, h⟩ ≠ ((cf m).win 12).index t := fun ⟨_, h⟩ => h rfl
  rw [decide_eq_false h, Bool.or_false]
  rfl
/-- What the body leaves in window 12's buffer is what is asked of it. -/
theorem leave_12 (c : Dev nD) (t : Fin grid0.N) (d) :
    owns (c : Thread nD τ) (st m 12 t) fullShare (O15 (grid0.coords t) (accAt m c (t.val + 1)) (X11b m c t) ((dats m 0 c).before 12 t d))
    ⊢ (match (cf m).idle 12 (grid0.coords t) with
        | true => match ((cf m).win 12).flush t with
          | false => iprop(∃ d, owns (c : Thread nD τ) (st m 12 t) fullShare ((dats m 0 c).before 12 t d))
          | true => owns (c : Thread nD τ) (st m 12 t) fullShare ((dats m 0 c).after 12 t)
        | false => owns (c : Thread nD τ) (st m 12 t) fullShare ((dats m 0 c).after 12 t) : sProp 𝕄) := by
  rw [show (cf m).idle 12 (grid0.coords t) = !(k0_cond4 (grid0.coords t) == 1#1) from rfl, flush_12, after_12]
  by_cases h : k0_cond4 (grid0.coords t) = 1#1
  · have e : O15 (grid0.coords t) (accAt m c (t.val + 1)) (X11b m c t) ((dats m 0 c).before 12 t d) = _ := if_pos h
    refine (Entails.of_eq (congrArg (fun Z => owns (c : Thread nD τ) (st m 12 t) fullShare Z) e)).trans ?_
    rw [beq_iff_eq.2 h]
    exact .rfl
  · have e : O15 (grid0.coords t) (accAt m c (t.val + 1)) (X11b m c t) ((dats m 0 c).before 12 t d) = _ := if_neg h
    refine (Entails.of_eq (congrArg (fun Z => owns (c : Thread nD τ) (st m 12 t) fullShare Z) e)).trans ?_
    rw [beq_eq_false_iff_ne.2 h, decide_eq_false (mt (cond4_iff t).2 h)]
    show _ ⊢ iprop(∃ d, owns (c : Thread nD τ) (st m 12 t) fullShare ((dats m 0 c).before 12 t d))
    iintro H; iexists d; iexact H
/-- Window 13 is written back at the last point alone. -/
theorem flush_13 (t : Fin (cf m).N) : ((cf m).win 13).flush t = decide (t.val + 1 = grid0.N) := by
  unfold Window.flush
  have h : ¬ ∃ h : t.val + 1 < (cf m).grid.N, ((cf m).win 13).index ⟨t.val + 1, h⟩ ≠ ((cf m).win 13).index t := fun ⟨_, h⟩ => h rfl
  rw [decide_eq_false h, Bool.or_false]
  rfl
/-- What the body leaves in window 13's buffer is what is asked of it. -/
theorem leave_13 (c : Dev nD) (t : Fin grid0.N) (d) :
    owns (c : Thread nD τ) (st m 13 t) fullShare (O16 (grid0.coords t) (accAt m c (t.val + 1)) (X11b m c t) ((dats m 0 c).before 13 t d))
    ⊢ (match (cf m).idle 13 (grid0.coords t) with
        | true => match ((cf m).win 13).flush t with
          | false => iprop(∃ d, owns (c : Thread nD τ) (st m 13 t) fullShare ((dats m 0 c).before 13 t d))
          | true => owns (c : Thread nD τ) (st m 13 t) fullShare ((dats m 0 c).after 13 t)
        | false => owns (c : Thread nD τ) (st m 13 t) fullShare ((dats m 0 c).after 13 t) : sProp 𝕄) := by
  rw [show (cf m).idle 13 (grid0.coords t) = !(k0_cond4 (grid0.coords t) == 1#1) from rfl, flush_13, after_13]
  by_cases h : k0_cond4 (grid0.coords t) = 1#1
  · have e : O16 (grid0.coords t) (accAt m c (t.val + 1)) (X11b m c t) ((dats m 0 c).before 13 t d) = _ := if_pos h
    refine (Entails.of_eq (congrArg (fun Z => owns (c : Thread nD τ) (st m 13 t) fullShare Z) e)).trans ?_
    rw [beq_iff_eq.2 h]
    exact .rfl
  · have e : O16 (grid0.coords t) (accAt m c (t.val + 1)) (X11b m c t) ((dats m 0 c).before 13 t d) = _ := if_neg h
    refine (Entails.of_eq (congrArg (fun Z => owns (c : Thread nD τ) (st m 13 t) fullShare Z) e)).trans ?_
    rw [beq_eq_false_iff_ne.2 h, decide_eq_false (mt (cond4_iff t).2 h)]
    show _ ⊢ iprop(∃ d, owns (c : Thread nD τ) (st m 13 t) fullShare ((dats m 0 c).before 13 t d))
    iintro H; iexists d; iexact H
/-- Window 14 is written back at the last point alone. -/
theorem flush_14 (t : Fin (cf m).N) : ((cf m).win 14).flush t = decide (t.val + 1 = grid0.N) := by
  unfold Window.flush
  have h : ¬ ∃ h : t.val + 1 < (cf m).grid.N, ((cf m).win 14).index ⟨t.val + 1, h⟩ ≠ ((cf m).win 14).index t := fun ⟨_, h⟩ => h rfl
  rw [decide_eq_false h, Bool.or_false]
  rfl
/-- What the body leaves in window 14's buffer is what is asked of it. -/
theorem leave_14 (c : Dev nD) (t : Fin grid0.N) (d) :
    owns (c : Thread nD τ) (st m 14 t) fullShare (O17 (grid0.coords t) (accAt m c (t.val + 1)) (X11b m c t) ((dats m 0 c).before 14 t d))
    ⊢ (match (cf m).idle 14 (grid0.coords t) with
        | true => match ((cf m).win 14).flush t with
          | false => iprop(∃ d, owns (c : Thread nD τ) (st m 14 t) fullShare ((dats m 0 c).before 14 t d))
          | true => owns (c : Thread nD τ) (st m 14 t) fullShare ((dats m 0 c).after 14 t)
        | false => owns (c : Thread nD τ) (st m 14 t) fullShare ((dats m 0 c).after 14 t) : sProp 𝕄) := by
  rw [show (cf m).idle 14 (grid0.coords t) = !(k0_cond4 (grid0.coords t) == 1#1) from rfl, flush_14, after_14]
  by_cases h : k0_cond4 (grid0.coords t) = 1#1
  · have e : O17 (grid0.coords t) (accAt m c (t.val + 1)) (X11b m c t) ((dats m 0 c).before 14 t d) = _ := if_pos h
    refine (Entails.of_eq (congrArg (fun Z => owns (c : Thread nD τ) (st m 14 t) fullShare Z) e)).trans ?_
    rw [beq_iff_eq.2 h]
    exact .rfl
  · have e : O17 (grid0.coords t) (accAt m c (t.val + 1)) (X11b m c t) ((dats m 0 c).before 14 t d) = _ := if_neg h
    refine (Entails.of_eq (congrArg (fun Z => owns (c : Thread nD τ) (st m 14 t) fullShare Z) e)).trans ?_
    rw [beq_eq_false_iff_ne.2 h, decide_eq_false (mt (cond4_iff t).2 h)]
    show _ ⊢ iprop(∃ d, owns (c : Thread nD τ) (st m 14 t) fullShare ((dats m 0 c).before 14 t d))
    iintro H; iexists d; iexact H

/-- The table's row of the tables held. -/
theorem ΦT_eq (v : pre0.Contents (Elt F)) (c : Dev nD) : (Pipeline.ΦT pre0 v c : sProp 𝕄) = ((c : Thread nD τ).loc main_arg8 ↦{fullShare.right} v 0) := by
  unfold Pipeline.ΦT Pipeline.prefHeld
  exact bigSep_univ_eq_bigSepL [(0 : Fin 1)] (by decide) (by decide) _

theorem idle_9_aux (i : grid0.Coords) (v : BitVec 32) : (!(k0_cond2 i v == 1#1) && !(k0_cond3 i v == 1#1)) = false := by
  by_cases h : k0_cond2 i v = 1#1
  · rw [beq_iff_eq.2 h]; rfl
  · rw [beq_iff_eq.2 ((cond3_iff _ v).2 h), Bool.not_true, Bool.and_false]
/-- The condition under which window 9 would be left alone never holds. -/
theorem idle_9 (t : Fin (cf m).N) : (cf m).idle 9 ((cf m).grid.coords t) = false := by
  exact idle_9_aux _ _

/-- What the body is called with at point `t`. -/
def bodyPre (c : Dev nD) (t : Fin (cf m).N) : sProp 𝕄 :=
  iprop((dats m 0 c).Φ t.castSucc ∗ (dats m 0 c).owesAt () t.castSucc
    ∗ (∃ d, owns (c : Thread nD τ) (st m 0 t) fullShare ((dats m 0 c).before 0 t d))
    ∗ (∃ d, owns (c : Thread nD τ) (st m 1 t) fullShare ((dats m 0 c).before 1 t d))
    ∗ (∃ d, owns (c : Thread nD τ) (st m 2 t) fullShare ((dats m 0 c).before 2 t d))
    ∗ (∃ d, owns (c : Thread nD τ) (st m 3 t) fullShare ((dats m 0 c).before 3 t d))
    ∗ (∃ d, owns (c : Thread nD τ) (st m 4 t) fullShare ((dats m 0 c).before 4 t d))
    ∗ (∃ d, owns (c : Thread nD τ) (st m 5 t) fullShare ((dats m 0 c).before 5 t d))
    ∗ (∃ d, owns (c : Thread nD τ) (st m 6 t) fullShare ((dats m 0 c).before 6 t d))
    ∗ (∃ d, owns (c : Thread nD τ) (st m 7 t) fullShare ((dats m 0 c).before 7 t d))
    ∗ (∃ d, owns (c : Thread nD τ) (st m 8 t) fullShare ((dats m 0 c).before 8 t d))
    ∗ (∃ d, owns (c : Thread nD τ) (st m 9 t) fullShare ((dats m 0 c).before 9 t d))
    ∗ (∃ d, owns (c : Thread nD τ) (st m 10 t) fullShare ((dats m 0 c).before 10 t d))
    ∗ (∃ d, owns (c : Thread nD τ) (st m 11 t) fullShare ((dats m 0 c).before 11 t d))
    ∗ (∃ d, owns (c : Thread nD τ) (st m 12 t) fullShare ((dats m 0 c).before 12 t d))
    ∗ (∃ d, owns (c : Thread nD τ) (st m 13 t) fullShare ((dats m 0 c).before 13 t d))
    ∗ (∃ d, owns (c : Thread nD τ) (st m 14 t) fullShare ((dats m 0 c).before 14 t d)))

/-- The kernel's body at point `t`, on the current staging buffers. -/
abbrev bodyAt (t : Fin (cf m).N) : Prog (TpuEff nD τ sig (Elt F) Λ₀ .tc) PUnit :=
  defs₀ (F := F) .tc (cf m).body ((cf m).bodyArgs t ((cf m).slots t))

/-- What the body leaves at point `t`. -/
def bodyPost (c : Dev nD) (t : Fin (cf m).N) : sProp 𝕄 :=
  iprop((dats m 0 c).Φ t.succ ∗ (dats m 0 c).owesAt () t.succ
    ∗ owns (c : Thread nD τ) (st m 0 t) fullShare ((dats m 0 c).after 0 t)
    ∗ owns (c : Thread nD τ) (st m 1 t) fullShare ((dats m 0 c).after 1 t)
    ∗ owns (c : Thread nD τ) (st m 2 t) fullShare ((dats m 0 c).after 2 t)
    ∗ owns (c : Thread nD τ) (st m 3 t) fullShare ((dats m 0 c).after 3 t)
    ∗ owns (c : Thread nD τ) (st m 4 t) fullShare ((dats m 0 c).after 4 t)
    ∗ owns (c : Thread nD τ) (st m 5 t) fullShare ((dats m 0 c).after 5 t)
    ∗ owns (c : Thread nD τ) (st m 6 t) fullShare ((dats m 0 c).after 6 t)
    ∗ owns (c : Thread nD τ) (st m 7 t) fullShare ((dats m 0 c).after 7 t)
    ∗ owns (c : Thread nD τ) (st m 8 t) fullShare ((dats m 0 c).after 8 t)
    ∗ owns (c : Thread nD τ) (st m 9 t) fullShare ((dats m 0 c).after 9 t)
    ∗ (match (cf m).idle 10 (grid0.coords t) with
        | true => match ((cf m).win 10).flush t with
          | false => iprop(∃ d, owns (c : Thread nD τ) (st m 10 t) fullShare ((dats m 0 c).before 10 t d))
          | true => owns (c : Thread nD τ) (st m 10 t) fullShare ((dats m 0 c).after 10 t)
        | false => owns (c : Thread nD τ) (st m 10 t) fullShare ((dats m 0 c).after 10 t))
    ∗ (match (cf m).idle 11 (grid0.coords t) with
        | true => match ((cf m).win 11).flush t with
          | false => iprop(∃ d, owns (c : Thread nD τ) (st m 11 t) fullShare ((dats m 0 c).before 11 t d))
          | true => owns (c : Thread nD τ) (st m 11 t) fullShare ((dats m 0 c).after 11 t)
        | false => owns (c : Thread nD τ) (st m 11 t) fullShare ((dats m 0 c).after 11 t))
    ∗ (match (cf m).idle 12 (grid0.coords t) with
        | true => match ((cf m).win 12).flush t with
          | false => iprop(∃ d, owns (c : Thread nD τ) (st m 12 t) fullShare ((dats m 0 c).before 12 t d))
          | true => owns (c : Thread nD τ) (st m 12 t) fullShare ((dats m 0 c).after 12 t)
        | false => owns (c : Thread nD τ) (st m 12 t) fullShare ((dats m 0 c).after 12 t))
    ∗ (match (cf m).idle 13 (grid0.coords t) with
        | true => match ((cf m).win 13).flush t with
          | false => iprop(∃ d, owns (c : Thread nD τ) (st m 13 t) fullShare ((dats m 0 c).before 13 t d))
          | true => owns (c : Thread nD τ) (st m 13 t) fullShare ((dats m 0 c).after 13 t)
        | false => owns (c : Thread nD τ) (st m 13 t) fullShare ((dats m 0 c).after 13 t))
    ∗ (match (cf m).idle 14 (grid0.coords t) with
        | true => match ((cf m).win 14).flush t with
          | false => iprop(∃ d, owns (c : Thread nD τ) (st m 14 t) fullShare ((dats m 0 c).before 14 t d))
          | true => owns (c : Thread nD τ) (st m 14 t) fullShare ((dats m 0 c).after 14 t)
        | false => owns (c : Thread nD τ) (st m 14 t) fullShare ((dats m 0 c).after 14 t)))

/-- The row of the body table at point `t` is the body on the current staging buffers and the scratch. -/
theorem bodyAt_eq (t : Fin (cf m).N) : bodyAt (F := F) m t = cc0__body_skel (grid0.coords t) (Memref.whole main_arg8) (Memref.isWhole_whole _) (st m 0 t) (hstage0_0 (((cf m).slots t 0).cast nbuf0_0)) (st m 1 t) (hstage0_1 (((cf m).slots t 1).cast nbuf0_1)) (st m 2 t) (hstage0_2 (((cf m).slots t 2).cast nbuf0_2)) (st m 3 t) (hstage0_3 (((cf m).slots t 3).cast nbuf0_3)) (st m 4 t) (hstage0_4 (((cf m).slots t 4).cast nbuf0_4)) (st m 5 t) (hstage0_5 (((cf m).slots t 5).cast nbuf0_5)) (st m 6 t) (hstage0_6 (((cf m).slots t 6).cast nbuf0_6)) (st m 7 t) (hstage0_7 (((cf m).slots t 7).cast nbuf0_7)) (st m 8 t) (hstage0_8 (((cf m).slots t 8).cast nbuf0_8)) (st m 9 t) (hstage0_9 (((cf m).slots t 9).cast nbuf0_9)) (st m 10 t) (hstage0_10 (((cf m).slots t 10).cast nbuf0_10)) (st m 11 t) (hstage0_11 (((cf m).slots t 11).cast nbuf0_11)) (st m 12 t) (hstage0_12 (((cf m).slots t 12).cast nbuf0_12)) (st m 13 t) (hstage0_13 (((cf m).slots t 13).cast nbuf0_13)) (st m 14 t) (hstage0_14 (((cf m).slots t 14).cast nbuf0_14)) (Memref.whole cc0_scratch0) (Memref.isWhole_whole _) (Memref.whole cc0_scratch1) (Memref.isWhole_whole _) (Memref.whole cc0_scratch2) (Memref.isWhole_whole _) := by
  unfold bodyAt defs₀; rw [Defs.onTc_tc]
  rw [← cc0__body_eq_skeleton (F := F)]
  rfl

theorem Φ_at (c : Dev nD) (n : Fin ((cf m).N + 1)) : (dats m 0 c).Φ n = Φn m c n.val := (rfl)

/-- The body at any point. -/
theorem sound_body (c : Dev nD) (t : Fin (cf m).N) :
    bodyPre m c t ⊢ wp frame (wpE (defs₀ (F := F)) Variants.none c none) Set.univ (bodyAt m t) (fun _ => bodyPost m c t) := by
  rw [bodyAt_eq]
  unfold bodyPre bodyPost
  simp only [before_0, before_1, before_2, before_3, before_4, before_5, before_6, before_7, before_8]
  rw [Φ_at, Φ_at, Fin.val_succ, Fin.val_castSucc,
    show (dats m 0 c).owesAt () t.succ = (dats m 0 c).owesAt () t.castSucc from rfl,
    after_0, after_1, after_2, after_3, after_4, after_5, after_6, after_7, after_8, after_9]
  unfold Φn tile
  iintro ⟨⟨HT, Hr, ⟨%Y18, %Y20, %hY, HS, HA⟩, ⟨%f19, HB⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have h18 := W18_any t (X6b m c t) (X7b m c t) Y18 (wdAt m c t.val) (fun h => (hY h).1)
  have h20 := Z20_any t Y20 (accAt m c t.val) (fun h => (hY h).2)
  ihave HT := (Entails.of_eq (owns_whole (c : Thread nD τ) main_arg8 fullShare.right (Lb m)).symm) $$ HT
  ihave HS := (Entails.of_eq (owns_whole (c : Thread nD τ) cc0_scratch0 fullShare Y18).symm) $$ HS
  ihave HB := (Entails.of_eq (owns_whole (c : Thread nD τ) cc0_scratch1 fullShare f19).symm) $$ HB
  ihave HA := (Entails.of_eq (owns_whole (c : Thread nD τ) cc0_scratch2 fullShare Y20).symm) $$ HA
  iapply (sound_kernel c Set.univ fullShare.right (grid0.coords t) _ _ _ _ _ _ _ _ _ _ _ _ _ _ _ _ _ _ _ _ _ _ _ _ _ _ _ _ _ _ _ _ _ _ _ _ _ _ (Lb m) (X3b m c t) (X4b m c t) (X5b m c t) (X6b m c t) (X7b m c t) (X8b m c t) (X9b m c t) (X10b m c t) (X11b m c t) ((dats m 0 c).before 10 t d10) ((dats m 0 c).before 11 t d11) ((dats m 0 c).before 12 t d12) ((dats m 0 c).before 13 t d13) ((dats m 0 c).before 14 t d14) Y18 Y20 _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [H13]; · iexact H13
  isplitl [H14]; · iexact H14
  isplitl [HS]; · iexact HS
  isplitl [HB]; · iexists f19; iexact HB
  isplitl [HA]; · iexact HA
  have hM : M20 (grid0.coords t) (lenAt (Lb m) (grid0.coords t)) (HD (X4b m c t) (X5b m c t)) (wdAt m c (t.val + 1)) (X3b m c t) (X8b m c t) (X9b m c t) (X10b m c t) (Z20 (grid0.coords t) (accAt m c t.val)) = accAt m c (t.val + 1) := (accAt_succ m c t).symm
  rw [h18, h20, ← wdAt_succ, hM]
  iintro ⟨HT, H0, H1, H2, H3, H4, H5, H6, H7, H8, H9, H10, H11, H12, H13, H14, HS, ⟨%g19, HB⟩, HA⟩
  ihave HT := (Entails.of_eq (owns_whole (c : Thread nD τ) main_arg8 fullShare.right (Lb m))) $$ HT
  ihave HS := (Entails.of_eq (owns_whole (c : Thread nD τ) cc0_scratch0 fullShare (wdAt m c (t.val + 1)))) $$ HS
  ihave HB := (Entails.of_eq (owns_whole (c : Thread nD τ) cc0_scratch1 fullShare g19)) $$ HB
  ihave HA := (Entails.of_eq (owns_whole (c : Thread nD τ) cc0_scratch2 fullShare (accAt m c (t.val + 1)))) $$ HA
  isplitl [HT Hr HS HB HA]
  · isplitl [HT]; · iexact HT
    isplitl [Hr]; · iexact Hr
    isplitl [HS HA]
    · iexists (wdAt m c (t.val + 1)), (accAt m c (t.val + 1))
      isplitr; · ipureintro; exact fun _ => ⟨rfl, rfl⟩
      isplitl [HS]; · iexact HS
      iexact HA
    iexists g19; iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  ihave H10 := (leave_10 m c t d10) $$ [H10]
  · iexact H10
  ihave H11 := (leave_11 m c t d11) $$ [H11]
  · iexact H11
  ihave H12 := (leave_12 m c t d12) $$ [H12]
  · iexact H12
  ihave H13 := (leave_13 m c t d13) $$ [H13]
  · iexact H13
  ihave H14 := (leave_14 m c t d14) $$ [H14]
  · iexact H14
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  refine triple_restated (sound_body m c t) rfl .rfl fun _ => ?_
  rw [idle_9]
  exact .rfl

/-! ## The launch -/

/-- @main up to the region: the four host operations. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub (by repeat' constructor) main_chain

/-- Before the first point the invariant is what the launch hands over. -/
theorem hin (c : Dev nD) : iprop(Pipeline.ΦA spec0 c ∗ Pipeline.ΦT pre0 (pf m) c) ⊢ (dats m 0 c).Φ 0 := by
  rw [Φ_at, ΦT_eq]
  unfold Pipeline.ΦA Φn
  rw [scopedRest0_eq]
  iintro ⟨⟨⟨⟨%a, HS⟩, ⟨%b, HB⟩, ⟨%d, HA⟩⟩, Hr⟩, HT⟩
  ihave HT := (Entails.of_eq (show ((c : Thread nD τ).loc main_arg8 ↦{fullShare.right} pf m 0 : sProp 𝕄) = ((c : Thread nD τ).loc main_arg8 ↦{fullShare.right} Lb m) from rfl)) $$ HT
  isplitl [HT]; · iexact HT
  isplitl [Hr]; · iexact Hr
  isplitl [HS HA]
  · iexists a, d
    isplitr; · ipureintro; exact fun h => absurd rfl h
    isplitl [HS]; · iexact HS
    iexact HA
  iexists b; iexact HB

/-- After the last point the invariant gives back what the launch handed over. -/
theorem hout (c : Dev nD) : (dats m 0 c).Φ (Fin.last (cf m).N) ⊢ Pipeline.ΦA spec0 c := by
  rw [Φ_at]
  unfold Pipeline.ΦA Φn
  rw [scopedRest0_eq]
  iintro ⟨HT, Hr, ⟨%a, %d, -, HS, HA⟩, ⟨%b, HB⟩⟩
  isplitr [Hr]
  · isplitl [HS]; · iexists a; iexact HS
    isplitl [HB]; · iexists b; iexact HB
    iexists d; iexact HA
  iexact Hr

set_option backward.isDefEq.respectTransparency.types false in
set_option maxHeartbeats 800000 in
/-- THE LAUNCH: every execution of @main terminates, every array of the pipeline ends at what the proof data
    says, every other buffer as the region found it, every semaphore at zero. -/
theorem run_main : θ_run defs (onTc (τ := τ) (main (F := F))) (s₀ m ρ) (fun r => (Pipeline.FramePost (Pipeline.pin (pcfgs (F := F)) (adm m)) (dats m) 0 (V m)) r ∧ r.2.sem = fun _ => 0) :=
  Pipeline.θ_run_frameP_track (Q' := _) (pcfgs (F := F)) (adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl) (hin := hin m) (hout := hout m)

/-- The region's operands that no host operation writes are as launched. -/
theorem V_arg (c : Dev nD) (b : Ref sig .tc) (h : b ∉ [main_v0, main_v1, main_v2, main_v3]) : V m c b = m ((c : Thread nD τ).loc b) :=
  StableHlo.after_unwritten [main_v0, main_v1, main_v2, main_v3] rfl h _

/-- Every array of the pipeline and every argument at the end of a run. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 0).trans (((dats m 0 c).arrAt_in 0 rfl _).trans ((A_eq m c 0).trans (V_arg m c main_arg0 (by decide)))),
      ((h.1 c).1 1).trans (((dats m 0 c).arrAt_in 1 rfl _).trans ((A_eq m c 1).trans (V_arg m c main_arg1 (by decide)))),
      ((h.1 c).1 2).trans (((dats m 0 c).arrAt_in 2 rfl _).trans ((A_eq m c 2).trans (V_arg m c main_arg2 (by decide)))),
      ((h.1 c).1 3).trans (((dats m 0 c).arrAt_in 3 rfl _).trans ((A_eq m c 3).trans (V_arg m c main_arg3 (by decide)))),
      ((h.1 c).1 4).trans (((dats m 0 c).arrAt_in 4 rfl _).trans ((A_eq m c 4).trans (V_arg m c main_arg4 (by decide)))),
      ((h.1 c).2 main_arg5 (show main_arg5 ∈ Pipeline.restRefs sig spec0 by decide)).trans (V_arg m c main_arg5 (by decide)),
      ((h.1 c).2 main_arg6 (show main_arg6 ∈ Pipeline.restRefs sig spec0 by decide)).trans (V_arg m c main_arg6 (by decide)),
      ((h.1 c).2 main_arg7 (show main_arg7 ∈ Pipeline.restRefs sig spec0 by decide)).trans (V_arg m c main_arg7 (by decide)),
      ((h.1 c).2 main_arg8 (show main_arg8 ∈ Pipeline.restRefs sig spec0 by decide)).trans (V_arg m c main_arg8 (by decide))⟩) (run_main m ρ)

/-- THE FRAME: the run terminates, the arguments end unchanged, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main m ρ))

end Cert.Kernel.Hand
end
-- ==== Proof.KI.Body.lean ====
/- THE BODY of the kernel, by pieces: what each of the body's four conditional stretches does to the buffers it touches,
   for whole staging buffers at any contents and any float interpretation. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen

variable {F : FTy → Type} [FloatOps F]

local notation "𝕄" => MT nD τ sig Unit (Elt F) ℕ (UR sig nD τ) ℕ

/-! ## The four stretches, each with what follows it -/

section Stretches

variable (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole)

/-- The first stretch: the accumulator zeroed and the weights dequantised, then `k`. -/
def kernA (k0_h1 : k0_cond1 i = 1#1) (k : Prog (TpuEff nD τ sig (Elt F) Λ₀ .tc) PUnit) : Prog (TpuEff nD τ sig (Elt F) Λ₀ .tc) PUnit := do
  let v21 : Vec F S6x8x1024 .f32 ← Prog.lift (.load arg20 (Rect.unit (s := S6x8x1024) ![0, 0, 0] S6x8x1024.size inb_S6x8x1024_S6x8x1024_0_0_0).toLoadRect (View.loadsAt_vmem h_S6x8x1024))
  Prog.lift (.store arg20 (Rect.unit (s := S6x8x1024) ![0, 0, 0] S6x8x1024.size inb_S6x8x1024_S6x8x1024_0_0_0) (k0_pay1 (F := F)) Finset.univ (View.stores_vmem_bits_univ h_S6x8x1024 rfl) (.inl rfl))
  Scf.Loop.for k0_t1_loop (k0_t1_ok i k0_h1) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1)
  k

/-- The second stretch: one tile's rows, their masked layer norm and their partial sums, then `k`. -/
def kernB (v6 : Elt F .i32) (k : Prog (TpuEff nD τ sig (Elt F) Λ₀ .tc) PUnit) : Prog (TpuEff nD τ sig (Elt F) Λ₀ .tc) PUnit := do
  let ⟨v52, v53⟩ : Σ' (v52 : FVec F S512x128 .bf16), Vec F S512x128 .bf16 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v88 : FVec F S512x128 .bf16 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v52 v53
  let ⟨v120, v121⟩ : Σ' (v120 : FVec F S512x128 .bf16), Vec F S1x512x128 .fp8e4m3 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v88
  let v156 : FVec F S512x128 .bf16 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v120 v121
  let v190 : FVec F S512x1 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v156
  k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v190
  k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let ⟨v292, v293⟩ : Σ' (v292 : FVec F S512x128 .bf16), Vec F S512x128 .bf16 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v328 : FVec F S512x128 .bf16 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v292 v293
  let ⟨v360, v361⟩ : Σ' (v360 : FVec F S512x128 .bf16), Vec F S1x512x128 .fp8e4m3 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v328
  let v396 : FVec F S512x128 .bf16 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v360 v361
  let v434 : FVec F S512x1024 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v396
  let v435 : Vec F S1x1024 .f32 ← Prog.lift (.load arg10 (Rect.unit (s := S1x1024) ![0, 0] S1x1024.size inb_S1x1024_S1x1024_0_0).toLoadRect (View.loadsAt_vmem h_S1x1024))
  let v444 : Vec F S1x512x1024 .f32 ← Prog.lift (.load arg12 (Rect.unit (s := S1x512x1024) ![0, 0, 0] S1x512x1024.size inb_S1x512x1024_S1x512x1024_0_0_0).toLoadRect (View.loadsAt_vmem h_S1x512x1024))
  Prog.lift (.store arg12 (Rect.unit (s := S1x512x1024) ![0, 0, 0] S1x512x1024.size inb_S1x512x1024_S1x512x1024_0_0_0) (k0_pay4 i v6 v434 v435) Finset.univ (View.stores_vmem_bits_univ h_S1x512x1024 rfl) (.inl rfl))
  let v448 : Vec F S1x8x1024 .f32 ← Prog.lift (.load arg20 (Rect.unit (s := S6x8x1024) (k0_off18 i) S1x8x1024.size (k0_off18_inb i)).toLoadRect (View.loadsAt_vmem h_S1x8x1024))
  let v454 : Vec F S1x8x1024 .f32 ← Prog.lift (.load arg20 (Rect.unit (s := S6x8x1024) (k0_off18 i) S1x8x1024.size (k0_off18_inb i)).toLoadRect (View.loadsAt_vmem h_S1x8x1024))
  Prog.lift (.store arg20 (Rect.unit (s := S6x8x1024) (k0_off18 i) S1x8x1024.size (k0_off18_inb i)) (k0_pay5 i v6 v434 v435 v448) Finset.univ (View.stores_vmem_bits_univ h_S1x8x1024 rfl) (.inl rfl))
  k

/-- The third stretch: a tile past the length is zero, then `k`. -/
def kernC (k : Prog (TpuEff nD τ sig (Elt F) Λ₀ .tc) PUnit) : Prog (TpuEff nD τ sig (Elt F) Λ₀ .tc) PUnit := do
  let v21 : Vec F S1x512x1024 .f32 ← Prog.lift (.load arg12 (Rect.unit (s := S1x512x1024) ![0, 0, 0] S1x512x1024.size inb_S1x512x1024_S1x512x1024_0_0_0).toLoadRect (View.loadsAt_vmem h_S1x512x1024))
  Prog.lift (.store arg12 (Rect.unit (s := S1x512x1024) ![0, 0, 0] S1x512x1024.size inb_S1x512x1024_S1x512x1024_0_0_0) (k0_pay6 (F := F)) Finset.univ (View.stores_vmem_bits_univ h_S1x512x1024 rfl) (.inl rfl))
  k

/-- The fourth stretch: the pooled mean and its two quantised normalisations, then `k`. -/
def kernD (k : Prog (TpuEff nD τ sig (Elt F) Λ₀ .tc) PUnit) : Prog (TpuEff nD τ sig (Elt F) Λ₀ .tc) PUnit := do
  let ⟨v55, v56⟩ : Σ' (v55 : FVec F S6x256 .f32), FVec F S6x256 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v81 : Vec F S6x256 .i8 ← Prog.lift (.load arg16 (Rect.unit (s := S6x256) ![0, 0] S6x256.size inb_S6x256_S6x256_0_0).toLoadRect (View.loadsAt_vmem h_S6x256))
  Prog.lift (.store arg16 (Rect.unit (s := S6x256) ![0, 0] S6x256.size inb_S6x256_S6x256_0_0) (k0_pay9 v55 v56) Finset.univ (View.stores_vmem h_S6x256 (harg16.storeExact_slice rfl _ packedi8_S6x256_S6x256_0_0) (fun _ => rfl)) (.inl rfl))
  let v82 : Vec F S6x1 .f32 ← Prog.lift (.load arg17 (Rect.unit (s := S6x1) ![0, 0] S6x1.size inb_S6x1_S6x1_0_0).toLoadRect (View.loadsAt_vmem h_S6x1))
  Prog.lift (.store arg17 (Rect.unit (s := S6x1) ![0, 0] S6x1.size inb_S6x1_S6x1_0_0) (k0_pay8 v55 v56) Finset.univ (View.stores_vmem_bits_univ h_S6x1 rfl) (.inl rfl))
  k

end Stretches

/-- The body is its four stretches, one after the other. -/
theorem body_eq (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) :
    cc0__body_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      = (let rest : Prog (TpuEff nD τ sig (Elt F) Λ₀ .tc) PUnit := (smemLoad arg2 (Rect.unit (s := S6) (k0_off1 i) S1.size (k0_off1_inb i)) numel1_S1 rfl >>= fun v6 =>
          let last : Prog (TpuEff nD τ sig (Elt F) Λ₀ .tc) PUnit := if k0_h4 : k0_cond4 i = 1#1 then kernD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (pure ⟨⟩) else pure ⟨⟩
          let third : Prog (TpuEff nD τ sig (Elt F) Λ₀ .tc) PUnit := if k0_h3 : k0_cond3 i v6 = 1#1 then kernC arg12 last else last
          if k0_h2 : k0_cond2 i v6 = 1#1 then kernB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 third else third)
        if k0_h1 : k0_cond1 i = 1#1 then kernA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 rest else rest) := rfl
end Cert.KernelIdeal.Hand
end
-- ==== Proof.KI.Vals.lean ====
/- WHAT THE BODY LEAVES in its buffers: the dequantised weights, the dequantised hidden tile and the
   running sums, as functions of what was read, and the pieces the stretches store as these functions: what each of the body's four conditional stretches does to the buffers it touches,
   for whole staging buffers at any contents and any float interpretation. -/
module

public import proofs.«01_k».proof.Proof.KI.Body
public import proofs.«01_k».proof.Proof.Gen.KernelIdeal.Launch
public import Idealize.ShloMosaic.Lib.ValueLayout
public import Idealize.ShloMosaic.Lib.ValueIdx
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx
open Cert.KernelIdeal Cert.KernelIdeal.Gen

variable {F : FTy → Type} [FloatOps F]

local notation "𝕄" => MT nD τ sig Unit (Elt F) ℕ (UR sig nD τ) ℕ

/-- The dequantised weights: each code, times the scale of its 128 by 128 block. -/
def WD (X6 : Vec F S4096x1024 .fp8e4m3) (X7 : Vec F S32x8 .f32) : Vec F S4096x1024 .bf16 :=
  mulf (extf .bf16 X6 bitsLt_fp8e4m3_bf16)
    (truncf .bf16 (fun y : S4096x1024.Idx => X7 (ix2
      (⟨(y (0 : Fin 2)).val / 128, Nat.div_lt_of_lt_mul (y (0 : Fin 2)).isLt⟩ : Fin 32)
      (⟨(y (1 : Fin 2)).val / 128, Nat.div_lt_of_lt_mul (y (1 : Fin 2)).isLt⟩ : Fin 8))) bitsLt_bf16_f32)

/-- The dequantised hidden tile: each code, times the scale of its row's 128 columns. -/
def HD (X4 : Vec F S1x512x4096 .fp8e4m3) (X5 : Vec F S1x512x32 .f32) : Vec F S512x4096 .bf16 :=
  mulf (extf .bf16 (fun y : S512x4096.Idx => X4 (ix3 (0 : Fin 1)
      (y (0 : Fin 2)) (y (1 : Fin 2)))) bitsLt_fp8e4m3_bf16)
    (truncf .bf16 (fun y : S512x4096.Idx => X5 (ix3 (0 : Fin 1) (y (0 : Fin 2))
      (⟨(y (1 : Fin 2)).val / 128, Nat.div_lt_of_lt_mul (y (1 : Fin 2)).isLt⟩ : Fin 32))) bitsLt_bf16_f32)

/-- A piece of the dequantised weights is the dequantised weights on its block. -/
theorem pay_w (X6 : Vec F S4096x1024 .fp8e4m3) (X7 : Vec F S32x8 .f32) (v : Elt F .f32)
    (off : Fin 2 → Nat) (inb) (a : Fin 32) (b : Fin 8)
    (hoff : off = ![128 * a.val, 128 * b.val]) (hv : v = X7 (ix2 a b)) (x : S128x128.Idx) :
    k0_pay10 v (View.ld X6 (Rect.unit (s := S4096x1024) off S128x128.size inb)) x
      = WD X6 X7 ((Rect.unit (s := S4096x1024) off S128x128.size inb).emb x) := by
  subst hoff; subst hv
  unfold k0_pay10 WD
  rw [shapeCast_self]
  have e : ∀ y : S4096x1024.Idx, (y = (Rect.unit (s := S4096x1024) ![128 * a.val, 128 * b.val] S128x128.size inb).emb x) →
    X7 (ix2
      (⟨(y (0 : Fin 2)).val / 128, Nat.div_lt_of_lt_mul (y (0 : Fin 2)).isLt⟩ : Fin 32)
      (⟨(y (1 : Fin 2)).val / 128, Nat.div_lt_of_lt_mul (y (1 : Fin 2)).isLt⟩ : Fin 8)) = X7 (ix2 a b) := by
    rintro y rfl
    have h0 : (x (0 : Fin 2)).val < 128 := (x (0 : Fin 2)).isLt
    have h1 : (x (1 : Fin 2)).val < 128 := (x (1 : Fin 2)).isLt
    congr 2
    · apply Fin.ext
      show (128 * a.val + 1 * (x (0 : Fin 2)).val) / 128 = a.val
      omega
    · apply Fin.ext
      show (128 * b.val + 1 * (x (1 : Fin 2)).val) / 128 = b.val
      omega
  show FloatOps.mulf _ _ = FloatOps.mulf _ _
  refine congrArg₂ _ rfl ?_
  exact congrArg _ (e _ rfl).symm

/-- A piece of the dequantised hidden tile is the dequantised hidden tile on its block. -/
theorem pay_h (X4 : Vec F S1x512x4096 .fp8e4m3) (X5 : Vec F S1x512x32 .f32)
    (b o : ℕ) (ho : o = 128 * b) (inb4 inb5 inb) (x : S512x128.Idx) :
    k0_pay18 (View.ld X5 (Rect.unit (s := S1x512x32) ![0, 0, b] S1x512x1.size inb5))
        (View.ld X4 (Rect.unit (s := S1x512x4096) ![0, 0, o] S1x512x128.size inb4)) x
      = HD X4 X5 ((Rect.unit (s := S512x4096) ![0, o] S512x128.size inb).emb x) := by
  subst ho
  have h1 : (x (1 : Fin 2)).val < 128 := (x (1 : Fin 2)).isLt
  have h0 : (x (0 : Fin 2)).val < 512 := (x (0 : Fin 2)).isLt
  obtain ⟨r, q, rfl⟩ : ∃ (r : Fin 512) (q : Fin 128), x = ix2 r q := ⟨_, _, eq_ix2 x⟩
  have e4 : shapeCast S512x128 (View.ld X4 (Rect.unit (s := S1x512x4096) ![0, 0, 128 * b] S1x512x128.size inb4))
      shapeCasts_S1x512x128_S512x128 (ix2 r q)
      = X4 (ix3 (0 : Fin 1)
        (((Rect.unit (s := S512x4096) ![0, 128 * b] S512x128.size inb).emb (ix2 r q)) (0 : Fin 2))
        (((Rect.unit (s := S512x4096) ![0, 128 * b] S512x128.size inb).emb (ix2 r q)) (1 : Fin 2))) := by
    refine (shapeCast_1ab_ab_apply _ _ r q).trans (congrArg X4 ?_)
    funext a
    match a with
    | ⟨0, _⟩ => rfl
    | ⟨1, _⟩ => rfl
    | ⟨2, _⟩ => rfl
  have e5 : broadcastTo S512x128 (shapeCast S512x1 (shapeCast S512x1 (View.ld X5 (Rect.unit (s := S1x512x32) ![0, 0, b] S1x512x1.size inb5))
      shapeCasts_S1x512x1_S512x1) shapeCasts_S512x1_S512x1) broadcasts_S512x1_S512x128 (ix2 r q)
      = X5 (ix3 (0 : Fin 1)
        (((Rect.unit (s := S512x4096) ![0, 128 * b] S512x128.size inb).emb (ix2 r q)) (0 : Fin 2))
        (⟨(((Rect.unit (s := S512x4096) ![0, 128 * b] S512x128.size inb).emb (ix2 r q)) (1 : Fin 2)).val / 128,
          Nat.div_lt_of_lt_mul (((Rect.unit (s := S512x4096) ![0, 128 * b] S512x128.size inb).emb (ix2 r q)) (1 : Fin 2)).isLt⟩ : Fin 32)) := by
    rw [shapeCast_self]
    refine (broadcastTo_apply _ _ (ix2 r q) (ix2 r (0 : Fin 1)) fun ax => ?_).trans ?_
    · match ax with
      | ⟨0, _⟩ => rfl
      | ⟨1, _⟩ => rfl
    refine (shapeCast_1ab_ab_apply _ _ r 0).trans (congrArg X5 ?_)
    funext a
    match a with
    | ⟨0, _⟩ => rfl
    | ⟨1, _⟩ => rfl
    | ⟨2, _⟩ =>
      apply Fin.ext
      show b + 1 * 0 = (128 * b + 1 * q.val) / 128
      have h1 : q.val < 128 := q.isLt
      omega
  unfold k0_pay18 HD
  rw [shapeCast_self]
  refine congrArg₂ FloatOps.mulf (congrArg (fun z => extf (F := F) (φ := .fp8e4m3) .bf16 (fun _ : S512x128.Idx => z) bitsLt_fp8e4m3_bf16 (ix2 r q)) e4)
    (congrArg (fun z => truncf (F := F) (φ := .f32) .bf16 (fun _ : S512x128.Idx => z) bitsLt_bf16_f32 (ix2 r q)) e5)

theorem off2_eq : ∀ k, k0_off2 k = ![k.val, ((0 : Fin 8) : ℕ)] := by decide +kernel
theorem off4_eq : ∀ k, k0_off4 k = ![k.val, ((1 : Fin 8) : ℕ)] := by decide +kernel
theorem off6_eq : ∀ k, k0_off6 k = ![k.val, ((2 : Fin 8) : ℕ)] := by decide +kernel
theorem off8_eq : ∀ k, k0_off8 k = ![k.val, ((3 : Fin 8) : ℕ)] := by decide +kernel
theorem off10_eq : ∀ k, k0_off10 k = ![k.val, ((4 : Fin 8) : ℕ)] := by decide +kernel
theorem off12_eq : ∀ k, k0_off12 k = ![k.val, ((5 : Fin 8) : ℕ)] := by decide +kernel
theorem off14_eq : ∀ k, k0_off14 k = ![k.val, ((6 : Fin 8) : ℕ)] := by decide +kernel
theorem off16_eq : ∀ k, k0_off16 k = ![k.val, ((7 : Fin 8) : ℕ)] := by decide +kernel
theorem off3_eq : ∀ k, k0_off3 k = ![128 * k.val, 128 * ((0 : Fin 8) : ℕ)] := by decide +kernel
theorem off5_eq : ∀ k, k0_off5 k = ![128 * k.val, 128 * ((1 : Fin 8) : ℕ)] := by decide +kernel
theorem off7_eq : ∀ k, k0_off7 k = ![128 * k.val, 128 * ((2 : Fin 8) : ℕ)] := by decide +kernel
theorem off9_eq : ∀ k, k0_off9 k = ![128 * k.val, 128 * ((3 : Fin 8) : ℕ)] := by decide +kernel
theorem off11_eq : ∀ k, k0_off11 k = ![128 * k.val, 128 * ((4 : Fin 8) : ℕ)] := by decide +kernel
theorem off13_eq : ∀ k, k0_off13 k = ![128 * k.val, 128 * ((5 : Fin 8) : ℕ)] := by decide +kernel
theorem off15_eq : ∀ k, k0_off15 k = ![128 * k.val, 128 * ((6 : Fin 8) : ℕ)] := by decide +kernel
theorem off17_eq : ∀ k, k0_off17 k = ![128 * k.val, 128 * ((7 : Fin 8) : ℕ)] := by decide +kernel

/-- A one-entry load at block `(a, b)` of the scale table is that block's scale. -/
theorem smem_w (X7 : Vec F S32x8 .f32) (off : Fin 2 → Nat) (inb) (h) (a : Fin 32) (b : Fin 8)
    (hoff : off = ![a.val, b.val]) :
    X7 ((Rect.unit (s := S32x8) off S1x1.size inb).emb (Shape.Idx.first (s := S1x1) h)) = X7 (ix2 a b) := by
  subst hoff
  refine congrArg X7 ?_
  funext x
  match x with
  | ⟨0, _⟩ => rfl
  | ⟨1, _⟩ => rfl

/-- An index lies in the block of its own block coordinates. -/
theorem mem_w (off : Fin 2 → Nat) (inb) (a : Fin 32) (b : Fin 8) (hoff : off = ![128 * a.val, 128 * b.val])
    (y : S4096x1024.Idx) (h0 : (y (0 : Fin 2)).val / 128 = a.val) (h1 : (y (1 : Fin 2)).val / 128 = b.val) :
    y ∈ (Rect.unit (s := S4096x1024) off S128x128.size inb).set := by
  subst hoff
  rw [Rect.mem_set_unit]
  intro x
  match x with
  | ⟨0, _⟩ =>
    show 128 * a.val ≤ (y (0 : Fin 2)).val ∧ (y (0 : Fin 2)).val < 128 * a.val + 128
    omega
  | ⟨1, _⟩ =>
    show 128 * b.val ≤ (y (1 : Fin 2)).val ∧ (y (1 : Fin 2)).val < 128 * b.val + 128
    omega

/-- Trip `k` stores the eight blocks of block row `k` of the dequantised weights. -/
theorem trip_w (c : Dev nD) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (k0_h1 : k0_cond1 i = 1#1) (f6 : BufTy.Contents (Elt F) arg6.view.ty)
    (f7 : BufTy.Contents (Elt F) arg7.view.ty) (k : Fin k0_t1_loop.trips) :
    (∀ p ∈ tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k, ∀ x, p.2 x
      = WD (arg6.view.read (Elt F) f6) (arg7.view.read (Elt F) f7) (p.1.emb x))
    ∧ ∀ y : S4096x1024.Idx, (y (0 : Fin 2)).val / 128 = k.val →
      ∃ p ∈ tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k, y ∈ p.1.set := by
  unfold tripL_k0_t1 trip_k0_t1
  dsimp only
  unfold trip_k0_t1.sl.r trip_k0_t1.sl.r_1 trip_k0_t1.sl.r_2 trip_k0_t1.sl.r_4 trip_k0_t1.sl.r_5 trip_k0_t1.sl.r_6 trip_k0_t1.sl.r_7 trip_k0_t1.sl.r_8
  try unfold trip_k0_t1.sl.r_3
  constructor
  · intro p hp
    simp only [List.mem_cons, List.not_mem_nil, or_false] at hp
    obtain rfl | rfl | rfl | rfl | rfl | rfl | rfl | rfl := hp
    · intro x
      exact pay_w _ _ _ _ _ k ((7) : Fin 8) (off17_eq k) (smem_w (arg7.view.read (Elt F) f7) _ _ _ k (7 : Fin 8) (off16_eq k)) x
    · intro x
      exact pay_w _ _ _ _ _ k ((6) : Fin 8) (off15_eq k) (smem_w (arg7.view.read (Elt F) f7) _ _ _ k (6 : Fin 8) (off14_eq k)) x
    · intro x
      exact pay_w _ _ _ _ _ k ((5) : Fin 8) (off13_eq k) (smem_w (arg7.view.read (Elt F) f7) _ _ _ k (5 : Fin 8) (off12_eq k)) x
    · intro x
      exact pay_w _ _ _ _ _ k ((4) : Fin 8) (off11_eq k) (smem_w (arg7.view.read (Elt F) f7) _ _ _ k (4 : Fin 8) (off10_eq k)) x
    · intro x
      exact pay_w _ _ _ _ _ k ((3) : Fin 8) (off9_eq k) (smem_w (arg7.view.read (Elt F) f7) _ _ _ k (3 : Fin 8) (off8_eq k)) x
    · intro x
      exact pay_w _ _ _ _ _ k ((2) : Fin 8) (off7_eq k) (smem_w (arg7.view.read (Elt F) f7) _ _ _ k (2 : Fin 8) (off6_eq k)) x
    · intro x
      exact pay_w _ _ _ _ _ k ((1) : Fin 8) (off5_eq k) (smem_w (arg7.view.read (Elt F) f7) _ _ _ k (1 : Fin 8) (off4_eq k)) x
    · intro x
      exact pay_w _ _ _ _ _ k ((0) : Fin 8) (off3_eq k) (smem_w (arg7.view.read (Elt F) f7) _ _ _ k (0 : Fin 8) (off2_eq k)) x
  · intro y hy
    have hb : (y (1 : Fin 2)).val < 1024 := (y (1 : Fin 2)).isLt
    obtain h | h | h | h | h | h | h | h : (y (1 : Fin 2)).val / 128 = 7 ∨ (y (1 : Fin 2)).val / 128 = 6
        ∨ (y (1 : Fin 2)).val / 128 = 5 ∨ (y (1 : Fin 2)).val / 128 = 4 ∨ (y (1 : Fin 2)).val / 128 = 3
        ∨ (y (1 : Fin 2)).val / 128 = 2 ∨ (y (1 : Fin 2)).val / 128 = 1 ∨ (y (1 : Fin 2)).val / 128 = 0 := by omega
    · exact ⟨_, List.mem_cons_self, mem_w _ (k0_off17_inb i k k0_h1) k (7 : Fin 8) (off17_eq k) y hy h⟩
    · exact ⟨_, (List.mem_cons_of_mem _ List.mem_cons_self), mem_w _ (k0_off15_inb i k k0_h1) k (6 : Fin 8) (off15_eq k) y hy h⟩
    · exact ⟨_, (List.mem_cons_of_mem _ (List.mem_cons_of_mem _ List.mem_cons_self)), mem_w _ (k0_off13_inb i k k0_h1) k (5 : Fin 8) (off13_eq k) y hy h⟩
    · exact ⟨_, (List.mem_cons_of_mem _ (List.mem_cons_of_mem _ (List.mem_cons_of_mem _ List.mem_cons_self))), mem_w _ (k0_off11_inb i k k0_h1) k (4 : Fin 8) (off11_eq k) y hy h⟩
    · exact ⟨_, (List.mem_cons_of_mem _ (List.mem_cons_of_mem _ (List.mem_cons_of_mem _ (List.mem_cons_of_mem _ List.mem_cons_self)))), mem_w _ (k0_off9_inb i k k0_h1) k (3 : Fin 8) (off9_eq k) y hy h⟩
    · exact ⟨_, (List.mem_cons_of_mem _ (List.mem_cons_of_mem _ (List.mem_cons_of_mem _ (List.mem_cons_of_mem _ (List.mem_cons_of_mem _ List.mem_cons_self))))), mem_w _ (k0_off7_inb i k k0_h1) k (2 : Fin 8) (off7_eq k) y hy h⟩
    · exact ⟨_, (List.mem_cons_of_mem _ (List.mem_cons_of_mem _ (List.mem_cons_of_mem _ (List.mem_cons_of_mem _ (List.mem_cons_of_mem _ (List.mem_cons_of_mem _ List.mem_cons_self)))))), mem_w _ (k0_off5_inb i k k0_h1) k (1 : Fin 8) (off5_eq k) y hy h⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_w _ (k0_off3_inb i k k0_h1) k (0 : Fin 8) (off3_eq k) y hy h⟩

/-- The pieces of the trips before `k`: they agree with the dequantised weights and cover the first
    `k` block rows. -/
theorem pb_w (c : Dev nD) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (k0_h1 : k0_cond1 i = 1#1) (f6 : BufTy.Contents (Elt F) arg6.view.ty)
    (f7 : BufTy.Contents (Elt F) arg7.view.ty) (k : ℕ) (hk : k ≤ k0_t1_loop.trips) :
    (∀ p ∈ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k, ∀ x, p.2 x
      = WD (arg6.view.read (Elt F) f6) (arg7.view.read (Elt F) f7) (p.1.emb x))
    ∧ ∀ y : S4096x1024.Idx, (y (0 : Fin 2)).val / 128 < k →
      ∃ p ∈ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k, y ∈ p.1.set := by
  induction k with
  | zero =>
    rw [show pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 0 = [] from rfl]
    exact ⟨fun p hp => absurd hp List.not_mem_nil, fun y hy => absurd hy (Nat.not_lt_zero _)⟩
  | succ k ih =>
    have ih := ih (by omega)
    have ht := trip_w c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 ⟨k, hk⟩
    rw [pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 ⟨k, hk⟩]
    refine ⟨fun p hp => ?_, fun y hy => ?_⟩
    · rcases List.mem_append.1 hp with h | h
      · exact ht.1 p h
      · exact ih.1 p h
    · rcases Nat.lt_succ_iff_lt_or_eq.1 hy with h | h
      · obtain ⟨p, hp, hs⟩ := ih.2 y h
        exact ⟨p, List.mem_append_right _ hp, hs⟩
      · obtain ⟨p, hp, hs⟩ := ht.2 y h
        exact ⟨p, List.mem_append_left _ hp, hs⟩

/-- After all trips the weight scratch holds the dequantised weights. -/
theorem read_wd (c : Dev nD) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (k0_h1 : k0_cond1 i = 1#1) (f6 : BufTy.Contents (Elt F) arg6.view.ty)
    (f7 : BufTy.Contents (Elt F) arg7.view.ty) (f18 : BufTy.Contents (Elt F) arg18.view.ty) :
    arg18.view.read (Elt F) (arg18.view.writes (Elt F) f18 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k0_t1_loop.trips))
      = WD (arg6.view.read (Elt F) f6) (arg7.view.read (Elt F) f7) := by
  have h := pb_w c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k0_t1_loop.trips le_rfl
  have hc : ∀ y : S4096x1024.Idx, ∃ p ∈ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 f6 f7 k0_t1_loop.trips, y ∈ p.1.set := fun y =>
    h.2 y (Nat.lt_of_lt_of_eq (Nat.div_lt_of_lt_mul (show (y (0 : Fin 2)).val < 128 * 32 from (y (0 : Fin 2)).isLt)) (by decide +kernel))
  refine (View.read_writes_eq_canon _ _ _ hc).trans ?_
  funext y
  exact View.canon_apply_of_pieces _ _ h.1 y (hc y)

/-- The running sums after a tile's step: row `b` of the six gains the tile's column sums, in eight partial sums. -/
def MA (i : grid0.Coords) (v6 : Elt F .i32) (X19 : Vec F S512x4096 .bf16) (X18 : Vec F S4096x1024 .bf16)
    (X3 : Vec F S1x512x1024 .bf16) (X8 : Vec F S1x1024 .f32) (X9 : Vec F S1x1024 .f32) (X10 : Vec F S1x1024 .f32)
    (X20 : Vec F S6x8x1024 .f32) : Vec F S6x8x1024 .f32 := fun y =>
  if (y (0 : Fin 3)).val = (i 0).val then
    k0_pay5 i v6 (k0_pay59 X19 X18 X3 X8 X9) X10
      (fun z : S1x8x1024.Idx => X20 (ix3 (y (0 : Fin 3)) (z (1 : Fin 3)) (z (2 : Fin 3))))
      (ix3 (0 : Fin 1) (y (1 : Fin 3)) (y (2 : Fin 3)))
  else X20 y

theorem off18_eq : ∀ i : grid0.Coords, k0_off18 i = ![(i 0).val, 0, 0] := by decide +kernel

end Cert.KernelIdeal.Hand
end
-- ==== Proof.KI.Triples.lean ====
/- THE FOUR STRETCHES of the kernel body, each as a separation-logic triple: what each's four conditional stretches does to the buffers it touches,
   for whole staging buffers at any contents and any float interpretation. -/
module

public import proofs.«01_k».proof.Proof.KI.Body
public import proofs.«01_k».proof.Proof.KI.Vals
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WritesUnit
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx
open Cert.KernelIdeal Cert.KernelIdeal.Gen

variable {F : FTy → Type} [FloatOps F]

local notation "𝕄" => MT nD τ sig Unit (Elt F) ℕ (UR sig nD τ) ℕ

theorem z3 : (![0, 0, 0] : Fin 3 → ℕ) = fun _ => 0 := by decide
theorem z2 : (![0, 0] : Fin 2 → ℕ) = fun _ => 0 := by decide

/-- A single store of a whole buffer leaves its payload. -/
theorem read_whole1 {sp : Space} {S : Shape} {e : EltTy} (v : View sig .tc sp S e) (f : v.ty.Contents (Elt F))
    (off : Fin S.rank → ℕ) (h : off = fun _ => 0) (inb) (w : S.Idx → Elt F e) :
    v.read (Elt F) (v.writes (Elt F) f [(⟨Rect.unit (s := S) off S.size inb, w⟩ : View.Piece (Elt F) S e)]) = w :=
  (View.read_writes_eq_canon _ _ _ (fun y => ⟨_, List.mem_cons_self, View.mem_set_unit_zero h inb y⟩)).trans
    (View.canon_unit_zero h _ _)

/-- A load of a whole buffer is what is read there. -/
theorem readAt_whole {sp : Space} {S : Shape} {e : EltTy} (v : View sig .tc sp S e) (f : v.ty.Contents (Elt F))
    (off : Fin S.rank → ℕ) (h : off = fun _ => 0) (inb) :
    v.readAt (Elt F) (Rect.unit (s := S) off S.size inb).toLoadRect f = v.read (Elt F) f :=
  View.ld_unit_zero h inb (v.read (Elt F) f)

/-- Storing the new partial sums over row `b` of the running sums is the step of the running sums. -/
theorem read_ma {sp : Space} (v : View sig .tc sp S6x8x1024 .f32) (f : v.ty.Contents (Elt F))
    (i : grid0.Coords) (v6 : Elt F .i32) (X19 : Vec F S512x4096 .bf16) (X18 : Vec F S4096x1024 .bf16)
    (X3 : Vec F S1x512x1024 .bf16) (X8 : Vec F S1x1024 .f32) (X9 : Vec F S1x1024 .f32) (X10 : Vec F S1x1024 .f32)
    (inb inb') :
    v.read (Elt F) (v.writes (Elt F) f [(⟨Rect.unit (s := S6x8x1024) (k0_off18 i) S1x8x1024.size inb,
      k0_pay5 i v6 (k0_pay59 X19 X18 X3 X8 X9) X10
        (View.ld (v.read (Elt F) f) (Rect.unit (s := S6x8x1024) (k0_off18 i) S1x8x1024.size inb'))⟩ : View.Piece (Elt F) S6x8x1024 .f32)])
      = MA i v6 X19 X18 X3 X8 X9 X10 (v.read (Elt F) f) := by
  funext y
  unfold MA
  split
  · next hy =>
    refine (View.read_writes_cons_unit_of_mem v f inb _ [] y (ix3 (0 : Fin 1) (y (1 : Fin 3)) (y (2 : Fin 3))) (off18_eq i) fun a => ?_).trans ?_
    · match a with
      | ⟨0, _⟩ => exact hy
      | ⟨1, _⟩ => exact (Nat.zero_add _).symm
      | ⟨2, _⟩ => exact (Nat.zero_add _).symm
    refine congrArg (fun g => k0_pay5 i v6 (k0_pay59 X19 X18 X3 X8 X9) X10 g (ix3 (0 : Fin 1) (y (1 : Fin 3)) (y (2 : Fin 3)))) ?_
    funext z
    show v.read (Elt F) f _ = v.read (Elt F) f _
    refine congrArg (v.read (Elt F) f) ?_
    funext a
    apply Fin.ext
    have hz : (z (0 : Fin 3)).val < 1 := (z (0 : Fin 3)).isLt
    have e0 : k0_off18 i (0 : Fin 3) = (i 0).val := congrFun (off18_eq i) 0
    have e1 : k0_off18 i (1 : Fin 3) = 0 := congrFun (off18_eq i) 1
    have e2 : k0_off18 i (2 : Fin 3) = 0 := congrFun (off18_eq i) 2
    match a with
    | ⟨0, _⟩ =>
      show k0_off18 i (0 : Fin 3) + 1 * (z (0 : Fin 3)).val = (y (0 : Fin 3)).val
      omega
    | ⟨1, _⟩ =>
      show k0_off18 i (1 : Fin 3) + 1 * (z (1 : Fin 3)).val = (z (1 : Fin 3)).val
      omega
    | ⟨2, _⟩ =>
      show k0_off18 i (2 : Fin 3) + 1 * (z (2 : Fin 3)).val = (z (2 : Fin 3)).val
      omega
  · next hy =>
    exact (View.read_writes_cons_unit_of_not_mem v f inb _ [] y (off18_eq i) (0 : Fin 3) (by
      show (y (0 : Fin 3)).val < (i 0).val ∨ (i 0).val + 1 ≤ (y (0 : Fin 3)).val
      omega)).trans rfl

set_option maxHeartbeats 4000000 in
/-- The first stretch. -/
theorem tripleA (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (k0_h1 : k0_cond1 i = 1#1)
    (X6 : Vec F S4096x1024 .fp8e4m3) (X7 : Vec F S32x8 .f32) (k : Prog (TpuEff nD τ sig (Elt F) Λ₀ .tc) PUnit) (K : PUnit → sProp 𝕄) :
    iprop(owns (c : Thread nD τ) arg6 fullShare X6 ∗ owns (c : Thread nD τ) arg7 fullShare X7 ∗ (∃ d, owns (c : Thread nD τ) arg18 fullShare d) ∗ (∃ d, owns (c : Thread nD τ) arg20 fullShare d)
        ∗ (iprop(owns (c : Thread nD τ) arg6 fullShare X6 ∗ owns (c : Thread nD τ) arg7 fullShare X7 ∗ owns (c : Thread nD τ) arg18 fullShare (WD X6 X7) ∗ owns (c : Thread nD τ) arg20 fullShare (k0_pay1 (F := F))) -∗ wp frame (wpE (defs₀ (F := F)) Variants.none (c : Thread nD τ) none) E k K))
      ⊢ wp frame (wpE (defs₀ (F := F)) Variants.none (c : Thread nD τ) none) E (kernA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 k) K := by
  unfold kernA
  unfold owns
  iintro ⟨⟨%farg6, %harg6', Harg6⟩, ⟨%farg7, %harg7', Harg7⟩, ⟨%darg18, %farg18, -, Harg18⟩, ⟨%darg20, %farg20, -, Harg20⟩, Hk⟩
  subst harg6' harg7'
  sl_exec
  iapply Hk
  isplitl [Harg6]
  · iexists farg6; isplitr; · ipureintro; rfl
    iexact Harg6
  isplitl [Harg7]
  · iexists farg7; isplitr; · ipureintro; rfl
    iexact Harg7
  isplitl [Harg18]
  · iexists _; isplitr
    swap; · iexact Harg18
    ipureintro
    exact read_wd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 farg6 farg7 _
  iexists _; isplitr
  swap; · iexact Harg20
  ipureintro
  unfold tripleA.sl.Harg20_1
  exact read_whole1 _ _ _ z3 _ _

set_option maxHeartbeats 4000000 in
/-- The second stretch. -/
theorem tripleB (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (v6 : Elt F .i32)
    (X3 : Vec F S1x512x1024 .bf16) (X4 : Vec F S1x512x4096 .fp8e4m3) (X5 : Vec F S1x512x32 .f32) (X8 : Vec F S1x1024 .f32) (X9 : Vec F S1x1024 .f32) (X10 : Vec F S1x1024 .f32) (X18 : Vec F S4096x1024 .bf16) (X20 : Vec F S6x8x1024 .f32) (k : Prog (TpuEff nD τ sig (Elt F) Λ₀ .tc) PUnit) (K : PUnit → sProp 𝕄) :
    iprop(owns (c : Thread nD τ) arg3 fullShare X3 ∗ owns (c : Thread nD τ) arg4 fullShare X4 ∗ owns (c : Thread nD τ) arg5 fullShare X5 ∗ owns (c : Thread nD τ) arg8 fullShare X8 ∗ owns (c : Thread nD τ) arg9 fullShare X9 ∗ owns (c : Thread nD τ) arg10 fullShare X10 ∗ owns (c : Thread nD τ) arg18 fullShare X18 ∗ owns (c : Thread nD τ) arg20 fullShare X20 ∗ (∃ d, owns (c : Thread nD τ) arg12 fullShare d) ∗ (∃ d, owns (c : Thread nD τ) arg19 fullShare d)
        ∗ (iprop(owns (c : Thread nD τ) arg3 fullShare X3 ∗ owns (c : Thread nD τ) arg4 fullShare X4 ∗ owns (c : Thread nD τ) arg5 fullShare X5 ∗ owns (c : Thread nD τ) arg8 fullShare X8 ∗ owns (c : Thread nD τ) arg9 fullShare X9 ∗ owns (c : Thread nD τ) arg10 fullShare X10 ∗ owns (c : Thread nD τ) arg18 fullShare X18 ∗ owns (c : Thread nD τ) arg12 fullShare (k0_pay4 i v6 (k0_pay59 (HD X4 X5) X18 X3 X8 X9) X10) ∗ owns (c : Thread nD τ) arg19 fullShare (HD X4 X5) ∗ owns (c : Thread nD τ) arg20 fullShare (MA i v6 (HD X4 X5) X18 X3 X8 X9 X10 X20)) -∗ wp frame (wpE (defs₀ (F := F)) Variants.none (c : Thread nD τ) none) E k K))
      ⊢ wp frame (wpE (defs₀ (F := F)) Variants.none (c : Thread nD τ) none) E (kernB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 k) K := by
  unfold kernB
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%farg3, %harg3', Harg3⟩, ⟨%farg4, %harg4', Harg4⟩, ⟨%farg5, %harg5', Harg5⟩, ⟨%farg8, %harg8', Harg8⟩, ⟨%farg9, %harg9', Harg9⟩, ⟨%farg10, %harg10', Harg10⟩, ⟨%farg18, %harg18', Harg18⟩, ⟨%farg20, %harg20', Harg20⟩, ⟨%darg12, %farg12, -, Harg12⟩, ⟨%darg19, %farg19, -, Harg19⟩, Hk⟩
  subst harg3' harg4' harg5' harg8' harg9' harg10' harg18' harg20'
  sl_exec
  have hP : ∀ p ∈ tripleB.sl.Harg19_32 c arg4 arg5 farg4 farg5, ∀ x, p.2 x
      = HD (arg4.view.read (Elt F) farg4) (arg5.view.read (Elt F) farg5) (p.1.emb x) := by
    unfold tripleB.sl.Harg19_32
    refine View.PiecesOf.mem ?_
    exact ⟨fun x => pay_h _ _ 31 3968 rfl _ _ inb_S512x4096_S512x128_0_3968 x, fun x => pay_h _ _ 30 3840 rfl _ _ inb_S512x4096_S512x128_0_3840 x, fun x => pay_h _ _ 29 3712 rfl _ _ inb_S512x4096_S512x128_0_3712 x, fun x => pay_h _ _ 28 3584 rfl _ _ inb_S512x4096_S512x128_0_3584 x, fun x => pay_h _ _ 27 3456 rfl _ _ inb_S512x4096_S512x128_0_3456 x, fun x => pay_h _ _ 26 3328 rfl _ _ inb_S512x4096_S512x128_0_3328 x, fun x => pay_h _ _ 25 3200 rfl _ _ inb_S512x4096_S512x128_0_3200 x, fun x => pay_h _ _ 24 3072 rfl _ _ inb_S512x4096_S512x128_0_3072 x, fun x => pay_h _ _ 23 2944 rfl _ _ inb_S512x4096_S512x128_0_2944 x, fun x => pay_h _ _ 22 2816 rfl _ _ inb_S512x4096_S512x128_0_2816 x, fun x => pay_h _ _ 21 2688 rfl _ _ inb_S512x4096_S512x128_0_2688 x, fun x => pay_h _ _ 20 2560 rfl _ _ inb_S512x4096_S512x128_0_2560 x, fun x => pay_h _ _ 19 2432 rfl _ _ inb_S512x4096_S512x128_0_2432 x, fun x => pay_h _ _ 18 2304 rfl _ _ inb_S512x4096_S512x128_0_2304 x, fun x => pay_h _ _ 17 2176 rfl _ _ inb_S512x4096_S512x128_0_2176 x, fun x => pay_h _ _ 16 2048 rfl _ _ inb_S512x4096_S512x128_0_2048 x, fun x => pay_h _ _ 15 1920 rfl _ _ inb_S512x4096_S512x128_0_1920 x, fun x => pay_h _ _ 14 1792 rfl _ _ inb_S512x4096_S512x128_0_1792 x, fun x => pay_h _ _ 13 1664 rfl _ _ inb_S512x4096_S512x128_0_1664 x, fun x => pay_h _ _ 12 1536 rfl _ _ inb_S512x4096_S512x128_0_1536 x, fun x => pay_h _ _ 11 1408 rfl _ _ inb_S512x4096_S512x128_0_1408 x, fun x => pay_h _ _ 10 1280 rfl _ _ inb_S512x4096_S512x128_0_1280 x, fun x => pay_h _ _ 9 1152 rfl _ _ inb_S512x4096_S512x128_0_1152 x, fun x => pay_h _ _ 8 1024 rfl _ _ inb_S512x4096_S512x128_0_1024 x, fun x => pay_h _ _ 7 896 rfl _ _ inb_S512x4096_S512x128_0_896 x, fun x => pay_h _ _ 6 768 rfl _ _ inb_S512x4096_S512x128_0_768 x, fun x => pay_h _ _ 5 640 rfl _ _ inb_S512x4096_S512x128_0_640 x, fun x => pay_h _ _ 4 512 rfl _ _ inb_S512x4096_S512x128_0_512 x, fun x => pay_h _ _ 3 384 rfl _ _ inb_S512x4096_S512x128_0_384 x, fun x => pay_h _ _ 2 256 rfl _ _ inb_S512x4096_S512x128_0_256 x, fun x => pay_h _ _ 1 128 rfl _ _ inb_S512x4096_S512x128_0_128 x, fun x => pay_h _ _ 0 0 rfl _ _ inb_S512x4096_S512x128_0_0 x, trivial⟩
  have hC : ∀ y : S512x4096.Idx, ∃ p ∈ tripleB.sl.Harg19_32 c arg4 arg5 farg4 farg5, y ∈ p.1.set := by
    unfold tripleB.sl.Harg19_32
    exact fun y => View.cover_of_tiled (s := S512x4096) _ ![512, 128] (by rfl) y
  have hv : tripleB.sl.v404 c arg4 arg5 arg19 farg4 farg5 = HD (arg4.view.read (Elt F) farg4) (arg5.view.read (Elt F) farg5) := by
    unfold tripleB.sl.v404
    refine (View.readCov_eq_canon _ _ _ (fun j => hC _)).trans ?_
    funext j
    refine (View.canon_apply_of_pieces _ _ hP _ (hC _)).trans ?_
    exact congrFun (View.ld_unit_zero z2 inb_S512x4096_S512x4096_0_0 (HD (arg4.view.read (Elt F) farg4) (arg5.view.read (Elt F) farg5))) j
  iapply Hk
  isplitl [Harg3]
  · iexists farg3; isplitr; · ipureintro; rfl
    iexact Harg3
  isplitl [Harg4]
  · iexists farg4; isplitr; · ipureintro; rfl
    iexact Harg4
  isplitl [Harg5]
  · iexists farg5; isplitr; · ipureintro; rfl
    iexact Harg5
  isplitl [Harg8]
  · iexists farg8; isplitr; · ipureintro; rfl
    iexact Harg8
  isplitl [Harg9]
  · iexists farg9; isplitr; · ipureintro; rfl
    iexact Harg9
  isplitl [Harg10]
  · iexists farg10; isplitr; · ipureintro; rfl
    iexact Harg10
  isplitl [Harg18]
  · iexists farg18; isplitr; · ipureintro; rfl
    iexact Harg18
  isplitl [Harg12]
  · iexists _; isplitr
    swap; · iexact Harg12
    ipureintro
    refine (read_whole1 _ _ _ z3 _ _).trans ?_
    unfold tripleB.sl.r_11
    rw [hv, readAt_whole arg18.view _ _ z2, readAt_whole arg3.view _ _ z3, readAt_whole arg8.view _ _ z2, readAt_whole arg9.view _ _ z2, readAt_whole arg10.view _ _ z2]
  isplitl [Harg19]
  · iexists _; isplitr
    swap; · iexact Harg19
    ipureintro
    refine (View.read_writes_eq_canon _ _ _ hC).trans ?_
    funext y
    exact View.canon_apply_of_pieces _ _ hP y (hC y)
  iexists _; isplitr
  swap; · iexact Harg20
  ipureintro
  unfold tripleB.sl.r_11
  rw [hv, readAt_whole arg18.view _ _ z2, readAt_whole arg3.view _ _ z3, readAt_whole arg8.view _ _ z2, readAt_whole arg9.view _ _ z2, readAt_whole arg10.view _ _ z2]
  exact read_ma _ _ i v6 _ _ _ _ _ _ _ _

set_option maxHeartbeats 4000000 in
/-- The third stretch leaves zeros in the tile. -/
theorem tripleC (c : Dev nD) (E : Set ℕ) (arg12 : Memref sig .tc .vmem S1x512x1024 .f32)
     (k : Prog (TpuEff nD τ sig (Elt F) Λ₀ .tc) PUnit) (K : PUnit → sProp 𝕄) :
    iprop((∃ d, owns (c : Thread nD τ) arg12 fullShare d)
        ∗ (iprop(owns (c : Thread nD τ) arg12 fullShare (k0_pay6 (F := F))) -∗ wp frame (wpE (defs₀ (F := F)) Variants.none (c : Thread nD τ) none) E k K))
      ⊢ wp frame (wpE (defs₀ (F := F)) Variants.none (c : Thread nD τ) none) E (kernC arg12 k) K := by
  unfold kernC

  unfold owns
  iintro ⟨⟨%darg12, %farg12, -, Harg12⟩, Hk⟩
  sl_exec
  iapply Hk
  iexists _; isplitr
  swap; · iexact Harg12
  ipureintro
  exact read_whole1 _ _ _ z3 _ _

set_option maxHeartbeats 4000000 in
/-- The last stretch. -/
theorem tripleD (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole)
    (X11 : Vec F S6x1 .i32) (X20 : Vec F S6x8x1024 .f32) (k : Prog (TpuEff nD τ sig (Elt F) Λ₀ .tc) PUnit) (K : PUnit → sProp 𝕄) :
    iprop(owns (c : Thread nD τ) arg11 fullShare X11 ∗ owns (c : Thread nD τ) arg20 fullShare X20 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg11 fullShare X11 ∗ owns (c : Thread nD τ) arg20 fullShare X20 ∗ owns (c : Thread nD τ) arg13 fullShare (k0_pay60 X20 X11) ∗ owns (c : Thread nD τ) arg14 fullShare (k0_pay63 X20 X11) ∗ owns (c : Thread nD τ) arg15 fullShare (k0_pay62 X20 X11) ∗ owns (c : Thread nD τ) arg16 fullShare (k0_pay9 (k0_pay64 X20 X11) (k0_pay65 X20 X11)) ∗ owns (c : Thread nD τ) arg17 fullShare (k0_pay8 (k0_pay64 X20 X11) (k0_pay65 X20 X11))) -∗ wp frame (wpE (defs₀ (F := F)) Variants.none (c : Thread nD τ) none) E k K))
      ⊢ wp frame (wpE (defs₀ (F := F)) Variants.none (c : Thread nD τ) none) E (kernD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k) K := by
  unfold kernD
  simp only [k0_part15_eq_skeleton]
  unfold owns
  iintro ⟨⟨%farg11, %harg11', Harg11⟩, ⟨%farg20, %harg20', Harg20⟩, ⟨%darg13, %farg13, -, Harg13⟩, ⟨%darg14, %farg14, -, Harg14⟩, ⟨%darg15, %farg15, -, Harg15⟩, ⟨%darg16, %farg16, -, Harg16⟩, ⟨%darg17, %farg17, -, Harg17⟩, Hk⟩
  subst harg11' harg20'
  sl_exec
  iapply Hk
  isplitl [Harg11]
  · iexists farg11; isplitr; · ipureintro; rfl
    iexact Harg11
  isplitl [Harg20]
  · iexists farg20; isplitr; · ipureintro; rfl
    iexact Harg20
  isplitl [Harg13]
  · iexists _; isplitr
    swap; · iexact Harg13
    ipureintro
    refine (read_whole1 _ _ _ z2 _ _).trans ?_
    rw [readAt_whole _ _ _ z3, readAt_whole _ _ _ z2]
  isplitl [Harg14]
  · iexists _; isplitr
    swap; · iexact Harg14
    ipureintro
    refine (read_whole1 _ _ _ z2 _ _).trans ?_
    rw [readAt_whole _ _ _ z3, readAt_whole _ _ _ z2]
  isplitl [Harg15]
  · iexists _; isplitr
    swap; · iexact Harg15
    ipureintro
    refine (read_whole1 _ _ _ z2 _ _).trans ?_
    rw [readAt_whole _ _ _ z3, readAt_whole _ _ _ z2]
  isplitl [Harg16]
  · iexists _; isplitr
    swap; · iexact Harg16
    ipureintro
    refine (read_whole1 _ _ _ z2 _ _).trans ?_
    unfold tripleD.sl.r tripleD.sl.r_1
    rw [readAt_whole _ _ _ z3, readAt_whole _ _ _ z2]
  iexists _; isplitr
  swap; · iexact Harg17
  ipureintro
  refine (read_whole1 _ _ _ z2 _ _).trans ?_
  unfold tripleD.sl.r tripleD.sl.r_1
  rw [readAt_whole _ _ _ z3, readAt_whole _ _ _ z2]

end Cert.KernelIdeal.Hand
end
-- ==== Proof.KI.Whole.lean ====
/- THE WHOLE BODY of the kernel as one triple: its four conditional stretches composed; what each of the body's four conditional stretches does to the buffers it touches,
   for whole staging buffers at any contents and any float interpretation. -/
module

public import proofs.«01_k».proof.Proof.KI.Triples
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx
open Cert.KernelIdeal Cert.KernelIdeal.Gen

variable {F : FTy → Type} [FloatOps F]

local notation "𝕄" => MT nD τ sig Unit (Elt F) ℕ (UR sig nD τ) ℕ

/-- The third stretch runs exactly where the second does not. -/
theorem cond3_iff (i : grid0.Coords) (v : BitVec 32) : k0_cond3 i v = 1#1 ↔ ¬ k0_cond2 i v = 1#1 := by
  unfold k0_cond3 k0_cond2
  dsimp only
  generalize Scalar.subi v (Scalar.muli (BitVec.ofNat 32 (i 1).val) 512#32) = x
  have e : BitVec.sle x 0#32 = !(BitVec.slt 0#32 x) := BitVec.sle_eq_not_slt
  show Scalar.cmpi .ne (Scalar.extui (BitVec.ofBool (BitVec.sle x 0#32))) 0#32 = 1#1 ↔ ¬ Scalar.cmpi .ne (Scalar.extui (BitVec.ofBool (BitVec.slt 0#32 x))) 0#32 = 1#1
  rw [e]
  cases BitVec.slt 0#32 x <;> decide

/-- The word of the length table the body reads at a point: its row's length. -/
def lenAt (X2 : Vec F S6 .i32) (i : grid0.Coords) : BitVec 32 :=
  X2 ((Rect.unit (s := S6) (k0_off1 i) S1.size (k0_off1_inb i)).emb (Shape.Idx.first (s := S1) (by rw [numel1_S1]; exact Nat.one_pos)))

/-- The weight scratch after a point. -/
def W18 (i : grid0.Coords) (X6 : Vec F S4096x1024 .fp8e4m3) (X7 : Vec F S32x8 .f32) (Y18 : Vec F S4096x1024 .bf16) : Vec F S4096x1024 .bf16 :=
  if k0_cond1 i = 1#1 then WD X6 X7 else Y18
/-- The running sums as a point finds them: zeroed at the first. -/
def Z20 (i : grid0.Coords) (Y20 : Vec F S6x8x1024 .f32) : Vec F S6x8x1024 .f32 :=
  if k0_cond1 i = 1#1 then k0_pay1 else Y20
/-- The running sums after a point. -/
def M20 (i : grid0.Coords) (v6 : Elt F .i32) (X19 : Vec F S512x4096 .bf16) (X18 : Vec F S4096x1024 .bf16) (X3 : Vec F S1x512x1024 .bf16) (X8 : Vec F S1x1024 .f32) (X9 : Vec F S1x1024 .f32) (X10 : Vec F S1x1024 .f32) (X20 : Vec F S6x8x1024 .f32) : Vec F S6x8x1024 .f32 :=
  if k0_cond2 i v6 = 1#1 then MA i v6 X19 X18 X3 X8 X9 X10 X20 else X20
/-- The output tile of a point. -/
def T12 (i : grid0.Coords) (v6 : Elt F .i32) (X19 : Vec F S512x4096 .bf16) (X18 : Vec F S4096x1024 .bf16) (X3 : Vec F S1x512x1024 .bf16) (X8 : Vec F S1x1024 .f32) (X9 : Vec F S1x1024 .f32) (X10 : Vec F S1x1024 .f32) : Vec F S1x512x1024 .f32 :=
  if k0_cond2 i v6 = 1#1 then k0_pay4 i v6 (k0_pay59 X19 X18 X3 X8 X9) X10 else k0_pay6
/-- What argument 13 holds after a point: written at the last one only. -/
def O13 (i : grid0.Coords) (X20 : Vec F S6x8x1024 .f32) (X11 : Vec F S6x1 .i32) (Y : Vec F S6x1024 .f32) : Vec F S6x1024 .f32 :=
  if k0_cond4 i = 1#1 then (k0_pay60 X20 X11) else Y
/-- What argument 14 holds after a point: written at the last one only. -/
def O14 (i : grid0.Coords) (X20 : Vec F S6x8x1024 .f32) (X11 : Vec F S6x1 .i32) (Y : Vec F S6x1024 .i8) : Vec F S6x1024 .i8 :=
  if k0_cond4 i = 1#1 then (k0_pay63 X20 X11) else Y
/-- What argument 15 holds after a point: written at the last one only. -/
def O15 (i : grid0.Coords) (X20 : Vec F S6x8x1024 .f32) (X11 : Vec F S6x1 .i32) (Y : Vec F S6x1 .f32) : Vec F S6x1 .f32 :=
  if k0_cond4 i = 1#1 then (k0_pay62 X20 X11) else Y
/-- What argument 16 holds after a point: written at the last one only. -/
def O16 (i : grid0.Coords) (X20 : Vec F S6x8x1024 .f32) (X11 : Vec F S6x1 .i32) (Y : Vec F S6x256 .i8) : Vec F S6x256 .i8 :=
  if k0_cond4 i = 1#1 then (k0_pay9 (k0_pay64 X20 X11) (k0_pay65 X20 X11)) else Y
/-- What argument 17 holds after a point: written at the last one only. -/
def O17 (i : grid0.Coords) (X20 : Vec F S6x8x1024 .f32) (X11 : Vec F S6x1 .i32) (Y : Vec F S6x1 .f32) : Vec F S6x1 .f32 :=
  if k0_cond4 i = 1#1 then (k0_pay8 (k0_pay64 X20 X11) (k0_pay65 X20 X11)) else Y

/-- The first stretch under its condition. -/
theorem stA (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (X6 : Vec F S4096x1024 .fp8e4m3) (X7 : Vec F S32x8 .f32) (Y18 : Vec F S4096x1024 .bf16) (Y20 : Vec F S6x8x1024 .f32) (k : Prog (TpuEff nD τ sig (Elt F) Λ₀ .tc) PUnit) (K : PUnit → sProp 𝕄) :
    iprop(owns (c : Thread nD τ) arg6 fullShare X6 ∗ owns (c : Thread nD τ) arg7 fullShare X7 ∗ owns (c : Thread nD τ) arg18 fullShare Y18 ∗ owns (c : Thread nD τ) arg20 fullShare Y20 ∗ (iprop(owns (c : Thread nD τ) arg6 fullShare X6 ∗ owns (c : Thread nD τ) arg7 fullShare X7 ∗ owns (c : Thread nD τ) arg18 fullShare (W18 i X6 X7 Y18) ∗ owns (c : Thread nD τ) arg20 fullShare (Z20 i Y20)) -∗ wp frame (wpE (defs₀ (F := F)) Variants.none (c : Thread nD τ) none) E k K))
      ⊢ wp frame (wpE (defs₀ (F := F)) Variants.none (c : Thread nD τ) none) E (if k0_h1 : k0_cond1 i = 1#1 then kernA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 k else k) K := by
  unfold W18 Z20
  by_cases h : k0_cond1 i = 1#1
  · rw [dif_pos h, if_pos h, if_pos h]
    refine BIBase.Entails.trans ?_ (tripleA c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h X6 X7 k K)
    iintro ⟨H6, H7, H18, H20, Hk⟩
    isplitl [H6]; · iexact H6
    isplitl [H7]; · iexact H7
    isplitl [H18]; · iexists Y18; iexact H18
    isplitl [H20]; · iexists Y20; iexact H20
    iexact Hk
  · rw [dif_neg h, if_neg h, if_neg h]
    iintro ⟨H6, H7, H18, H20, Hk⟩
    iapply Hk
    isplitl [H6]; · iexact H6
    isplitl [H7]; · iexact H7
    isplitl [H18]; · iexact H18
    iexact H20

/-- The last stretch under its condition. -/
theorem stD (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (X11 : Vec F S6x1 .i32) (X20 : Vec F S6x8x1024 .f32) (Y13 : Vec F S6x1024 .f32) (Y14 : Vec F S6x1024 .i8) (Y15 : Vec F S6x1 .f32) (Y16 : Vec F S6x256 .i8) (Y17 : Vec F S6x1 .f32) (k : Prog (TpuEff nD τ sig (Elt F) Λ₀ .tc) PUnit) (K : PUnit → sProp 𝕄) :
    iprop(owns (c : Thread nD τ) arg11 fullShare X11 ∗ owns (c : Thread nD τ) arg20 fullShare X20 ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ (iprop(owns (c : Thread nD τ) arg11 fullShare X11 ∗ owns (c : Thread nD τ) arg20 fullShare X20 ∗ owns (c : Thread nD τ) arg13 fullShare (O13 i X20 X11 Y13) ∗ owns (c : Thread nD τ) arg14 fullShare (O14 i X20 X11 Y14) ∗ owns (c : Thread nD τ) arg15 fullShare (O15 i X20 X11 Y15) ∗ owns (c : Thread nD τ) arg16 fullShare (O16 i X20 X11 Y16) ∗ owns (c : Thread nD τ) arg17 fullShare (O17 i X20 X11 Y17)) -∗ wp frame (wpE (defs₀ (F := F)) Variants.none (c : Thread nD τ) none) E k K))
      ⊢ wp frame (wpE (defs₀ (F := F)) Variants.none (c : Thread nD τ) none) E (if k0_h4 : k0_cond4 i = 1#1 then kernD i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k else k) K := by
  unfold O13 O14 O15 O16 O17
  by_cases h : k0_cond4 i = 1#1
  · rw [dif_pos h, if_pos h, if_pos h, if_pos h, if_pos h, if_pos h]
    refine BIBase.Entails.trans ?_ (tripleD c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X11 X20 k K)
    iintro ⟨Harg11, Harg20, Harg13, Harg14, Harg15, Harg16, Harg17, Hk⟩
    isplitl [Harg11]; · iexact Harg11
    isplitl [Harg20]; · iexact Harg20
    isplitl [Harg13]; · iexists Y13; iexact Harg13
    isplitl [Harg14]; · iexists Y14; iexact Harg14
    isplitl [Harg15]; · iexists Y15; iexact Harg15
    isplitl [Harg16]; · iexists Y16; iexact Harg16
    isplitl [Harg17]; · iexists Y17; iexact Harg17
    iintro ⟨Harg11, Harg20, Harg13, Harg14, Harg15, Harg16, Harg17⟩
    iapply Hk
    isplitl [Harg11]; · iexact Harg11
    isplitl [Harg20]; · iexact Harg20
    isplitl [Harg13]; · iexact Harg13
    isplitl [Harg14]; · iexact Harg14
    isplitl [Harg15]; · iexact Harg15
    isplitl [Harg16]; · iexact Harg16
    iexact Harg17
  · rw [dif_neg h, if_neg h, if_neg h, if_neg h, if_neg h, if_neg h]
    iintro ⟨Harg11, Harg20, Harg13, Harg14, Harg15, Harg16, Harg17, Hk⟩
    iapply Hk
    isplitl [Harg11]; · iexact Harg11
    isplitl [Harg20]; · iexact Harg20
    isplitl [Harg13]; · iexact Harg13
    isplitl [Harg14]; · iexact Harg14
    isplitl [Harg15]; · iexact Harg15
    isplitl [Harg16]; · iexact Harg16
    iexact Harg17

/-- The second and third stretches under their conditions: one of the two runs. -/
theorem stBC (c : Dev nD) (E : Set ℕ) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (v6 : Elt F .i32) (X3 : Vec F S1x512x1024 .bf16) (X4 : Vec F S1x512x4096 .fp8e4m3) (X5 : Vec F S1x512x32 .f32) (X8 : Vec F S1x1024 .f32) (X9 : Vec F S1x1024 .f32) (X10 : Vec F S1x1024 .f32) (X18 : Vec F S4096x1024 .bf16) (X20 : Vec F S6x8x1024 .f32) (k : Prog (TpuEff nD τ sig (Elt F) Λ₀ .tc) PUnit) (K : PUnit → sProp 𝕄) :
    iprop(owns (c : Thread nD τ) arg3 fullShare X3 ∗ owns (c : Thread nD τ) arg4 fullShare X4 ∗ owns (c : Thread nD τ) arg5 fullShare X5 ∗ owns (c : Thread nD τ) arg8 fullShare X8 ∗ owns (c : Thread nD τ) arg9 fullShare X9 ∗ owns (c : Thread nD τ) arg10 fullShare X10 ∗ owns (c : Thread nD τ) arg18 fullShare X18 ∗ owns (c : Thread nD τ) arg20 fullShare X20 ∗ (∃ d, owns (c : Thread nD τ) arg12 fullShare d) ∗ (∃ d, owns (c : Thread nD τ) arg19 fullShare d) ∗ (iprop(owns (c : Thread nD τ) arg3 fullShare X3 ∗ owns (c : Thread nD τ) arg4 fullShare X4 ∗ owns (c : Thread nD τ) arg5 fullShare X5 ∗ owns (c : Thread nD τ) arg8 fullShare X8 ∗ owns (c : Thread nD τ) arg9 fullShare X9 ∗ owns (c : Thread nD τ) arg10 fullShare X10 ∗ owns (c : Thread nD τ) arg18 fullShare X18 ∗ owns (c : Thread nD τ) arg12 fullShare (T12 i v6 (HD X4 X5) X18 X3 X8 X9 X10) ∗ (∃ d, owns (c : Thread nD τ) arg19 fullShare d) ∗ owns (c : Thread nD τ) arg20 fullShare (M20 i v6 (HD X4 X5) X18 X3 X8 X9 X10 X20)) -∗ wp frame (wpE (defs₀ (F := F)) Variants.none (c : Thread nD τ) none) E k K))
      ⊢ wp frame (wpE (defs₀ (F := F)) Variants.none (c : Thread nD τ) none) E (if k0_h2 : k0_cond2 i v6 = 1#1 then kernB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 (if k0_h3 : k0_cond3 i v6 = 1#1 then kernC arg12 k else k) else (if k0_h3 : k0_cond3 i v6 = 1#1 then kernC arg12 k else k)) K := by
  unfold T12 M20
  by_cases h : k0_cond2 i v6 = 1#1
  · have h3 : ¬ k0_cond3 i v6 = 1#1 := fun h3 => (cond3_iff i v6).1 h3 h
    rw [dif_pos h, dif_neg h3, if_pos h, if_pos h]
    refine BIBase.Entails.trans ?_ (tripleB c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 X3 X4 X5 X8 X9 X10 X18 X20 k K)
    iintro ⟨Harg3, Harg4, Harg5, Harg8, Harg9, Harg10, Harg18, Harg20, Harg12, Harg19, Hk⟩
    isplitl [Harg3]; · iexact Harg3
    isplitl [Harg4]; · iexact Harg4
    isplitl [Harg5]; · iexact Harg5
    isplitl [Harg8]; · iexact Harg8
    isplitl [Harg9]; · iexact Harg9
    isplitl [Harg10]; · iexact Harg10
    isplitl [Harg18]; · iexact Harg18
    isplitl [Harg20]; · iexact Harg20
    isplitl [Harg12]; · iexact Harg12
    isplitl [Harg19]; · iexact Harg19
    iintro ⟨Harg3, Harg4, Harg5, Harg8, Harg9, Harg10, Harg18, Harg12, Harg19, Harg20⟩
    iapply Hk
    isplitl [Harg3]; · iexact Harg3
    isplitl [Harg4]; · iexact Harg4
    isplitl [Harg5]; · iexact Harg5
    isplitl [Harg8]; · iexact Harg8
    isplitl [Harg9]; · iexact Harg9
    isplitl [Harg10]; · iexact Harg10
    isplitl [Harg18]; · iexact Harg18
    isplitl [Harg12]; · iexact Harg12
    isplitl [Harg19]; · iexists _; iexact Harg19
    iexact Harg20
  · have h3 : k0_cond3 i v6 = 1#1 := (cond3_iff i v6).2 h
    rw [dif_neg h, dif_pos h3, if_neg h, if_neg h]
    refine BIBase.Entails.trans ?_ (tripleC c E arg12 k K)
    iintro ⟨Harg3, Harg4, Harg5, Harg8, Harg9, Harg10, Harg18, Harg20, Harg12, Harg19, Hk⟩
    isplitl [Harg12]; · iexact Harg12
    iintro Harg12
    iapply Hk
    isplitl [Harg3]; · iexact Harg3
    isplitl [Harg4]; · iexact Harg4
    isplitl [Harg5]; · iexact Harg5
    isplitl [Harg8]; · iexact Harg8
    isplitl [Harg9]; · iexact Harg9
    isplitl [Harg10]; · iexact Harg10
    isplitl [Harg18]; · iexact Harg18
    isplitl [Harg12]; · iexact Harg12
    isplitl [Harg19]; · iexact Harg19
    iexact Harg20

/-- The load of the point's length. -/
theorem stLoad (c : Dev nD) (E : Set ℕ) (i : grid0.Coords) (arg2 : Memref sig .tc .smem S6 .i32) (q : PosShare TreeShare) (X2 : Vec F S6 .i32) (rest : BitVec 32 → Prog (TpuEff nD τ sig (Elt F) Λ₀ .tc) PUnit) (K : PUnit → sProp 𝕄) :
    iprop(owns (c : Thread nD τ) arg2 q X2 ∗ (iprop(owns (c : Thread nD τ) arg2 q X2) -∗ wp frame (wpE (defs₀ (F := F)) Variants.none (c : Thread nD τ) none) E (rest (lenAt X2 i)) K))
      ⊢ wp frame (wpE (defs₀ (F := F)) Variants.none (c : Thread nD τ) none) E (smemLoad arg2 (Rect.unit (s := S6) (k0_off1 i) S1.size (k0_off1_inb i)) numel1_S1 rfl >>= fun v6 : Elt F .i32 => rest v6) K := by
  unfold owns
  iintro ⟨⟨%f2, %h2, H2⟩, Hk⟩
  subst h2
  sl_exec
  iapply Hk
  iexists f2; isplitr; · ipureintro; rfl
  iexact H2

set_option maxHeartbeats 4000000 in
/-- The whole body at a grid point, from any contents of its buffers. -/
theorem sound_kernel (c : Dev nD) (E : Set ℕ) (q : PosShare TreeShare) (i : grid0.Coords) (arg2 : Memref sig .tc .smem S6 .i32) (harg2 : arg2.IsWhole) (arg3 : Memref sig .tc .vmem S1x512x1024 .bf16) (harg3 : arg3.IsWhole) (arg4 : Memref sig .tc .vmem S1x512x4096 .fp8e4m3) (harg4 : arg4.IsWhole) (arg5 : Memref sig .tc .vmem S1x512x32 .f32) (harg5 : arg5.IsWhole) (arg6 : Memref sig .tc .vmem S4096x1024 .fp8e4m3) (harg6 : arg6.IsWhole) (arg7 : Memref sig .tc .smem S32x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S6x1 .i32) (harg11 : arg11.IsWhole) (arg12 : Memref sig .tc .vmem S1x512x1024 .f32) (harg12 : arg12.IsWhole) (arg13 : Memref sig .tc .vmem S6x1024 .f32) (harg13 : arg13.IsWhole) (arg14 : Memref sig .tc .vmem S6x1024 .i8) (harg14 : arg14.IsWhole) (arg15 : Memref sig .tc .vmem S6x1 .f32) (harg15 : arg15.IsWhole) (arg16 : Memref sig .tc .vmem S6x256 .i8) (harg16 : arg16.IsWhole) (arg17 : Memref sig .tc .vmem S6x1 .f32) (harg17 : arg17.IsWhole) (arg18 : Memref sig .tc .vmem S4096x1024 .bf16) (harg18 : arg18.IsWhole) (arg19 : Memref sig .tc .vmem S512x4096 .bf16) (harg19 : arg19.IsWhole) (arg20 : Memref sig .tc .vmem S6x8x1024 .f32) (harg20 : arg20.IsWhole) (X2 : Vec F S6 .i32) (X3 : Vec F S1x512x1024 .bf16) (X4 : Vec F S1x512x4096 .fp8e4m3) (X5 : Vec F S1x512x32 .f32) (X6 : Vec F S4096x1024 .fp8e4m3) (X7 : Vec F S32x8 .f32) (X8 : Vec F S1x1024 .f32) (X9 : Vec F S1x1024 .f32) (X10 : Vec F S1x1024 .f32) (X11 : Vec F S6x1 .i32) (Y13 : Vec F S6x1024 .f32) (Y14 : Vec F S6x1024 .i8) (Y15 : Vec F S6x1 .f32) (Y16 : Vec F S6x256 .i8) (Y17 : Vec F S6x1 .f32) (Y18 : Vec F S4096x1024 .bf16) (Y20 : Vec F S6x8x1024 .f32) (K : PUnit → sProp 𝕄) :
    iprop(owns (c : Thread nD τ) arg2 q X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ (∃ d, owns (c : Thread nD τ) arg12 fullShare d) ∗ owns (c : Thread nD τ) arg13 fullShare Y13 ∗ owns (c : Thread nD τ) arg14 fullShare Y14 ∗ owns (c : Thread nD τ) arg15 fullShare Y15 ∗ owns (c : Thread nD τ) arg16 fullShare Y16 ∗ owns (c : Thread nD τ) arg17 fullShare Y17 ∗ owns (c : Thread nD τ) arg18 fullShare Y18 ∗ (∃ d, owns (c : Thread nD τ) arg19 fullShare d) ∗ owns (c : Thread nD τ) arg20 fullShare Y20
        ∗ (iprop(owns (c : Thread nD τ) arg2 q X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare (T12 i (lenAt X2 i) (HD X4 X5) (W18 i X6 X7 Y18) X3 X8 X9 X10) ∗ owns (c : Thread nD τ) arg13 fullShare (O13 i (M20 i (lenAt X2 i) (HD X4 X5) (W18 i X6 X7 Y18) X3 X8 X9 X10 (Z20 i Y20)) X11 Y13) ∗ owns (c : Thread nD τ) arg14 fullShare (O14 i (M20 i (lenAt X2 i) (HD X4 X5) (W18 i X6 X7 Y18) X3 X8 X9 X10 (Z20 i Y20)) X11 Y14) ∗ owns (c : Thread nD τ) arg15 fullShare (O15 i (M20 i (lenAt X2 i) (HD X4 X5) (W18 i X6 X7 Y18) X3 X8 X9 X10 (Z20 i Y20)) X11 Y15) ∗ owns (c : Thread nD τ) arg16 fullShare (O16 i (M20 i (lenAt X2 i) (HD X4 X5) (W18 i X6 X7 Y18) X3 X8 X9 X10 (Z20 i Y20)) X11 Y16) ∗ owns (c : Thread nD τ) arg17 fullShare (O17 i (M20 i (lenAt X2 i) (HD X4 X5) (W18 i X6 X7 Y18) X3 X8 X9 X10 (Z20 i Y20)) X11 Y17) ∗ owns (c : Thread nD τ) arg18 fullShare (W18 i X6 X7 Y18) ∗ (∃ d, owns (c : Thread nD τ) arg19 fullShare d) ∗ owns (c : Thread nD τ) arg20 fullShare (M20 i (lenAt X2 i) (HD X4 X5) (W18 i X6 X7 Y18) X3 X8 X9 X10 (Z20 i Y20))) -∗ K ⟨⟩))
      ⊢ wp frame (wpE (defs₀ (F := F)) Variants.none (c : Thread nD τ) none) E (cc0__body_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_eq]
  dsimp only
  iintro ⟨Harg2, Harg3, Harg4, Harg5, Harg6, Harg7, Harg8, Harg9, Harg10, Harg11, Harg12, Harg13, Harg14, Harg15, Harg16, Harg17, Harg18, Harg19, Harg20, Hk⟩
  iapply (stA c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X7 Y18 Y20 _ K)
  isplitl [Harg6]; · iexact Harg6
  isplitl [Harg7]; · iexact Harg7
  isplitl [Harg18]; · iexact Harg18
  isplitl [Harg20]; · iexact Harg20
  iintro ⟨Harg6, Harg7, Harg18, Harg20⟩
  iapply (stLoad c E i arg2 q X2 _ K)
  isplitl [Harg2]; · iexact Harg2
  iintro Harg2
  iapply (stBC c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (lenAt X2 i) X3 X4 X5 X8 X9 X10 (W18 i X6 X7 Y18) (Z20 i Y20) _ K)
  isplitl [Harg3]; · iexact Harg3
  isplitl [Harg4]; · iexact Harg4
  isplitl [Harg5]; · iexact Harg5
  isplitl [Harg8]; · iexact Harg8
  isplitl [Harg9]; · iexact Harg9
  isplitl [Harg10]; · iexact Harg10
  isplitl [Harg18]; · iexact Harg18
  isplitl [Harg20]; · iexact Harg20
  isplitl [Harg12]; · iexact Harg12
  isplitl [Harg19]; · iexact Harg19
  iintro ⟨Harg3, Harg4, Harg5, Harg8, Harg9, Harg10, Harg18, Harg12, Harg19, Harg20⟩
  iapply (stD c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X11 (M20 i (lenAt X2 i) (HD X4 X5) (W18 i X6 X7 Y18) X3 X8 X9 X10 (Z20 i Y20)) Y13 Y14 Y15 Y16 Y17 _ K)
  isplitl [Harg11]; · iexact Harg11
  isplitl [Harg20]; · iexact Harg20
  isplitl [Harg13]; · iexact Harg13
  isplitl [Harg14]; · iexact Harg14
  isplitl [Harg15]; · iexact Harg15
  isplitl [Harg16]; · iexact Harg16
  isplitl [Harg17]; · iexact Harg17
  iintro ⟨Harg11, Harg20, Harg13, Harg14, Harg15, Harg16, Harg17⟩
  sl_step
  iapply Hk
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  isplitl [Harg17]; · iexact Harg17
  isplitl [Harg18]; · iexact Harg18
  isplitl [Harg19]; · iexact Harg19
  iexact Harg20

end Cert.KernelIdeal.Hand
end
-- ==== Proof.KI.Adm.lean ====
/- THE TABLE OF LENGTHS: every table is admissible (the tile fetched is always one of the sixteen), and
   which tile is fetched. -/
module

public import proofs.«01_k».proof.Proof.KI.Whole
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx
open Cert.KernelIdeal Cert.KernelIdeal.Gen

variable {F : FTy → Type} [FloatOps F]

local notation "𝕄" => MT nD τ sig Unit (Elt F) ℕ (UR sig nD τ) ℕ

/-- The tile fetched for tile `t` of a row of length `n`: `t`, or the last tile the row reaches into, the lesser. -/
def tileOf (n : BitVec 32) (t : ℕ) : BitVec 32 :=
  let v3 : BitVec 32 := Scalar.subi (Scalar.addi n 512#32) 1#32
  let v4 : BitVec 32 := Scalar.divsi v3 512#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt (512#32 : BitVec 32) 0#32)) (Scalar.extui (Scalar.cmpi .slt (512#32 : BitVec 32) 0#32))
  let v18 : BitVec 1 := Scalar.andi (Scalar.cmpi .ne v9 v14) (Scalar.cmpi .ne (Scalar.remsi v3 512#32) 0#32)
  let v20 : BitVec 32 := Scalar.select v18 (Scalar.subi v4 1#32) v4
  Scalar.minsi (BitVec.ofNat 32 t) (Scalar.maxsi (Scalar.subi v20 1#32) 0#32)

/-- The lesser of a tile number and something not negative is a tile number no greater. -/
theorem min_max_le (t : ℕ) (ht : t < 16) (x : BitVec 32) :
    (Scalar.minsi (BitVec.ofNat 32 t) (Scalar.maxsi x 0#32)).toNat ≤ t := by
  have e : (BitVec.ofNat 32 t).toNat = t := by rw [BitVec.toNat_ofNat]; omega
  have ei : (BitVec.ofNat 32 t).toInt = t := by rw [BitVec.toInt_eq_toNat_of_lt (by omega), e]
  show (if (BitVec.ofNat 32 t).slt (if (0#32 : BitVec 32).slt x then x else 0#32) then BitVec.ofNat 32 t else (if (0#32 : BitVec 32).slt x then x else 0#32)).toNat ≤ t
  by_cases h2 : (0#32 : BitVec 32).slt x = true
  · rw [if_pos h2]
    by_cases h1 : (BitVec.ofNat 32 t).slt x = true
    · rw [if_pos h1, e]
    · rw [if_neg h1]
      have h1 := BitVec.slt_iff_toInt_lt.not.1 h1
      have h2 := BitVec.slt_iff_toInt_lt.1 h2
      rw [ei] at h1
      have h0 : (0#32 : BitVec 32).toInt = 0 := by decide
      rw [h0] at h2
      rw [BitVec.toInt_eq_toNat_cond] at h1 h2
      split at h1 <;> omega
  · rw [if_neg h2]
    split
    · rw [e]
    · exact Nat.zero_le t

theorem tileOf_le (n : BitVec 32) (t : ℕ) (ht : t < 16) : (tileOf n t).toNat ≤ t := min_max_le t ht _

variable (pf : pre0.Contents (Elt F))

/-- The three data-dependent index maps are one: the row, the tile fetched, the first column. -/
theorem tr0_eq (i : grid0.Coords) : cc0_transform_0 k0_off1_inb numel1_S1 pf i
    = ![(BitVec.ofNat 32 (i 0).val).toNat, (tileOf (lenAt (F := F) (pf 0) i) (i 1).val).toNat, 0] := rfl
theorem tr1_eq (i : grid0.Coords) : cc0_transform_1 k0_off1_inb numel1_S1 pf i
    = ![(BitVec.ofNat 32 (i 0).val).toNat, (tileOf (lenAt (F := F) (pf 0) i) (i 1).val).toNat, 0] := rfl
theorem tr2_eq (i : grid0.Coords) : cc0_transform_2 k0_off1_inb numel1_S1 pf i
    = ![(BitVec.ofNat 32 (i 0).val).toNat, (tileOf (lenAt (F := F) (pf 0) i) (i 1).val).toNat, 0] := rfl

theorem row_lt (i : grid0.Coords) : (BitVec.ofNat 32 (i 0).val).toNat < 6 := by
  have h : (i 0).val < 6 := (i 0).isLt
  rw [BitVec.toNat_ofNat]; omega
theorem tile_lt (n : BitVec 32) (i : grid0.Coords) : (tileOf n (i 1).val).toNat < 16 :=
  Nat.lt_of_le_of_lt (tileOf_le n _ (i 1).isLt) (i 1).isLt

/-- A block at a row and a tile is inside array 0. -/
theorem blk0 (x y : ℕ) (hx : x < 6) (hy : y < 16) : ∀ a, ((![x, y, 0] : Fin 3 → ℕ) a + 1) * S1x512x1024.size a ≤ S6x8192x1024.size a := fun a =>
  match a with
  | ⟨0, _⟩ => by show (x + 1) * 1 ≤ 6; omega
  | ⟨1, _⟩ => by show (y + 1) * 512 ≤ 8192; omega
  | ⟨2, _⟩ => by show (0 + 1) * 1024 ≤ 1024; omega
/-- A block at a row and a tile is inside array 1. -/
theorem blk1 (x y : ℕ) (hx : x < 6) (hy : y < 16) : ∀ a, ((![x, y, 0] : Fin 3 → ℕ) a + 1) * S1x512x4096.size a ≤ S6x8192x4096.size a := fun a =>
  match a with
  | ⟨0, _⟩ => by show (x + 1) * 1 ≤ 6; omega
  | ⟨1, _⟩ => by show (y + 1) * 512 ≤ 8192; omega
  | ⟨2, _⟩ => by show (0 + 1) * 4096 ≤ 4096; omega
/-- A block at a row and a tile is inside array 2. -/
theorem blk2 (x y : ℕ) (hx : x < 6) (hy : y < 16) : ∀ a, ((![x, y, 0] : Fin 3 → ℕ) a + 1) * S1x512x32.size a ≤ S6x8192x32.size a := fun a =>
  match a with
  | ⟨0, _⟩ => by show (x + 1) * 1 ≤ 6; omega
  | ⟨1, _⟩ => by show (y + 1) * 512 ≤ 8192; omega
  | ⟨2, _⟩ => by show (0 + 1) * 32 ≤ 32; omega

/-- EVERY table of lengths is admissible. -/
theorem ok_all : ok0 pf := by
  unfold ok0
  refine ⟨fun i => ?_, fun i => ?_, fun i => ?_⟩
  · rw [tr0_eq]
    exact ⟨blk0 _ _ (row_lt i) (tile_lt _ i), .inr (.inl (.inr ⟨(Nat.le_succ 2 : 2 ≤ 3), rfl, .inl ⟨Dvd.dvd.mul_left (show 2 ∣ 512 by decide) _, (show 2 ∣ 512 by decide)⟩⟩))⟩
  · rw [tr1_eq]
    exact ⟨blk1 _ _ (row_lt i) (tile_lt _ i), .inr (.inl (.inr ⟨(Nat.le_succ 2 : 2 ≤ 3), rfl, .inl ⟨Dvd.dvd.mul_left (show 4 ∣ 512 by decide) _, (show 4 ∣ 512 by decide)⟩⟩))⟩
  · rw [tr2_eq]
    exact ⟨blk2 _ _ (row_lt i) (tile_lt _ i), .inl rfl⟩

end Cert.KernelIdeal.Hand
end
-- ==== Proof.KI.Dats.lean ====
/- THE PROOF DATA of the pipeline: what every buffer holds after each grid point, and the body obligation. -/
module

public import proofs.«01_k».proof.Proof.KI.Adm
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched, and the host operations' results. -/
abbrev V (c : Dev nD) (b : Ref sig .tc) : Buf (Elt F) ((c : Thread nD τ).loc b) :=
  StableHlo.after (hostOps0 (F := F)) (fun b => m (c, b)) b

/-- The table of lengths the region finds. -/
def pf : pre0.Contents (Elt F) := fun k => V m 0 (pre0.ref k)

/-- The table, admissible. -/
def adm : (p : Fin 1) → (pcfgs (F := F) p).Adm := fun _ => ⟨pf m, ok_all (pf m)⟩

/-- The pipeline at the table. -/
abbrev cf : Cfg sig Λ₀ := Pipeline.pin (pcfgs (F := F)) (adm m) 0

/-- Window `w`'s block at point `t`, read off its array as the region finds it. -/
def iblk (c : Dev nD) (w : Fin (cf m).W) (t : Fin (cf m).N) : (((cf m).win w).xblock ((cf m).grid.coords t)).Idx → Elt F ((cf m).win w).elt :=
  (((cf m).win w).blk t).view.read (Elt F) (V m c (Pipeline.arrRef spec0 w))

/-- Window 0's block at point `t`, at its own type. -/
def X3b (c : Dev nD) (t : Fin grid0.N) : Vec F S1x512x1024 .bf16 := iblk m c 0 t
/-- Window 1's block at point `t`, at its own type. -/
def X4b (c : Dev nD) (t : Fin grid0.N) : Vec F S1x512x4096 .fp8e4m3 := iblk m c 1 t
/-- Window 2's block at point `t`, at its own type. -/
def X5b (c : Dev nD) (t : Fin grid0.N) : Vec F S1x512x32 .f32 := iblk m c 2 t
/-- Window 3's block at point `t`, at its own type. -/
def X6b (c : Dev nD) (t : Fin grid0.N) : Vec F S4096x1024 .fp8e4m3 := iblk m c 3 t
/-- Window 4's block at point `t`, at its own type. -/
def X7b (c : Dev nD) (t : Fin grid0.N) : Vec F S32x8 .f32 := iblk m c 4 t
/-- Window 5's block at point `t`, at its own type. -/
def X8b (c : Dev nD) (t : Fin grid0.N) : Vec F S1x1024 .f32 := iblk m c 5 t
/-- Window 6's block at point `t`, at its own type. -/
def X9b (c : Dev nD) (t : Fin grid0.N) : Vec F S1x1024 .f32 := iblk m c 6 t
/-- Window 7's block at point `t`, at its own type. -/
def X10b (c : Dev nD) (t : Fin grid0.N) : Vec F S1x1024 .f32 := iblk m c 7 t
/-- Window 8's block at point `t`, at its own type. -/
def X11b (c : Dev nD) (t : Fin grid0.N) : Vec F S6x1 .i32 := iblk m c 8 t

/-- The table of lengths. -/
def Lb : Vec F S6 .i32 := pf m 0

/-- The dequantised weights after `n` points. -/
def wdAt (c : Dev nD) : ℕ → Vec F S4096x1024 .bf16
  | 0 => WD (X6b m c ⟨0, by decide⟩) (X7b m c ⟨0, by decide⟩)
  | n + 1 => if h : n < grid0.N then W18 (grid0.coords ⟨n, h⟩) (X6b m c ⟨n, h⟩) (X7b m c ⟨n, h⟩) (wdAt c n) else wdAt c n

/-- The running sums after point `t`, from those it finds and the weights it leaves. -/
def accStep (c : Dev nD) (t : Fin grid0.N) (w : Vec F S4096x1024 .bf16) (a : Vec F S6x8x1024 .f32) : Vec F S6x8x1024 .f32 :=
  M20 (grid0.coords t) (lenAt (Lb m) (grid0.coords t)) (HD (X4b m c t) (X5b m c t)) w (X3b m c t) (X8b m c t) (X9b m c t) (X10b m c t) (Z20 (grid0.coords t) a)

/-- The running sums after `n` points. -/
def accAt (c : Dev nD) : ℕ → Vec F S6x8x1024 .f32
  | 0 => k0_pay1
  | n + 1 => if h : n < grid0.N then accStep m c ⟨n, h⟩ (wdAt m c (n + 1)) (accAt c n) else accAt c n

theorem wdAt_succ (c : Dev nD) (t : Fin grid0.N) :
    wdAt m c (t.val + 1) = W18 (grid0.coords t) (X6b m c t) (X7b m c t) (wdAt m c t.val) := dif_pos t.isLt
theorem accAt_succ (c : Dev nD) (t : Fin grid0.N) :
    accAt m c (t.val + 1) = accStep m c t (wdAt m c (t.val + 1)) (accAt m c t.val) := dif_pos t.isLt

/-- The output tile of point `t`. -/
@[irreducible] def tile (c : Dev nD) (t : Fin grid0.N) : Vec F S1x512x1024 .f32 :=
  T12 (grid0.coords t) (lenAt (Lb m) (grid0.coords t)) (HD (X4b m c t) (X5b m c t)) (wdAt m c (t.val + 1)) (X3b m c t) (X8b m c t) (X9b m c t) (X10b m c t)

/-- The first condition holds at the first point alone. -/
theorem cond1_iff : ∀ t : Fin grid0.N, k0_cond1 (grid0.coords t) = 1#1 ↔ t.val = 0 := by decide +kernel
/-- The last condition holds at the last point alone. -/
theorem cond4_iff : ∀ t : Fin grid0.N, k0_cond4 (grid0.coords t) = 1#1 ↔ t.val + 1 = grid0.N := by decide +kernel

/-- At the first point what the weights' scratch held does not matter. -/
theorem W18_any (t : Fin grid0.N) (X6 : Vec F S4096x1024 .fp8e4m3) (X7 : Vec F S32x8 .f32) (Y Y' : Vec F S4096x1024 .bf16) (h : t.val ≠ 0 → Y = Y') :
    W18 (grid0.coords t) X6 X7 Y = W18 (grid0.coords t) X6 X7 Y' := by
  by_cases h0 : t.val = 0
  · unfold W18; rw [if_pos ((cond1_iff t).2 h0), if_pos ((cond1_iff t).2 h0)]
  · rw [h h0]
/-- At the first point what the running sums held does not matter. -/
theorem Z20_any (t : Fin grid0.N) (Y Y' : Vec F S6x8x1024 .f32) (h : t.val ≠ 0 → Y = Y') :
    Z20 (grid0.coords t) Y = Z20 (grid0.coords t) Y' := by
  by_cases h0 : t.val = 0
  · unfold Z20; rw [if_pos ((cond1_iff t).2 h0), if_pos ((cond1_iff t).2 h0)]
  · rw [h h0]

/-- The invariant between points: half of the table, the generator register, the weights' scratch and the
    running sums at what the points so far left (anything before the first), the token scratch at anything. -/
@[irreducible] def Φn (c : Dev nD) (n : ℕ) : sProp 𝕄 :=
  iprop(((c : Thread nD τ).loc main_arg8 ↦{fullShare.right} Lb m) ∗ (∃ r, prngReg c r)
    ∗ (∃ (Y18 : Vec F S4096x1024 .bf16) (Y20 : Vec F S6x8x1024 .f32), ⌜n ≠ 0 → Y18 = wdAt m c n ∧ Y20 = accAt m c n⌝
        ∗ ((c : Thread nD τ).loc cc0_scratch0 ↦{fullShare} Y18) ∗ ((c : Thread nD τ).loc cc0_scratch2 ↦{fullShare} Y20))
    ∗ (∃ f : Buf (Elt F) ((c : Thread nD τ).loc cc0_scratch1), ((c : Thread nD τ).loc cc0_scratch1 ↦{fullShare} f)))

/-- The proof data of the pipeline on core `c`. -/
def dats (p : Fin 1) (c : Dev nD) : Dat τ (Elt F) Unit ℕ (UR sig nD τ) ℕ (Pipeline.pin (pcfgs (F := F)) (adm m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => tile m c t
    | ⟨10, _⟩ => k0_pay60 (accAt m c (t.val + 1)) (X11b m c t)
    | ⟨11, _⟩ => k0_pay63 (accAt m c (t.val + 1)) (X11b m c t)
    | ⟨12, _⟩ => k0_pay62 (accAt m c (t.val + 1)) (X11b m c t)
    | ⟨13, _⟩ => k0_pay9 (k0_pay64 (accAt m c (t.val + 1)) (X11b m c t)) (k0_pay65 (accAt m c (t.val + 1)) (X11b m c t))
    | ⟨14, _⟩ => k0_pay8 (k0_pay64 (accAt m c (t.val + 1)) (X11b m c t)) (k0_pay65 (accAt m c (t.val + 1)) (X11b m c t))
  Φ n := Φn m c n.val
  q _ := fullShare
  owed _ := 0

theorem A_eq (c : Dev nD) (w : Fin (cf m).W) : (dats m 0 c).A w = V m c (Pipeline.arrRef spec0 w) := by
  dsimp only [dats]

theorem after_0 (c : Dev nD) (t : Fin (cf m).N) : (dats m 0 c).after 0 t = iblk m c 0 t := (rfl)
theorem after_1 (c : Dev nD) (t : Fin (cf m).N) : (dats m 0 c).after 1 t = iblk m c 1 t := (rfl)
theorem after_2 (c : Dev nD) (t : Fin (cf m).N) : (dats m 0 c).after 2 t = iblk m c 2 t := (rfl)
theorem after_3 (c : Dev nD) (t : Fin (cf m).N) : (dats m 0 c).after 3 t = iblk m c 3 t := (rfl)
theorem after_4 (c : Dev nD) (t : Fin (cf m).N) : (dats m 0 c).after 4 t = iblk m c 4 t := (rfl)
theorem after_5 (c : Dev nD) (t : Fin (cf m).N) : (dats m 0 c).after 5 t = iblk m c 5 t := (rfl)
theorem after_6 (c : Dev nD) (t : Fin (cf m).N) : (dats m 0 c).after 6 t = iblk m c 6 t := (rfl)
theorem after_7 (c : Dev nD) (t : Fin (cf m).N) : (dats m 0 c).after 7 t = iblk m c 7 t := (rfl)
theorem after_8 (c : Dev nD) (t : Fin (cf m).N) : (dats m 0 c).after 8 t = iblk m c 8 t := (rfl)
theorem after_9 (c : Dev nD) (t : Fin (cf m).N) : (dats m 0 c).after 9 t = tile m c t := (rfl)
theorem after_10 (c : Dev nD) (t : Fin (cf m).N) : (dats m 0 c).after 10 t = k0_pay60 (accAt m c (t.val + 1)) (X11b m c t) := (rfl)
theorem after_11 (c : Dev nD) (t : Fin (cf m).N) : (dats m 0 c).after 11 t = k0_pay63 (accAt m c (t.val + 1)) (X11b m c t) := (rfl)
theorem after_12 (c : Dev nD) (t : Fin (cf m).N) : (dats m 0 c).after 12 t = k0_pay62 (accAt m c (t.val + 1)) (X11b m c t) := (rfl)
theorem after_13 (c : Dev nD) (t : Fin (cf m).N) : (dats m 0 c).after 13 t = k0_pay9 (k0_pay64 (accAt m c (t.val + 1)) (X11b m c t)) (k0_pay65 (accAt m c (t.val + 1)) (X11b m c t)) := (rfl)
theorem after_14 (c : Dev nD) (t : Fin (cf m).N) : (dats m 0 c).after 14 t = k0_pay8 (k0_pay64 (accAt m c (t.val + 1)) (X11b m c t)) (k0_pay65 (accAt m c (t.val + 1)) (X11b m c t)) := (rfl)

/-! Each input window holds its block at every point. -/
theorem before_0 (c : Dev nD) (t : Fin (cf m).N) (d) : (dats m 0 c).before 0 t d = X3b m c t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf X3b iblk; rw [A_eq]; try rfl)
theorem before_1 (c : Dev nD) (t : Fin (cf m).N) (d) : (dats m 0 c).before 1 t d = X4b m c t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf X4b iblk; rw [A_eq]; try rfl)
theorem before_2 (c : Dev nD) (t : Fin (cf m).N) (d) : (dats m 0 c).before 2 t d = X5b m c t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf X5b iblk; rw [A_eq]; try rfl)
theorem before_3 (c : Dev nD) (t : Fin (cf m).N) (d) : (dats m 0 c).before 3 t d = X6b m c t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf X6b iblk; rw [A_eq]; try rfl)
theorem before_4 (c : Dev nD) (t : Fin (cf m).N) (d) : (dats m 0 c).before 4 t d = X7b m c t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf X7b iblk; rw [A_eq]; try rfl)
theorem before_5 (c : Dev nD) (t : Fin (cf m).N) (d) : (dats m 0 c).before 5 t d = X8b m c t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf X8b iblk; rw [A_eq]; try rfl)
theorem before_6 (c : Dev nD) (t : Fin (cf m).N) (d) : (dats m 0 c).before 6 t d = X9b m c t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf X9b iblk; rw [A_eq]; try rfl)
theorem before_7 (c : Dev nD) (t : Fin (cf m).N) (d) : (dats m 0 c).before 7 t d = X10b m c t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf X10b iblk; rw [A_eq]; try rfl)
theorem before_8 (c : Dev nD) (t : Fin (cf m).N) (d) : (dats m 0 c).before 8 t d = X11b m c t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf X11b iblk; rw [A_eq]; try rfl)

end Cert.KernelIdeal.Hand
end
-- ==== Proof.KI.Oblig.lean ====
/- THE BODY OBLIGATION: at every grid point the body takes the buffers from what the proof data says before
   the point to what it says after it; and the launch. -/
module

public import proofs.«01_k».proof.Proof.KI.Dats
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.Pipeline.ReadBack
public import Idealize.ShloMosaic.Lib.Claim
public import Idealize.ShloMosaic.Lib.Ring
public import Idealize.ShloMosaic.Lib.StableHlo.RunRead
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging memref of window `w` at point `t`. -/
abbrev st (w : Fin (cf m).W) (t : Fin (cf m).N) := ((cf m).win w).stage ((cf m).slots t w)

/-- Window 10 is written back at the last point alone. -/
theorem flush_10 (t : Fin (cf m).N) : ((cf m).win 10).flush t = decide (t.val + 1 = grid0.N) := by
  unfold Window.flush
  have h : ¬ ∃ h : t.val + 1 < (cf m).grid.N, ((cf m).win 10).index ⟨t.val + 1, h⟩ ≠ ((cf m).win 10).index t := fun ⟨_, h⟩ => h rfl
  rw [decide_eq_false h, Bool.or_false]
  rfl
/-- What the body leaves in window 10's buffer is what is asked of it. -/
theorem leave_10 (c : Dev nD) (t : Fin grid0.N) (d) :
    owns (c : Thread nD τ) (st m 10 t) fullShare (O13 (grid0.coords t) (accAt m c (t.val + 1)) (X11b m c t) ((dats m 0 c).before 10 t d))
    ⊢ (match (cf m).idle 10 (grid0.coords t) with
        | true => match ((cf m).win 10).flush t with
          | false => iprop(∃ d, owns (c : Thread nD τ) (st m 10 t) fullShare ((dats m 0 c).before 10 t d))
          | true => owns (c : Thread nD τ) (st m 10 t) fullShare ((dats m 0 c).after 10 t)
        | false => owns (c : Thread nD τ) (st m 10 t) fullShare ((dats m 0 c).after 10 t) : sProp 𝕄) := by
  rw [show (cf m).idle 10 (grid0.coords t) = !(k0_cond4 (grid0.coords t) == 1#1) from rfl, flush_10, after_10]
  by_cases h : k0_cond4 (grid0.coords t) = 1#1
  · have e : O13 (grid0.coords t) (accAt m c (t.val + 1)) (X11b m c t) ((dats m 0 c).before 10 t d) = _ := if_pos h
    refine (Entails.of_eq (congrArg (fun Z => owns (c : Thread nD τ) (st m 10 t) fullShare Z) e)).trans ?_
    rw [beq_iff_eq.2 h]
    exact .rfl
  · have e : O13 (grid0.coords t) (accAt m c (t.val + 1)) (X11b m c t) ((dats m 0 c).before 10 t d) = _ := if_neg h
    refine (Entails.of_eq (congrArg (fun Z => owns (c : Thread nD τ) (st m 10 t) fullShare Z) e)).trans ?_
    rw [beq_eq_false_iff_ne.2 h, decide_eq_false (mt (cond4_iff t).2 h)]
    show _ ⊢ iprop(∃ d, owns (c : Thread nD τ) (st m 10 t) fullShare ((dats m 0 c).before 10 t d))
    iintro H; iexists d; iexact H
/-- Window 11 is written back at the last point alone. -/
theorem flush_11 (t : Fin (cf m).N) : ((cf m).win 11).flush t = decide (t.val + 1 = grid0.N) := by
  unfold Window.flush
  have h : ¬ ∃ h : t.val + 1 < (cf m).grid.N, ((cf m).win 11).index ⟨t.val + 1, h⟩ ≠ ((cf m).win 11).index t := fun ⟨_, h⟩ => h rfl
  rw [decide_eq_false h, Bool.or_false]
  rfl
/-- What the body leaves in window 11's buffer is what is asked of it. -/
theorem leave_11 (c : Dev nD) (t : Fin grid0.N) (d) :
    owns (c : Thread nD τ) (st m 11 t) fullShare (O14 (grid0.coords t) (accAt m c (t.val + 1)) (X11b m c t) ((dats m 0 c).before 11 t d))
    ⊢ (match (cf m).idle 11 (grid0.coords t) with
        | true => match ((cf m).win 11).flush t with
          | false => iprop(∃ d, owns (c : Thread nD τ) (st m 11 t) fullShare ((dats m 0 c).before 11 t d))
          | true => owns (c : Thread nD τ) (st m 11 t) fullShare ((dats m 0 c).after 11 t)
        | false => owns (c : Thread nD τ) (st m 11 t) fullShare ((dats m 0 c).after 11 t) : sProp 𝕄) := by
  rw [show (cf m).idle 11 (grid0.coords t) = !(k0_cond4 (grid0.coords t) == 1#1) from rfl, flush_11, after_11]
  by_cases h : k0_cond4 (grid0.coords t) = 1#1
  · have e : O14 (grid0.coords t) (accAt m c (t.val + 1)) (X11b m c t) ((dats m 0 c).before 11 t d) = _ := if_pos h
    refine (Entails.of_eq (congrArg (fun Z => owns (c : Thread nD τ) (st m 11 t) fullShare Z) e)).trans ?_
    rw [beq_iff_eq.2 h]
    exact .rfl
  · have e : O14 (grid0.coords t) (accAt m c (t.val + 1)) (X11b m c t) ((dats m 0 c).before 11 t d) = _ := if_neg h
    refine (Entails.of_eq (congrArg (fun Z => owns (c : Thread nD τ) (st m 11 t) fullShare Z) e)).trans ?_
    rw [beq_eq_false_iff_ne.2 h, decide_eq_false (mt (cond4_iff t).2 h)]
    show _ ⊢ iprop(∃ d, owns (c : Thread nD τ) (st m 11 t) fullShare ((dats m 0 c).before 11 t d))
    iintro H; iexists d; iexact H
/-- Window 12 is written back at the last point alone. -/
theorem flush_12 (t : Fin (cf m).N) : ((cf m).win 12).flush t = decide (t.val + 1 = grid0.N) := by
  unfold Window.flush
  have h : ¬ ∃ h : t.val + 1 < (cf m).grid.N, ((cf m).win 12).index ⟨t.val + 1, h⟩ ≠ ((cf m).win 12).index t := fun ⟨_, h⟩ => h rfl
  rw [decide_eq_false h, Bool.or_false]
  rfl
/-- What the body leaves in window 12's buffer is what is asked of it. -/
theorem leave_12 (c : Dev nD) (t : Fin grid0.N) (d) :
    owns (c : Thread nD τ) (st m 12 t) fullShare (O15 (grid0.coords t) (accAt m c (t.val + 1)) (X11b m c t) ((dats m 0 c).before 12 t d))
    ⊢ (match (cf m).idle 12 (grid0.coords t) with
        | true => match ((cf m).win 12).flush t with
          | false => iprop(∃ d, owns (c : Thread nD τ) (st m 12 t) fullShare ((dats m 0 c).before 12 t d))
          | true => owns (c : Thread nD τ) (st m 12 t) fullShare ((dats m 0 c).after 12 t)
        | false => owns (c : Thread nD τ) (st m 12 t) fullShare ((dats m 0 c).after 12 t) : sProp 𝕄) := by
  rw [show (cf m).idle 12 (grid0.coords t) = !(k0_cond4 (grid0.coords t) == 1#1) from rfl, flush_12, after_12]
  by_cases h : k0_cond4 (grid0.coords t) = 1#1
  · have e : O15 (grid0.coords t) (accAt m c (t.val + 1)) (X11b m c t) ((dats m 0 c).before 12 t d) = _ := if_pos h
    refine (Entails.of_eq (congrArg (fun Z => owns (c : Thread nD τ) (st m 12 t) fullShare Z) e)).trans ?_
    rw [beq_iff_eq.2 h]
    exact .rfl
  · have e : O15 (grid0.coords t) (accAt m c (t.val + 1)) (X11b m c t) ((dats m 0 c).before 12 t d) = _ := if_neg h
    refine (Entails.of_eq (congrArg (fun Z => owns (c : Thread nD τ) (st m 12 t) fullShare Z) e)).trans ?_
    rw [beq_eq_false_iff_ne.2 h, decide_eq_false (mt (cond4_iff t).2 h)]
    show _ ⊢ iprop(∃ d, owns (c : Thread nD τ) (st m 12 t) fullShare ((dats m 0 c).before 12 t d))
    iintro H; iexists d; iexact H
/-- Window 13 is written back at the last point alone. -/
theorem flush_13 (t : Fin (cf m).N) : ((cf m).win 13).flush t = decide (t.val + 1 = grid0.N) := by
  unfold Window.flush
  have h : ¬ ∃ h : t.val + 1 < (cf m).grid.N, ((cf m).win 13).index ⟨t.val + 1, h⟩ ≠ ((cf m).win 13).index t := fun ⟨_, h⟩ => h rfl
  rw [decide_eq_false h, Bool.or_false]
  rfl
/-- What the body leaves in window 13's buffer is what is asked of it. -/
theorem leave_13 (c : Dev nD) (t : Fin grid0.N) (d) :
    owns (c : Thread nD τ) (st m 13 t) fullShare (O16 (grid0.coords t) (accAt m c (t.val + 1)) (X11b m c t) ((dats m 0 c).before 13 t d))
    ⊢ (match (cf m).idle 13 (grid0.coords t) with
        | true => match ((cf m).win 13).flush t with
          | false => iprop(∃ d, owns (c : Thread nD τ) (st m 13 t) fullShare ((dats m 0 c).before 13 t d))
          | true => owns (c : Thread nD τ) (st m 13 t) fullShare ((dats m 0 c).after 13 t)
        | false => owns (c : Thread nD τ) (st m 13 t) fullShare ((dats m 0 c).after 13 t) : sProp 𝕄) := by
  rw [show (cf m).idle 13 (grid0.coords t) = !(k0_cond4 (grid0.coords t) == 1#1) from rfl, flush_13, after_13]
  by_cases h : k0_cond4 (grid0.coords t) = 1#1
  · have e : O16 (grid0.coords t) (accAt m c (t.val + 1)) (X11b m c t) ((dats m 0 c).before 13 t d) = _ := if_pos h
    refine (Entails.of_eq (congrArg (fun Z => owns (c : Thread nD τ) (st m 13 t) fullShare Z) e)).trans ?_
    rw [beq_iff_eq.2 h]
    exact .rfl
  · have e : O16 (grid0.coords t) (accAt m c (t.val + 1)) (X11b m c t) ((dats m 0 c).before 13 t d) = _ := if_neg h
    refine (Entails.of_eq (congrArg (fun Z => owns (c : Thread nD τ) (st m 13 t) fullShare Z) e)).trans ?_
    rw [beq_eq_false_iff_ne.2 h, decide_eq_false (mt (cond4_iff t).2 h)]
    show _ ⊢ iprop(∃ d, owns (c : Thread nD τ) (st m 13 t) fullShare ((dats m 0 c).before 13 t d))
    iintro H; iexists d; iexact H
/-- Window 14 is written back at the last point alone. -/
theorem flush_14 (t : Fin (cf m).N) : ((cf m).win 14).flush t = decide (t.val + 1 = grid0.N) := by
  unfold Window.flush
  have h : ¬ ∃ h : t.val + 1 < (cf m).grid.N, ((cf m).win 14).index ⟨t.val + 1, h⟩ ≠ ((cf m).win 14).index t := fun ⟨_, h⟩ => h rfl
  rw [decide_eq_false h, Bool.or_false]
  rfl
/-- What the body leaves in window 14's buffer is what is asked of it. -/
theorem leave_14 (c : Dev nD) (t : Fin grid0.N) (d) :
    owns (c : Thread nD τ) (st m 14 t) fullShare (O17 (grid0.coords t) (accAt m c (t.val + 1)) (X11b m c t) ((dats m 0 c).before 14 t d))
    ⊢ (match (cf m).idle 14 (grid0.coords t) with
        | true => match ((cf m).win 14).flush t with
          | false => iprop(∃ d, owns (c : Thread nD τ) (st m 14 t) fullShare ((dats m 0 c).before 14 t d))
          | true => owns (c : Thread nD τ) (st m 14 t) fullShare ((dats m 0 c).after 14 t)
        | false => owns (c : Thread nD τ) (st m 14 t) fullShare ((dats m 0 c).after 14 t) : sProp 𝕄) := by
  rw [show (cf m).idle 14 (grid0.coords t) = !(k0_cond4 (grid0.coords t) == 1#1) from rfl, flush_14, after_14]
  by_cases h : k0_cond4 (grid0.coords t) = 1#1
  · have e : O17 (grid0.coords t) (accAt m c (t.val + 1)) (X11b m c t) ((dats m 0 c).before 14 t d) = _ := if_pos h
    refine (Entails.of_eq (congrArg (fun Z => owns (c : Thread nD τ) (st m 14 t) fullShare Z) e)).trans ?_
    rw [beq_iff_eq.2 h]
    exact .rfl
  · have e : O17 (grid0.coords t) (accAt m c (t.val + 1)) (X11b m c t) ((dats m 0 c).before 14 t d) = _ := if_neg h
    refine (Entails.of_eq (congrArg (fun Z => owns (c : Thread nD τ) (st m 14 t) fullShare Z) e)).trans ?_
    rw [beq_eq_false_iff_ne.2 h, decide_eq_false (mt (cond4_iff t).2 h)]
    show _ ⊢ iprop(∃ d, owns (c : Thread nD τ) (st m 14 t) fullShare ((dats m 0 c).before 14 t d))
    iintro H; iexists d; iexact H

/-- The table's row of the tables held. -/
theorem ΦT_eq (v : pre0.Contents (Elt F)) (c : Dev nD) : (Pipeline.ΦT pre0 v c : sProp 𝕄) = ((c : Thread nD τ).loc main_arg8 ↦{fullShare.right} v 0) := by
  unfold Pipeline.ΦT Pipeline.prefHeld
  exact bigSep_univ_eq_bigSepL [(0 : Fin 1)] (by decide) (by decide) _

theorem idle_9_aux (i : grid0.Coords) (v : BitVec 32) : (!(k0_cond2 i v == 1#1) && !(k0_cond3 i v == 1#1)) = false := by
  by_cases h : k0_cond2 i v = 1#1
  · rw [beq_iff_eq.2 h]; rfl
  · rw [beq_iff_eq.2 ((cond3_iff _ v).2 h), Bool.not_true, Bool.and_false]
/-- The condition under which window 9 would be left alone never holds. -/
theorem idle_9 (t : Fin (cf m).N) : (cf m).idle 9 ((cf m).grid.coords t) = false := by
  exact idle_9_aux _ _

/-- What the body is called with at point `t`. -/
def bodyPre (c : Dev nD) (t : Fin (cf m).N) : sProp 𝕄 :=
  iprop((dats m 0 c).Φ t.castSucc ∗ (dats m 0 c).owesAt () t.castSucc
    ∗ (∃ d, owns (c : Thread nD τ) (st m 0 t) fullShare ((dats m 0 c).before 0 t d))
    ∗ (∃ d, owns (c : Thread nD τ) (st m 1 t) fullShare ((dats m 0 c).before 1 t d))
    ∗ (∃ d, owns (c : Thread nD τ) (st m 2 t) fullShare ((dats m 0 c).before 2 t d))
    ∗ (∃ d, owns (c : Thread nD τ) (st m 3 t) fullShare ((dats m 0 c).before 3 t d))
    ∗ (∃ d, owns (c : Thread nD τ) (st m 4 t) fullShare ((dats m 0 c).before 4 t d))
    ∗ (∃ d, owns (c : Thread nD τ) (st m 5 t) fullShare ((dats m 0 c).before 5 t d))
    ∗ (∃ d, owns (c : Thread nD τ) (st m 6 t) fullShare ((dats m 0 c).before 6 t d))
    ∗ (∃ d, owns (c : Thread nD τ) (st m 7 t) fullShare ((dats m 0 c).before 7 t d))
    ∗ (∃ d, owns (c : Thread nD τ) (st m 8 t) fullShare ((dats m 0 c).before 8 t d))
    ∗ (∃ d, owns (c : Thread nD τ) (st m 9 t) fullShare ((dats m 0 c).before 9 t d))
    ∗ (∃ d, owns (c : Thread nD τ) (st m 10 t) fullShare ((dats m 0 c).before 10 t d))
    ∗ (∃ d, owns (c : Thread nD τ) (st m 11 t) fullShare ((dats m 0 c).before 11 t d))
    ∗ (∃ d, owns (c : Thread nD τ) (st m 12 t) fullShare ((dats m 0 c).before 12 t d))
    ∗ (∃ d, owns (c : Thread nD τ) (st m 13 t) fullShare ((dats m 0 c).before 13 t d))
    ∗ (∃ d, owns (c : Thread nD τ) (st m 14 t) fullShare ((dats m 0 c).before 14 t d)))

/-- The kernel's body at point `t`, on the current staging buffers. -/
abbrev bodyAt (t : Fin (cf m).N) : Prog (TpuEff nD τ sig (Elt F) Λ₀ .tc) PUnit :=
  defs₀ (F := F) .tc (cf m).body ((cf m).bodyArgs t ((cf m).slots t))

/-- What the body leaves at point `t`. -/
def bodyPost (c : Dev nD) (t : Fin (cf m).N) : sProp 𝕄 :=
  iprop((dats m 0 c).Φ t.succ ∗ (dats m 0 c).owesAt () t.succ
    ∗ owns (c : Thread nD τ) (st m 0 t) fullShare ((dats m 0 c).after 0 t)
    ∗ owns (c : Thread nD τ) (st m 1 t) fullShare ((dats m 0 c).after 1 t)
    ∗ owns (c : Thread nD τ) (st m 2 t) fullShare ((dats m 0 c).after 2 t)
    ∗ owns (c : Thread nD τ) (st m 3 t) fullShare ((dats m 0 c).after 3 t)
    ∗ owns (c : Thread nD τ) (st m 4 t) fullShare ((dats m 0 c).after 4 t)
    ∗ owns (c : Thread nD τ) (st m 5 t) fullShare ((dats m 0 c).after 5 t)
    ∗ owns (c : Thread nD τ) (st m 6 t) fullShare ((dats m 0 c).after 6 t)
    ∗ owns (c : Thread nD τ) (st m 7 t) fullShare ((dats m 0 c).after 7 t)
    ∗ owns (c : Thread nD τ) (st m 8 t) fullShare ((dats m 0 c).after 8 t)
    ∗ owns (c : Thread nD τ) (st m 9 t) fullShare ((dats m 0 c).after 9 t)
    ∗ (match (cf m).idle 10 (grid0.coords t) with
        | true => match ((cf m).win 10).flush t with
          | false => iprop(∃ d, owns (c : Thread nD τ) (st m 10 t) fullShare ((dats m 0 c).before 10 t d))
          | true => owns (c : Thread nD τ) (st m 10 t) fullShare ((dats m 0 c).after 10 t)
        | false => owns (c : Thread nD τ) (st m 10 t) fullShare ((dats m 0 c).after 10 t))
    ∗ (match (cf m).idle 11 (grid0.coords t) with
        | true => match ((cf m).win 11).flush t with
          | false => iprop(∃ d, owns (c : Thread nD τ) (st m 11 t) fullShare ((dats m 0 c).before 11 t d))
          | true => owns (c : Thread nD τ) (st m 11 t) fullShare ((dats m 0 c).after 11 t)
        | false => owns (c : Thread nD τ) (st m 11 t) fullShare ((dats m 0 c).after 11 t))
    ∗ (match (cf m).idle 12 (grid0.coords t) with
        | true => match ((cf m).win 12).flush t with
          | false => iprop(∃ d, owns (c : Thread nD τ) (st m 12 t) fullShare ((dats m 0 c).before 12 t d))
          | true => owns (c : Thread nD τ) (st m 12 t) fullShare ((dats m 0 c).after 12 t)
        | false => owns (c : Thread nD τ) (st m 12 t) fullShare ((dats m 0 c).after 12 t))
    ∗ (match (cf m).idle 13 (grid0.coords t) with
        | true => match ((cf m).win 13).flush t with
          | false => iprop(∃ d, owns (c : Thread nD τ) (st m 13 t) fullShare ((dats m 0 c).before 13 t d))
          | true => owns (c : Thread nD τ) (st m 13 t) fullShare ((dats m 0 c).after 13 t)
        | false => owns (c : Thread nD τ) (st m 13 t) fullShare ((dats m 0 c).after 13 t))
    ∗ (match (cf m).idle 14 (grid0.coords t) with
        | true => match ((cf m).win 14).flush t with
          | false => iprop(∃ d, owns (c : Thread nD τ) (st m 14 t) fullShare ((dats m 0 c).before 14 t d))
          | true => owns (c : Thread nD τ) (st m 14 t) fullShare ((dats m 0 c).after 14 t)
        | false => owns (c : Thread nD τ) (st m 14 t) fullShare ((dats m 0 c).after 14 t)))

/-- The row of the body table at point `t` is the body on the current staging buffers and the scratch. -/
theorem bodyAt_eq (t : Fin (cf m).N) : bodyAt (F := F) m t = cc0__body_skel (grid0.coords t) (Memref.whole main_arg8) (Memref.isWhole_whole _) (st m 0 t) (hstage0_0 (((cf m).slots t 0).cast nbuf0_0)) (st m 1 t) (hstage0_1 (((cf m).slots t 1).cast nbuf0_1)) (st m 2 t) (hstage0_2 (((cf m).slots t 2).cast nbuf0_2)) (st m 3 t) (hstage0_3 (((cf m).slots t 3).cast nbuf0_3)) (st m 4 t) (hstage0_4 (((cf m).slots t 4).cast nbuf0_4)) (st m 5 t) (hstage0_5 (((cf m).slots t 5).cast nbuf0_5)) (st m 6 t) (hstage0_6 (((cf m).slots t 6).cast nbuf0_6)) (st m 7 t) (hstage0_7 (((cf m).slots t 7).cast nbuf0_7)) (st m 8 t) (hstage0_8 (((cf m).slots t 8).cast nbuf0_8)) (st m 9 t) (hstage0_9 (((cf m).slots t 9).cast nbuf0_9)) (st m 10 t) (hstage0_10 (((cf m).slots t 10).cast nbuf0_10)) (st m 11 t) (hstage0_11 (((cf m).slots t 11).cast nbuf0_11)) (st m 12 t) (hstage0_12 (((cf m).slots t 12).cast nbuf0_12)) (st m 13 t) (hstage0_13 (((cf m).slots t 13).cast nbuf0_13)) (st m 14 t) (hstage0_14 (((cf m).slots t 14).cast nbuf0_14)) (Memref.whole cc0_scratch0) (Memref.isWhole_whole _) (Memref.whole cc0_scratch1) (Memref.isWhole_whole _) (Memref.whole cc0_scratch2) (Memref.isWhole_whole _) := by
  unfold bodyAt defs₀; rw [Defs.onTc_tc]
  rw [← cc0__body_eq_skeleton (F := F)]
  rfl

theorem Φ_at (c : Dev nD) (n : Fin ((cf m).N + 1)) : (dats m 0 c).Φ n = Φn m c n.val := (rfl)

/-- The body at any point. -/
theorem sound_body (c : Dev nD) (t : Fin (cf m).N) :
    bodyPre m c t ⊢ wp frame (wpE (defs₀ (F := F)) Variants.none c none) Set.univ (bodyAt m t) (fun _ => bodyPost m c t) := by
  rw [bodyAt_eq]
  unfold bodyPre bodyPost
  simp only [before_0, before_1, before_2, before_3, before_4, before_5, before_6, before_7, before_8]
  rw [Φ_at, Φ_at, Fin.val_succ, Fin.val_castSucc,
    show (dats m 0 c).owesAt () t.succ = (dats m 0 c).owesAt () t.castSucc from rfl,
    after_0, after_1, after_2, after_3, after_4, after_5, after_6, after_7, after_8, after_9]
  unfold Φn tile
  iintro ⟨⟨HT, Hr, ⟨%Y18, %Y20, %hY, HS, HA⟩, ⟨%f19, HB⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have h18 := W18_any t (X6b m c t) (X7b m c t) Y18 (wdAt m c t.val) (fun h => (hY h).1)
  have h20 := Z20_any t Y20 (accAt m c t.val) (fun h => (hY h).2)
  ihave HT := (Entails.of_eq (owns_whole (c : Thread nD τ) main_arg8 fullShare.right (Lb m)).symm) $$ HT
  ihave HS := (Entails.of_eq (owns_whole (c : Thread nD τ) cc0_scratch0 fullShare Y18).symm) $$ HS
  ihave HB := (Entails.of_eq (owns_whole (c : Thread nD τ) cc0_scratch1 fullShare f19).symm) $$ HB
  ihave HA := (Entails.of_eq (owns_whole (c : Thread nD τ) cc0_scratch2 fullShare Y20).symm) $$ HA
  iapply (sound_kernel c Set.univ fullShare.right (grid0.coords t) _ _ _ _ _ _ _ _ _ _ _ _ _ _ _ _ _ _ _ _ _ _ _ _ _ _ _ _ _ _ _ _ _ _ _ _ _ _ (Lb m) (X3b m c t) (X4b m c t) (X5b m c t) (X6b m c t) (X7b m c t) (X8b m c t) (X9b m c t) (X10b m c t) (X11b m c t) ((dats m 0 c).before 10 t d10) ((dats m 0 c).before 11 t d11) ((dats m 0 c).before 12 t d12) ((dats m 0 c).before 13 t d13) ((dats m 0 c).before 14 t d14) Y18 Y20 _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [H13]; · iexact H13
  isplitl [H14]; · iexact H14
  isplitl [HS]; · iexact HS
  isplitl [HB]; · iexists f19; iexact HB
  isplitl [HA]; · iexact HA
  have hM : M20 (grid0.coords t) (lenAt (Lb m) (grid0.coords t)) (HD (X4b m c t) (X5b m c t)) (wdAt m c (t.val + 1)) (X3b m c t) (X8b m c t) (X9b m c t) (X10b m c t) (Z20 (grid0.coords t) (accAt m c t.val)) = accAt m c (t.val + 1) := (accAt_succ m c t).symm
  rw [h18, h20, ← wdAt_succ, hM]
  iintro ⟨HT, H0, H1, H2, H3, H4, H5, H6, H7, H8, H9, H10, H11, H12, H13, H14, HS, ⟨%g19, HB⟩, HA⟩
  ihave HT := (Entails.of_eq (owns_whole (c : Thread nD τ) main_arg8 fullShare.right (Lb m))) $$ HT
  ihave HS := (Entails.of_eq (owns_whole (c : Thread nD τ) cc0_scratch0 fullShare (wdAt m c (t.val + 1)))) $$ HS
  ihave HB := (Entails.of_eq (owns_whole (c : Thread nD τ) cc0_scratch1 fullShare g19)) $$ HB
  ihave HA := (Entails.of_eq (owns_whole (c : Thread nD τ) cc0_scratch2 fullShare (accAt m c (t.val + 1)))) $$ HA
  isplitl [HT Hr HS HB HA]
  · isplitl [HT]; · iexact HT
    isplitl [Hr]; · iexact Hr
    isplitl [HS HA]
    · iexists (wdAt m c (t.val + 1)), (accAt m c (t.val + 1))
      isplitr; · ipureintro; exact fun _ => ⟨rfl, rfl⟩
      isplitl [HS]; · iexact HS
      iexact HA
    iexists g19; iexact HB
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  ihave H10 := (leave_10 m c t d10) $$ [H10]
  · iexact H10
  ihave H11 := (leave_11 m c t d11) $$ [H11]
  · iexact H11
  ihave H12 := (leave_12 m c t d12) $$ [H12]
  · iexact H12
  ihave H13 := (leave_13 m c t d13) $$ [H13]
  · iexact H13
  ihave H14 := (leave_14 m c t d14) $$ [H14]
  · iexact H14
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  refine triple_restated (sound_body m c t) rfl .rfl fun _ => ?_
  rw [idle_9]
  exact .rfl

/-! ## The launch -/

/-- @main up to the region: the four host operations. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub (by repeat' constructor) main_chain

/-- Before the first point the invariant is what the launch hands over. -/
theorem hin (c : Dev nD) : iprop(Pipeline.ΦA spec0 c ∗ Pipeline.ΦT pre0 (pf m) c) ⊢ (dats m 0 c).Φ 0 := by
  rw [Φ_at, ΦT_eq]
  unfold Pipeline.ΦA Φn
  rw [scopedRest0_eq]
  iintro ⟨⟨⟨⟨%a, HS⟩, ⟨%b, HB⟩, ⟨%d, HA⟩⟩, Hr⟩, HT⟩
  ihave HT := (Entails.of_eq (show ((c : Thread nD τ).loc main_arg8 ↦{fullShare.right} pf m 0 : sProp 𝕄) = ((c : Thread nD τ).loc main_arg8 ↦{fullShare.right} Lb m) from rfl)) $$ HT
  isplitl [HT]; · iexact HT
  isplitl [Hr]; · iexact Hr
  isplitl [HS HA]
  · iexists a, d
    isplitr; · ipureintro; exact fun h => absurd rfl h
    isplitl [HS]; · iexact HS
    iexact HA
  iexists b; iexact HB

/-- After the last point the invariant gives back what the launch handed over. -/
theorem hout (c : Dev nD) : (dats m 0 c).Φ (Fin.last (cf m).N) ⊢ Pipeline.ΦA spec0 c := by
  rw [Φ_at]
  unfold Pipeline.ΦA Φn
  rw [scopedRest0_eq]
  iintro ⟨HT, Hr, ⟨%a, %d, -, HS, HA⟩, ⟨%b, HB⟩⟩
  isplitr [Hr]
  · isplitl [HS]; · iexists a; iexact HS
    isplitl [HB]; · iexists b; iexact HB
    iexists d; iexact HA
  iexact Hr

set_option backward.isDefEq.respectTransparency.types false in
set_option maxHeartbeats 800000 in
/-- THE LAUNCH: every execution of @main terminates, every array of the pipeline ends at what the proof data
    says, every other buffer as the region found it, every semaphore at zero. -/
theorem run_main : θ_run defs (onTc (τ := τ) (main (F := F))) (s₀ m ρ) (fun r => (Pipeline.FramePost (Pipeline.pin (pcfgs (F := F)) (adm m)) (dats m) 0 (V m)) r ∧ r.2.sem = fun _ => 0) :=
  Pipeline.θ_run_frameP_track (Q' := _) (pcfgs (F := F)) (adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl) (hin := hin m) (hout := hout m)

/-- The region's operands that no host operation writes are as launched. -/
theorem V_arg (c : Dev nD) (b : Ref sig .tc) (h : b ∉ [main_v0, main_v1, main_v2, main_v3]) : V m c b = m ((c : Thread nD τ).loc b) :=
  StableHlo.after_unwritten [main_v0, main_v1, main_v2, main_v3] rfl h _

/-- Every array of the pipeline and every argument at the end of a run. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 0).trans (((dats m 0 c).arrAt_in 0 rfl _).trans ((A_eq m c 0).trans (V_arg m c main_arg0 (by decide)))),
      ((h.1 c).1 1).trans (((dats m 0 c).arrAt_in 1 rfl _).trans ((A_eq m c 1).trans (V_arg m c main_arg1 (by decide)))),
      ((h.1 c).1 2).trans (((dats m 0 c).arrAt_in 2 rfl _).trans ((A_eq m c 2).trans (V_arg m c main_arg2 (by decide)))),
      ((h.1 c).1 3).trans (((dats m 0 c).arrAt_in 3 rfl _).trans ((A_eq m c 3).trans (V_arg m c main_arg3 (by decide)))),
      ((h.1 c).1 4).trans (((dats m 0 c).arrAt_in 4 rfl _).trans ((A_eq m c 4).trans (V_arg m c main_arg4 (by decide)))),
      ((h.1 c).2 main_arg5 (show main_arg5 ∈ Pipeline.restRefs sig spec0 by decide)).trans (V_arg m c main_arg5 (by decide)),
      ((h.1 c).2 main_arg6 (show main_arg6 ∈ Pipeline.restRefs sig spec0 by decide)).trans (V_arg m c main_arg6 (by decide)),
      ((h.1 c).2 main_arg7 (show main_arg7 ∈ Pipeline.restRefs sig spec0 by decide)).trans (V_arg m c main_arg7 (by decide)),
      ((h.1 c).2 main_arg8 (show main_arg8 ∈ Pipeline.restRefs sig spec0 by decide)).trans (V_arg m c main_arg8 (by decide))⟩) (run_main m ρ)

/-- THE FRAME: the run terminates, the arguments end unchanged, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main m ρ))

end Cert.KernelIdeal.Hand
end
-- ==== Proof.V.Spec.lean ====
/- THE MATHEMATICS of the layer over the extended reals, one row at a time: the down projection of a
   row's dequantised activations, the residual sum, LayerNorm and the padding mask. Both programs are
   read as these functions. -/
module

public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.Layer

open Idealize.ShloMosaic Idealize.ShloMosaic.ValueIdx

/-- The block of 128 that an index of the 4096 contracted features lies in. -/
abbrev blkF (k : Fin 4096) : Fin 32 := ⟨k.val / 128, Nat.div_lt_of_lt_mul k.isLt⟩

/-- The block of 128 that an index of the 1024 model features lies in. -/
abbrev blkD (j : Fin 1024) : Fin 8 := ⟨j.val / 128, Nat.div_lt_of_lt_mul j.isLt⟩

/-- The down projection of one row: the sum over the 4096 features of activation times weight, each a
    code times the scale of its block. -/
def dotRow (h : Fin 4096 → EReal) (s : Fin 32 → EReal) (W : (⟨2, ![4096, 1024]⟩ : Shape).Idx → EReal)
    (T : (⟨2, ![32, 8]⟩ : Shape).Idx → EReal) (j : Fin 1024) : EReal :=
  ∑ k : Fin 4096, (h k * s (blkF k)) * (W (ix2 k j) * T (ix2 (blkF k) (blkD j)))

/-- One row before LayerNorm: the residual, plus the down projection, plus the bias. -/
def yRow (x : Fin 1024 → EReal) (h : Fin 4096 → EReal) (s : Fin 32 → EReal)
    (W : (⟨2, ![4096, 1024]⟩ : Shape).Idx → EReal) (T : (⟨2, ![32, 8]⟩ : Shape).Idx → EReal)
    (b : Fin 1024 → EReal) (j : Fin 1024) : EReal :=
  x j + dotRow h s W T j + b j

/-- A row less its mean. -/
def center (y : Fin 1024 → EReal) (j : Fin 1024) : EReal :=
  y j - Ideal.div (∑ k, y k) (Ideal.ofBits .f32 0x44800000#32)

/-- The variance of a row, plus the small constant. -/
def varRow (y : Fin 1024 → EReal) : EReal :=
  Ideal.div (∑ k, center y k * center y k) (Ideal.ofBits .f32 0x44800000#32) + Ideal.ofBits .f32 0x3727C5AC#32

/-- LayerNorm of one row. -/
def lnRow (y : Fin 1024 → EReal) (g be : Fin 1024 → EReal) (j : Fin 1024) : EReal :=
  center y j * Ideal.rsqrt (varRow y) * g j + be j

/-- One entry of the first result, from the arguments: LayerNorm of a token before the length of its sequence,
    zero past it. -/
def zEnt (X : (⟨3, ![6, 8192, 1024]⟩ : Shape).Idx → EReal) (H : (⟨3, ![6, 8192, 4096]⟩ : Shape).Idx → EReal)
    (S : (⟨3, ![6, 8192, 32]⟩ : Shape).Idx → EReal) (W : (⟨2, ![4096, 1024]⟩ : Shape).Idx → EReal)
    (T : (⟨2, ![32, 8]⟩ : Shape).Idx → EReal) (b g be : (⟨1, ![1024]⟩ : Shape).Idx → EReal)
    (L : (⟨1, ![6]⟩ : Shape).Idx → BitVec 32) (r : Fin 6) (q : Fin 8192) (j : Fin 1024) : EReal :=
  Scalar.select (IntOp.cmpi .slt (BitVec.ofNat 32 q.val) (L (ix1 r)))
    (lnRow (yRow (fun j => X (ix3 r q j)) (fun k => H (ix3 r q k)) (fun k => S (ix3 r q k)) W T (fun j => b (ix1 j)))
      (fun j => g (ix1 j)) (fun j => be (ix1 j)) j) (0 : EReal)

end Cert.Layer

end
-- ==== Proof.V.Tile.lean ====
/- WHAT ONE GRID STEP of the kernel computes, entry by entry over the extended reals: LayerNorm of the
   tile's rows, masked; the update of the running sums; the mean at the last step. -/
module

public import proofs.«01_k».proof.Proof.V.Spec
public import proofs.«01_k».proof.Proof.KI.Vals

@[expose] public section

set_option maxRecDepth 16384

noncomputable section

namespace Cert.KernelIdeal.Hand

open Idealize.ShloMosaic Idealize.ShloMosaic.ValueIdx Cert.KernelIdeal Cert.KernelIdeal.Gen Cert.Layer

/-- A value per row of the tile, spread over the row. -/
theorem bc_row {α : Type} (v : S512x1.Idx → α) (p : Fin 512) (j : Fin 1024) :
    broadcastTo S512x1024 v broadcasts_S512x1_S512x1024 (ix2 p j) = v (ix2 p (0 : Fin 1)) :=
  broadcastTo_apply _ _ _ _ fun a => match a with
    | ⟨0, _⟩ => rfl
    | ⟨1, _⟩ => rfl

/-- A value per feature, spread over the rows of the tile. -/
theorem bc_feat {α : Type} (v : S1x1024.Idx → α) (p : Fin 512) (j : Fin 1024) :
    broadcastTo S512x1024 (shapeCast S1x1024 v shapeCasts_S1x1024_S1x1024) broadcasts_S1x1024_S512x1024 (ix2 p j)
      = v (ix2 (0 : Fin 1) j) := by
  rw [shapeCast_self]
  exact broadcastTo_apply _ _ _ _ fun a => match a with
    | ⟨0, _⟩ => rfl
    | ⟨1, _⟩ => rfl

/-- A sum over the features of a row, kept as a column. -/
theorem sum_row (v : FVec Ideal S512x1024 .f32) (p : Fin 512) :
    shapeCast S512x1 (multiReduction .add [1] S512 v 0x00000000#32 reduces_S512x1024_S512 (.inl rfl) rfl)
        shapeCasts_S512_S512x1 (ix2 p (0 : Fin 1))
      = ∑ k : Fin 1024, v (ix2 p k) :=
  (shapeCast_a_a1_apply _ _ p 0).trans
  ((Ideal.multiReduction_add_single v _ _ _ _ _).trans (Finset.sum_congr rfl fun k _ => congrArg v (by
    funext a
    match a with
    | ⟨0, _⟩ => rfl
    | ⟨1, _⟩ => rfl)))

/-- The tile's rows before LayerNorm. -/
def tileY (X19 : FVec Ideal S512x4096 .bf16) (X18 : FVec Ideal S4096x1024 .bf16) (X3 : FVec Ideal S1x512x1024 .bf16)
    (X8 : FVec Ideal S1x1024 .f32) : FVec Ideal S512x1024 .f32 :=
  addf (addf (extf .f32 (shapeCast S512x1024 X3 shapeCasts_S1x512x1024_S512x1024) bitsLt_bf16_f32)
      (matmul dot_S512x4096_S4096x1024_S512x1024_1_0_0_1_n_n none X19 X18 (constant S512x1024 .f32 0x00000000#32)))
    (broadcastTo S512x1024 (shapeCast S1x1024 X8 shapeCasts_S1x1024_S1x1024) broadcasts_S1x1024_S512x1024)

variable (X3 : FVec Ideal S1x512x1024 .bf16) (X4 : FVec Ideal S1x512x4096 .fp8e4m3) (X5 : FVec Ideal S1x512x32 .f32)
  (X6 : FVec Ideal S4096x1024 .fp8e4m3) (X7 : FVec Ideal S32x8 .f32) (X8 X9 X10 : FVec Ideal S1x1024 .f32)

/-- Row `p` of the tile before LayerNorm, as a function of the feature. -/
abbrev yTile (p : Fin 512) : Fin 1024 → EReal :=
  yRow (fun j => X3 (ix3 (0 : Fin 1) p j)) (fun k => X4 (ix3 (0 : Fin 1) p k)) (fun k => X5 (ix3 (0 : Fin 1) p k)) X6 X7
    (fun j => X8 (ix2 (0 : Fin 1) j))

theorem tileY_at (p : Fin 512) (j : Fin 1024) :
    tileY (HD (F := Ideal) X4 X5) (WD (F := Ideal) X6 X7) X3 X8 (ix2 p j) = yTile X3 X4 X5 X6 X7 X8 p j := by
  unfold tileY yTile yRow
  refine congrArg₂ (fun a b : EReal => a + b) (congrArg₂ (fun a b : EReal => a + b) ?_ ?_) (bc_feat X8 p j)
  · exact shapeCast_1ab_ab_apply X3 _ p j
  · refine (Ideal.matmul_plain_apply (M := 512) (K := 4096) (N := 1024) none _ _ _ _ _).trans ?_
    refine (congrArg (fun a : EReal => a + _) Ideal.ofBits_zero_f32).trans ?_
    rw [zero_add]
    rfl

/-- LayerNorm of the tile before the shift. -/
theorem pay59_at (p : Fin 512) (j : Fin 1024) :
    k0_pay59 (F := Ideal) (HD X4 X5) (WD X6 X7) X3 X8 X9 (ix2 p j)
      = center (yTile X3 X4 X5 X6 X7 X8 p) j * Ideal.rsqrt (varRow (yTile X3 X4 X5 X6 X7 X8 p)) * X9 (ix2 (0 : Fin 1) j) := by
  let C : FVec Ideal S512x1024 .f32 := subf (tileY (HD (F := Ideal) X4 X5) (WD (F := Ideal) X6 X7) X3 X8)
    (broadcastTo S512x1024 (divf (shapeCast S512x1 (multiReduction .add [1] S512
          (tileY (HD (F := Ideal) X4 X5) (WD (F := Ideal) X6 X7) X3 X8) 0x00000000#32 reduces_S512x1024_S512 (.inl rfl) rfl) shapeCasts_S512_S512x1)
          (broadcast S512x1 (Scalar.ofBits (F := Ideal) .f32 0x44800000#32))) broadcasts_S512x1_S512x1024)
  have hC : ∀ j, C (ix2 p j) = center (yTile X3 X4 X5 X6 X7 X8 p) j := fun j => by
    unfold center
    refine congrArg₂ (fun a b : EReal => a - b) (tileY_at X3 X4 X5 X6 X7 X8 p j) ((bc_row _ p j).trans ?_)
    refine congrArg (fun z : EReal => Ideal.div z (Ideal.ofBits .f32 0x44800000#32)) ((sum_row _ p).trans ?_)
    exact Finset.sum_congr rfl fun k _ => tileY_at X3 X4 X5 X6 X7 X8 p k
  have e : k0_pay59 (F := Ideal) (HD X4 X5) (WD X6 X7) X3 X8 X9
      = mulf (mulf C (broadcastTo S512x1024 (rsqrt (addf (divf (shapeCast S512x1 (multiReduction .add [1] S512
          (mulf C C) 0x00000000#32 reduces_S512x1024_S512 (.inl rfl) rfl) shapeCasts_S512_S512x1)
          (broadcast S512x1 (Scalar.ofBits (F := Ideal) .f32 0x44800000#32)))
          (broadcast S512x1 (Scalar.ofBits (F := Ideal) .f32 0x3727C5AC#32)))) broadcasts_S512x1_S512x1024))
        (broadcastTo S512x1024 (shapeCast S1x1024 X9 shapeCasts_S1x1024_S1x1024) broadcasts_S1x1024_S512x1024) := rfl
  rw [e]
  refine congrArg₂ (fun a b : EReal => a * b) (congrArg₂ (fun a b : EReal => a * b) (hC j) ((bc_row _ p j).trans ?_)) (bc_feat X9 p j)
  unfold varRow
  refine congrArg (fun z : EReal => Ideal.rsqrt (Ideal.div z (Ideal.ofBits .f32 0x44800000#32) + Ideal.ofBits .f32 0x3727C5AC#32))
    ((sum_row _ p).trans ?_)
  exact Finset.sum_congr rfl fun k _ => congrArg₂ (fun a b : EReal => a * b) (hC k) (hC k)

/-- The tile shifted and masked. -/
theorem pay3_at (i : grid0.Coords) (n : BitVec 32) (Z : FVec Ideal S512x1024 .f32) (p : Fin 512) (j : Fin 1024) :
    k0_pay3 (F := Ideal) i n Z X10 (ix2 p j)
      = Scalar.select (IntOp.cmpi .slt (BitVec.ofNat 32 p.val) (n - BitVec.ofNat 32 (i 1).val * 512#32))
          ((Z (ix2 p j) : EReal) + X10 (ix2 (0 : Fin 1) j)) (0 : EReal) := by
  unfold k0_pay3
  dsimp only
  rw [select_apply]
  refine congr (congr (congrArg _ ?_) ?_) Ideal.ofBits_zero_f32
  · exact congrArg₂ (IntOp.cmpi .slt) (iota_single_apply _ _ _ _ _ _) rfl
  · exact congrArg (fun z : EReal => Z (ix2 p j) + z) (bc_feat X10 p j)

/-- The masked LayerNorm of row `p` of a tile at grid step `i`, for a sequence of length `n`. -/
def zTile (i : grid0.Coords) (n : BitVec 32) (p : Fin 512) (j : Fin 1024) : EReal :=
  Scalar.select (IntOp.cmpi .slt (BitVec.ofNat 32 p.val) (n - BitVec.ofNat 32 (i 1).val * 512#32))
    (lnRow (yTile X3 X4 X5 X6 X7 X8 p) (fun j => X9 (ix2 (0 : Fin 1) j)) (fun j => X10 (ix2 (0 : Fin 1) j)) j) (0 : EReal)

theorem zTile_eq (i : grid0.Coords) (n : BitVec 32) (p : Fin 512) (j : Fin 1024) :
    k0_pay3 (F := Ideal) i n (k0_pay59 (F := Ideal) (HD X4 X5) (WD X6 X7) X3 X8 X9) X10 (ix2 p j)
      = zTile X3 X4 X5 X6 X7 X8 X9 X10 i n p j := by
  rw [pay3_at, pay59_at]
  rfl

/-- The tile as stored. -/
theorem pay4_at (i : grid0.Coords) (n : BitVec 32) (p : Fin 512) (j : Fin 1024) :
    k0_pay4 (F := Ideal) i n (k0_pay59 (F := Ideal) (HD X4 X5) (WD X6 X7) X3 X8 X9) X10 (ix3 (0 : Fin 1) p j)
      = zTile X3 X4 X5 X6 X7 X8 X9 X10 i n p j :=
  (shapeCast_ab_1ab_apply _ _ 0 p j).trans (zTile_eq X3 X4 X5 X6 X7 X8 X9 X10 i n p j)

/-- The update of a sequence's eight running sums. -/
theorem pay5_at (i : grid0.Coords) (n : BitVec 32) (a : FVec Ideal S1x8x1024 .f32) (s : Fin 8) (j : Fin 1024) :
    k0_pay5 (F := Ideal) i n (k0_pay59 (F := Ideal) (HD X4 X5) (WD X6 X7) X3 X8 X9) X10 a (ix3 (0 : Fin 1) s j)
      = a (ix3 (0 : Fin 1) s j) + ∑ u : Fin 64, zTile X3 X4 X5 X6 X7 X8 X9 X10 i n ⟨u.val * 8 + s.val, by omega⟩ j := by
  unfold k0_pay5
  refine (shapeCast_ab_1ab_apply _ _ 0 s j).trans ?_
  refine congrArg₂ (fun a b : EReal => a + b) (shapeCast_1ab_ab_apply a _ s j) ?_
  refine (Ideal.multiReduction_add_single _ _ _ _ _ _).trans (Finset.sum_congr rfl fun u _ => ?_)
  refine (congrArg (shapeCast S64x8x1024 _ shapeCasts_S512x1024_S64x8x1024) (show _ = ix3 (show Fin 64 from u) s j by
    funext a
    match a with
    | ⟨0, _⟩ => rfl
    | ⟨1, _⟩ => rfl
    | ⟨2, _⟩ => rfl)).trans ?_
  have hu : u.val < 64 := u.isLt
  refine (shapeCast_apply _ _ _ (ix2 (⟨u.val * 8 + s.val, by omega⟩ : Fin 512) j) (by
    rw [Shape.rowMajor_val_two, Shape.rowMajor_val_three]
    rfl)).trans ?_
  exact zTile_eq X3 X4 X5 X6 X7 X8 X9 X10 i n _ j

/-- The mean, from the running sums. -/
theorem pay60_at (M : FVec Ideal S6x8x1024 .f32) (X11 : IVec S6x1 32) (r : Fin 6) (j : Fin 1024) :
    k0_pay60 (F := Ideal) M X11 (ix2 r j)
      = Ideal.div (∑ s : Fin 8, M (ix3 r s j)) (Scalar.sitofp (F := Ideal) .f32 (X11 (ix2 r (0 : Fin 1)))) := by
  unfold k0_pay60
  refine congrArg₂ (fun a b : EReal => Ideal.div a b) ((Ideal.multiReduction_add_single _ _ _ _ _ _).trans
    (Finset.sum_congr rfl fun q _ => congrArg _ (by
      funext a
      match a with
      | ⟨0, _⟩ => rfl
      | ⟨1, _⟩ => rfl
      | ⟨2, _⟩ => rfl))) ?_
  refine (broadcastTo_apply _ _ _ (ix2 r (0 : Fin 1)) fun a => match a with
      | ⟨0, _⟩ => rfl
      | ⟨1, _⟩ => rfl).trans ?_
  rw [shapeCast_self]
  rfl

end Cert.KernelIdeal.Hand

end
-- ==== Proof.V.Words.lean ====
/- THE LENGTHS AS NUMBERS: when no 32-bit operation on a length wraps, a tile is active exactly when it starts
   before the length, the tile fetched is then the tile itself, and the tile's mask is the mask of its tokens. -/
module

public import proofs.«01_k».proof.Proof.KI.Adm

@[expose] public section

set_option maxRecDepth 16384

noncomputable section

namespace Cert.KernelIdeal.Hand

open Idealize.ShloMosaic Idealize.ShloMosaic.ValueIdx Cert.KernelIdeal Cert.KernelIdeal.Gen

/-- A length from which the tiles' starts subtract, and to which a tile adds, without wrapping. -/
def Fits (n : BitVec 32) : Prop := -2147475968 ≤ n.toInt ∧ n.toInt ≤ 2147483136

theorem toInt_ofNat_small (a : ℕ) (h : a < 2147483648) : (BitVec.ofNat 32 a).toInt = a := by
  have e : (BitVec.ofNat 32 a).toNat = a := by rw [BitVec.toNat_ofNat]; omega
  rw [BitVec.toInt_eq_toNat_of_lt (by omega), e]

theorem toInt_mul512 (t : ℕ) (ht : t < 16) : (BitVec.ofNat 32 t * 512#32).toInt = 512 * t := by
  have e : BitVec.ofNat 32 t * 512#32 = BitVec.ofNat 32 (512 * t) := by
    apply BitVec.eq_of_toNat_eq
    rw [BitVec.toNat_mul, BitVec.toNat_ofNat, BitVec.toNat_ofNat, BitVec.toNat_ofNat]; omega
  rw [e, toInt_ofNat_small _ (by omega)]; omega

/-- What is left of a length at a tile's start. -/
theorem toInt_rest (n : BitVec 32) (h : Fits n) (t : ℕ) (ht : t < 16) :
    (n - BitVec.ofNat 32 t * 512#32).toInt = n.toInt - 512 * t := by
  obtain ⟨h1, h2⟩ := h
  rw [BitVec.toInt_sub, toInt_mul512 t ht]
  exact Int.bmod_eq_of_le (by omega) (by omega)

/-- A word that widens a bit is not zero exactly when the bit is set. -/
theorem ne_extui (b : Bool) : (Scalar.cmpi .ne (Scalar.extui (BitVec.ofBool b) : BitVec 32) 0#32 = 1#1) ↔ b = true := by
  cases b <;> decide

/-- A tile is active exactly when it starts before the length. -/
theorem cond2_iff (i : grid0.Coords) (n : BitVec 32) (h : Fits n) :
    k0_cond2 i n = 1#1 ↔ 512 * ((i 1).val : ℤ) < n.toInt := by
  have ht : (i 1).val < 16 := (i 1).isLt
  have e := toInt_rest n h (i 1).val ht
  refine (ne_extui ((0#32 : BitVec 32).slt (n - BitVec.ofNat 32 (i 1).val * 512#32))).trans ?_
  rw [BitVec.slt_iff_toInt_lt, e]
  have h0 : (0#32 : BitVec 32).toInt = 0 := by decide
  rw [h0]; omega

/-- The mask of a tile is the mask of its tokens. -/
theorem mask_eq (n : BitVec 32) (h : Fits n) (t p : ℕ) (ht : t < 16) (hp : p < 512) :
    IntOp.cmpi .slt (BitVec.ofNat 32 p) (n - BitVec.ofNat 32 t * 512#32) = IntOp.cmpi .slt (BitVec.ofNat 32 (t * 512 + p)) n := by
  show BitVec.ofBool _ = BitVec.ofBool _
  refine congrArg BitVec.ofBool (Bool.eq_iff_iff.2 ?_)
  rw [BitVec.slt_iff_toInt_lt, BitVec.slt_iff_toInt_lt, toInt_rest n h t ht, toInt_ofNat_small p (by omega),
    toInt_ofNat_small (t * 512 + p) (by omega)]
  omega

/-- Past the length nothing is kept. -/
theorem mask_zero (n : BitVec 32) (t p : ℕ) (ht : t < 16) (hp : p < 512) (h : ¬ 512 * (t : ℤ) < n.toInt) :
    IntOp.cmpi .slt (BitVec.ofNat 32 (t * 512 + p)) n = 0#1 := by
  show BitVec.ofBool _ = BitVec.ofBool false
  refine congrArg BitVec.ofBool (Bool.eq_false_iff.2 fun hh => ?_)
  rw [BitVec.slt_iff_toInt_lt, toInt_ofNat_small (t * 512 + p) (by omega)] at hh
  omega

/-- Of an active tile the tile fetched is the tile itself. -/
theorem tileOf_eq (n : BitVec 32) (h : Fits n) (t : ℕ) (ht : t < 16) (hn : 512 * (t : ℤ) < n.toInt) :
    (tileOf n t).toNat = t := by
  obtain ⟨h1, h2⟩ := h
  have c512 : (512#32 : BitVec 32).toInt = 512 := by decide
  have c1 : (1#32 : BitVec 32).toInt = 1 := by decide
  have c0 : (0#32 : BitVec 32).toInt = 0 := by decide
  have e3 : (n + 512#32 - 1#32).toInt = n.toInt + 511 := by
    have ea : n + 512#32 - 1#32 = n + 511#32 := by
      rw [BitVec.sub_eq_add_neg, BitVec.add_assoc]
      exact congrArg (n + ·) (by decide)
    have c511 : (511#32 : BitVec 32).toInt = 511 := by decide
    rw [ea, BitVec.toInt_add, c511]
    exact Int.bmod_eq_of_le (by omega) (by omega)
  generalize hv : n + 512#32 - 1#32 = v at e3
  have hs1 : (0#32 : BitVec 32).slt v = true := by rw [BitVec.slt_iff_toInt_lt, e3, c0]; omega
  have hs2 : v.slt (0#32 : BitVec 32) = false := by
    refine Bool.eq_false_iff.2 fun hh => ?_
    rw [BitVec.slt_iff_toInt_lt, e3, c0] at hh; omega
  have hd : Scalar.divsi v 512#32 = v.sdiv 512#32 := by
    show (if IntOp.SDivCorner v 512#32 then _ else _) = _
    rw [if_neg]
    rintro (hc | ⟨-, hc⟩) <;> exact absurd hc (by decide)
  have e4 : (v.sdiv 512#32).toInt = (n.toInt + 511) / 512 := by
    rw [BitVec.toInt_sdiv, e3, c512, Int.tdiv_eq_ediv_of_nonneg (by omega)]
    exact Int.bmod_eq_of_le (by omega) (by omega)
  have hsel : (let v4 : BitVec 32 := Scalar.divsi v 512#32
      let v9 : BitVec 32 := Scalar.subi (Scalar.extui (Scalar.cmpi .sgt v 0#32)) (Scalar.extui (Scalar.cmpi .slt v 0#32))
      let v14 : BitVec 32 := Scalar.subi (Scalar.extui (Scalar.cmpi .sgt (512#32 : BitVec 32) 0#32)) (Scalar.extui (Scalar.cmpi .slt (512#32 : BitVec 32) 0#32))
      let v18 : BitVec 1 := Scalar.andi (Scalar.cmpi .ne v9 v14) (Scalar.cmpi .ne (Scalar.remsi v 512#32) 0#32)
      Scalar.select v18 (Scalar.subi v4 1#32) v4) = v.sdiv 512#32 := by
    have e9 : Scalar.subi (Scalar.extui (Scalar.cmpi .sgt v 0#32) : BitVec 32) (Scalar.extui (Scalar.cmpi .slt v 0#32)) = 1#32 := by
      show (BitVec.ofBool ((0#32 : BitVec 32).slt v)).setWidth 32 - (BitVec.ofBool (v.slt 0#32)).setWidth 32 = 1#32
      rw [hs1, hs2]; decide
    dsimp only
    rw [e9, hd]
    have e18 : ∀ b : BitVec 1, Scalar.andi (Scalar.cmpi .ne (1#32 : BitVec 32) (Scalar.subi (Scalar.extui (Scalar.cmpi .sgt (512#32 : BitVec 32) 0#32)) (Scalar.extui (Scalar.cmpi .slt (512#32 : BitVec 32) 0#32)))) b = 0#1 := by decide
    rw [e18]
    exact select_zero _ _
  have hx : (v.sdiv 512#32 - 1#32).toInt = (n.toInt + 511) / 512 - 1 := by
    rw [BitVec.toInt_sub, e4, c1]
    exact Int.bmod_eq_of_le (by omega) (by omega)
  have key : tileOf n t = Scalar.minsi (BitVec.ofNat 32 t) (Scalar.maxsi (Scalar.subi (v.sdiv 512#32) 1#32) 0#32) := by
    rw [← hsel, ← hv]; rfl
  rw [key]
  have et : (BitVec.ofNat 32 t).toNat = t := by rw [BitVec.toNat_ofNat]; omega
  have ei := toInt_ofNat_small t (by omega)
  show (if (BitVec.ofNat 32 t).slt (if (0#32 : BitVec 32).slt (v.sdiv 512#32 - 1#32) then v.sdiv 512#32 - 1#32 else 0#32) then BitVec.ofNat 32 t
    else (if (0#32 : BitVec 32).slt (v.sdiv 512#32 - 1#32) then v.sdiv 512#32 - 1#32 else 0#32)).toNat = t
  generalize v.sdiv 512#32 - 1#32 = x at hx
  by_cases hb : (0#32 : BitVec 32).slt x = true
  · rw [if_pos hb]
    by_cases ha : (BitVec.ofNat 32 t).slt x = true
    · rw [if_pos ha, et]
    · rw [if_neg ha]
      rw [BitVec.slt_iff_toInt_lt, ei, hx] at ha
      have : x.toInt = t := by omega
      rw [BitVec.toInt_eq_toNat_cond] at this
      have hlt := x.isLt
      split at this <;> omega
  · rw [if_neg hb]
    have hb' := hb
    rw [BitVec.slt_iff_toInt_lt, hx, c0] at hb'
    have ht0 : t = 0 := by omega
    subst ht0
    decide

end Cert.KernelIdeal.Hand
end
-- ==== Proof.V.Blocks.lean ====
/- THE BLOCKS A GRID POINT READS, entry by entry of the arguments. -/
module

public import proofs.«01_k».proof.Proof.V.Words
public import proofs.«01_k».proof.Proof.KI.Oblig
public import Idealize.ShloMosaic.Lib.StableHlo.RunRead

@[expose] public section

set_option maxRecDepth 16384

noncomputable section

namespace Cert.KernelIdeal.Hand

open Idealize.ShloMosaic Idealize.ShloMosaic.TcCoe Idealize.ShloMosaic.ValueIdx Cert.KernelIdeal Cert.KernelIdeal.Gen

variable (m : (ℓ : Loc nD τ sig) → Buf (Elt Ideal) ℓ)

/-! The arguments, each at its own type. -/
abbrev a0 : FVec Ideal S6x8192x1024 .bf16 := m (((0 : Dev nD) : Thread nD τ).loc main_arg0)
abbrev a1 : FVec Ideal S6x8192x4096 .fp8e4m3 := m (((0 : Dev nD) : Thread nD τ).loc main_arg1)
abbrev a2 : FVec Ideal S6x8192x32 .f32 := m (((0 : Dev nD) : Thread nD τ).loc main_arg2)
abbrev a3 : FVec Ideal S4096x1024 .fp8e4m3 := m (((0 : Dev nD) : Thread nD τ).loc main_arg3)
abbrev a4 : FVec Ideal S32x8 .f32 := m (((0 : Dev nD) : Thread nD τ).loc main_arg4)
abbrev a5 : FVec Ideal S1024 .f32 := m (((0 : Dev nD) : Thread nD τ).loc main_arg5)
abbrev a6 : FVec Ideal S1024 .f32 := m (((0 : Dev nD) : Thread nD τ).loc main_arg6)
abbrev a7 : FVec Ideal S1024 .f32 := m (((0 : Dev nD) : Thread nD τ).loc main_arg7)
abbrev a8 : IVec S6 32 := m (((0 : Dev nD) : Thread nD τ).loc main_arg8)

/-- The sequence and the tile of a grid point. -/
abbrev rowOf (t : Fin grid0.N) : Fin 6 := grid0.coords t 0
abbrev tilOf (t : Fin grid0.N) : Fin 16 := grid0.coords t 1

/-- A token of a tile, in its sequence. -/
abbrev tok (t : Fin 16) (p : Fin 512) : Fin 8192 := ⟨t.val * 512 + p.val, by omega⟩

theorem lenAt_eq (t : Fin grid0.N) : lenAt (F := Ideal) (Lb m) (grid0.coords t) = a8 m (ix1 (rowOf t)) := by
  have e : Lb m = a8 m := V_arg m 0 main_arg8 (by decide)
  rw [e]
  unfold lenAt
  refine congrArg (a8 m) (funext fun a => ?_)
  match a with
  | ⟨0, _⟩ => exact Fin.ext ((by decide +kernel : ∀ t : Fin grid0.N, k0_off1 (grid0.coords t) 0 + 1 * 0 = (grid0.coords t 0).val) t)

variable (t : Fin grid0.N) (h : Fits (a8 m (ix1 (rowOf t)))) (hn : 512 * ((tilOf t).val : ℤ) < (a8 m (ix1 (rowOf t))).toInt)
include h hn

theorem tile_fetched : (tileOf (lenAt (F := Ideal) (pf m 0) (grid0.coords t)) (grid0.coords t 1).val).toNat = (tilOf t).val := by
  have e := lenAt_eq m t
  unfold Lb at e
  rw [e]
  exact tileOf_eq _ h _ (tilOf t).isLt hn

omit h hn in
theorem row_word : (BitVec.ofNat 32 (grid0.coords t 0).val).toNat = (rowOf t).val := by
  have h6 : (grid0.coords t 0).val < 6 := (grid0.coords t 0).isLt
  rw [BitVec.toNat_ofNat]
  exact Nat.mod_eq_of_lt (Nat.lt_trans h6 (by decide))

theorem X3b_at (p : Fin 512) (j : Fin 1024) : X3b m 0 t (ix3 (0 : Fin 1) p j) = a0 m (ix3 (rowOf t) (tok (tilOf t) p) j) := by
  refine Eq.trans (show _ = V m 0 main_arg0 ((((cf m).win 0).blk t).view.emb (ix3 (0 : Fin 1) p j)) from rfl) ?_
  rw [V_arg m 0 main_arg0 (by decide)]
  refine congrArg (a0 m) (funext fun a => Fin.ext ?_)
  match a with
  | ⟨0, _⟩ =>
    show (BitVec.ofNat 32 (grid0.coords t 0).val).toNat * 1 + 1 * 0 = (rowOf t).val
    rw [row_word, Nat.mul_one]
    rfl
  | ⟨1, _⟩ =>
    show (tileOf (lenAt (F := Ideal) (pf m 0) (grid0.coords t)) (grid0.coords t 1).val).toNat * 512 + 1 * p.val = (tilOf t).val * 512 + p.val
    rw [tile_fetched m t h hn, Nat.one_mul]
  | ⟨2, _⟩ => exact Nat.zero_add _ |>.trans (Nat.one_mul _)

theorem X4b_at (p : Fin 512) (k : Fin 4096) : X4b m 0 t (ix3 (0 : Fin 1) p k) = a1 m (ix3 (rowOf t) (tok (tilOf t) p) k) := by
  refine Eq.trans (show _ = V m 0 main_arg1 ((((cf m).win 1).blk t).view.emb (ix3 (0 : Fin 1) p k)) from rfl) ?_
  rw [V_arg m 0 main_arg1 (by decide)]
  refine congrArg (a1 m) (funext fun a => Fin.ext ?_)
  match a with
  | ⟨0, _⟩ =>
    show (BitVec.ofNat 32 (grid0.coords t 0).val).toNat * 1 + 1 * 0 = (rowOf t).val
    rw [row_word, Nat.mul_one]
    rfl
  | ⟨1, _⟩ =>
    show (tileOf (lenAt (F := Ideal) (pf m 0) (grid0.coords t)) (grid0.coords t 1).val).toNat * 512 + 1 * p.val = (tilOf t).val * 512 + p.val
    rw [tile_fetched m t h hn, Nat.one_mul]
  | ⟨2, _⟩ => exact Nat.zero_add _ |>.trans (Nat.one_mul _)

theorem X5b_at (p : Fin 512) (k : Fin 32) : X5b m 0 t (ix3 (0 : Fin 1) p k) = a2 m (ix3 (rowOf t) (tok (tilOf t) p) k) := by
  refine Eq.trans (show _ = V m 0 main_arg2 ((((cf m).win 2).blk t).view.emb (ix3 (0 : Fin 1) p k)) from rfl) ?_
  rw [V_arg m 0 main_arg2 (by decide)]
  refine congrArg (a2 m) (funext fun a => Fin.ext ?_)
  match a with
  | ⟨0, _⟩ =>
    show (BitVec.ofNat 32 (grid0.coords t 0).val).toNat * 1 + 1 * 0 = (rowOf t).val
    rw [row_word, Nat.mul_one]
    rfl
  | ⟨1, _⟩ =>
    show (tileOf (lenAt (F := Ideal) (pf m 0) (grid0.coords t)) (grid0.coords t 1).val).toNat * 512 + 1 * p.val = (tilOf t).val * 512 + p.val
    rw [tile_fetched m t h hn, Nat.one_mul]
  | ⟨2, _⟩ => exact Nat.zero_add _ |>.trans (Nat.one_mul _)

omit h hn

theorem X6b_eq : X6b m 0 t = a3 m := by
  refine funext fun y => Eq.trans (show _ = V m 0 main_arg3 ((((cf m).win 3).blk t).view.emb y) from rfl) ?_
  rw [V_arg m 0 main_arg3 (by decide)]
  refine congrArg (a3 m) (funext fun a => Fin.ext ?_)
  match a with
  | ⟨0, _⟩ => exact Nat.zero_add _ |>.trans (Nat.one_mul _)
  | ⟨1, _⟩ => exact Nat.zero_add _ |>.trans (Nat.one_mul _)

theorem X7b_eq : X7b m 0 t = a4 m := by
  refine funext fun y => Eq.trans (show _ = V m 0 main_arg4 ((((cf m).win 4).blk t).view.emb y) from rfl) ?_
  rw [V_arg m 0 main_arg4 (by decide)]
  refine congrArg (a4 m) (funext fun a => Fin.ext ?_)
  match a with
  | ⟨0, _⟩ => exact Nat.zero_add _ |>.trans (Nat.one_mul _)
  | ⟨1, _⟩ => exact Nat.zero_add _ |>.trans (Nat.one_mul _)

/-! The one-row arrays are the arguments, spread by the host operations. -/
theorem V_v0 : V m 0 main_v0 = broadcastInDim S1x1024 ![1] bcast_S1024_S1x1024_1 (a5 m) := by
  show StableHlo.after (hostOps0 (F := Ideal)) (fun b => m ((0 : Dev nD), b)) _ = _
  after_results
theorem V_v1 : V m 0 main_v1 = broadcastInDim S1x1024 ![1] bcast_S1024_S1x1024_1 (a6 m) := by
  show StableHlo.after (hostOps0 (F := Ideal)) (fun b => m ((0 : Dev nD), b)) _ = _
  after_results
theorem V_v2 : V m 0 main_v2 = broadcastInDim S1x1024 ![1] bcast_S1024_S1x1024_1 (a7 m) := by
  show StableHlo.after (hostOps0 (F := Ideal)) (fun b => m ((0 : Dev nD), b)) _ = _
  after_results
theorem V_v3 : V m 0 main_v3 = broadcastInDim S6x1 ![0] bcast_S6_S6x1_0 (a8 m) := by
  show StableHlo.after (hostOps0 (F := Ideal)) (fun b => m ((0 : Dev nD), b)) _ = _
  after_results

theorem row_spread {α : Type} (v : S1024.Idx → α) (j : Fin 1024) :
    broadcastInDim S1x1024 ![1] bcast_S1024_S1x1024_1 v (ix2 (0 : Fin 1) j) = v (ix1 j) :=
  broadcastInDim_apply _ _ _ _ _ fun a => match a with
    | ⟨0, _⟩ => rfl

theorem X8b_at (j : Fin 1024) : X8b m 0 t (ix2 (0 : Fin 1) j) = a5 m (ix1 j) := by
  refine Eq.trans (show _ = V m 0 main_v0 ((((cf m).win 5).blk t).view.emb (ix2 (0 : Fin 1) j)) from rfl) ?_
  rw [V_v0]
  refine Eq.trans (congrArg _ (funext fun a => Fin.ext ?_)) (row_spread (a5 m) j)
  match a with
  | ⟨0, _⟩ => exact Nat.zero_add _ |>.trans (Nat.one_mul _)
  | ⟨1, _⟩ => exact Nat.zero_add _ |>.trans (Nat.one_mul _)

theorem X9b_at (j : Fin 1024) : X9b m 0 t (ix2 (0 : Fin 1) j) = a6 m (ix1 j) := by
  refine Eq.trans (show _ = V m 0 main_v1 ((((cf m).win 6).blk t).view.emb (ix2 (0 : Fin 1) j)) from rfl) ?_
  rw [V_v1]
  refine Eq.trans (congrArg _ (funext fun a => Fin.ext ?_)) (row_spread (a6 m) j)
  match a with
  | ⟨0, _⟩ => exact Nat.zero_add _ |>.trans (Nat.one_mul _)
  | ⟨1, _⟩ => exact Nat.zero_add _ |>.trans (Nat.one_mul _)

theorem X10b_at (j : Fin 1024) : X10b m 0 t (ix2 (0 : Fin 1) j) = a7 m (ix1 j) := by
  refine Eq.trans (show _ = V m 0 main_v2 ((((cf m).win 7).blk t).view.emb (ix2 (0 : Fin 1) j)) from rfl) ?_
  rw [V_v2]
  refine Eq.trans (congrArg _ (funext fun a => Fin.ext ?_)) (row_spread (a7 m) j)
  match a with
  | ⟨0, _⟩ => exact Nat.zero_add _ |>.trans (Nat.one_mul _)
  | ⟨1, _⟩ => exact Nat.zero_add _ |>.trans (Nat.one_mul _)

theorem X11b_at (r : Fin 6) : X11b m 0 t (ix2 r (0 : Fin 1)) = a8 m (ix1 r) := by
  refine Eq.trans (show _ = V m 0 main_v3 ((((cf m).win 8).blk t).view.emb (ix2 r (0 : Fin 1))) from rfl) ?_
  rw [V_v3]
  refine broadcastInDim_apply _ _ _ _ _ fun a => ?_
  match a with
  | ⟨0, _⟩ => exact (Nat.zero_add _ |>.trans (Nat.one_mul _)).symm

/-- The dequantised weights are those of the whole arrays at every point. -/
theorem wdAt_eq : ∀ n : ℕ, wdAt m 0 n = WD (F := Ideal) (a3 m) (a4 m)
  | 0 => by
    show WD (F := Ideal) (X6b m 0 ⟨0, by decide⟩) (X7b m 0 ⟨0, by decide⟩) = _
    rw [X6b_eq, X7b_eq]
  | n + 1 => by
    show (if h : n < grid0.N then _ else _) = _
    split
    · unfold W18
      rw [X6b_eq, X7b_eq, wdAt_eq n]
      split <;> rfl
    · exact wdAt_eq n

end Cert.KernelIdeal.Hand
end
-- ==== Proof.V.Acc.lean ====
/- THE TILES AND THE RUNNING SUMS over the extended reals: each tile the kernel stores holds the entries of the
   first result, and the running sums after the last point hold, between them, their sums over the sequence. -/
module

public import proofs.«01_k».proof.Proof.V.Tile
public import proofs.«01_k».proof.Proof.V.Blocks
public import Idealize.ShloMosaic.Lib.Pipeline.ValueKit

@[expose] public section

set_option maxRecDepth 16384

noncomputable section

namespace Cert.KernelIdeal.Hand

open Idealize.ShloMosaic hiding ix1 ix2 ix3 ix4
open Idealize.ShloMosaic.TcCoe Idealize.ShloMosaic.ValueIdx Cert.KernelIdeal Cert.KernelIdeal.Gen Cert.Layer

variable (m : (ℓ : Loc nD τ sig) → Buf (Elt Ideal) ℓ)

/-- An entry of the first result, from the kernel's arguments. -/
@[irreducible] def zm (r : Fin 6) (q : Fin 8192) (j : Fin 1024) : EReal :=
  zEnt (a0 m) (a1 m) (a2 m) (a3 m) (a4 m) (a5 m) (a6 m) (a7 m) (a8 m) r q j

variable (hL : ∀ r : Fin 6, Fits (a8 m (ix1 r)))
include hL

/-- An active tile's entries are those of its tokens. -/
theorem zTile_args (t : Fin grid0.N) (hn : 512 * ((tilOf t).val : ℤ) < (a8 m (ix1 (rowOf t))).toInt) (p : Fin 512) (j : Fin 1024) :
    zTile (X3b m 0 t) (X4b m 0 t) (X5b m 0 t) (a3 m) (a4 m) (X8b m 0 t) (X9b m 0 t) (X10b m 0 t) (grid0.coords t)
        (a8 m (ix1 (rowOf t))) p j
      = zm m (rowOf t) (tok (tilOf t) p) j := by
  have h := hL (rowOf t)
  unfold zTile zm zEnt
  rw [mask_eq _ h _ _ (tilOf t).isLt p.isLt]
  have ex : (fun j => X3b m 0 t (ix3 (0 : Fin 1) p j)) = fun j => a0 m (ix3 (rowOf t) (tok (tilOf t) p) j) := funext fun j => X3b_at m t h hn p j
  have eh : (fun k => X4b m 0 t (ix3 (0 : Fin 1) p k)) = fun k => a1 m (ix3 (rowOf t) (tok (tilOf t) p) k) := funext fun k => X4b_at m t h hn p k
  have es : (fun k => X5b m 0 t (ix3 (0 : Fin 1) p k)) = fun k => a2 m (ix3 (rowOf t) (tok (tilOf t) p) k) := funext fun k => X5b_at m t h hn p k
  have eb : (fun j => X8b m 0 t (ix2 (0 : Fin 1) j)) = fun j => a5 m (ix1 j) := funext fun j => X8b_at m t j
  have eg : (fun j => X9b m 0 t (ix2 (0 : Fin 1) j)) = fun j => a6 m (ix1 j) := funext fun j => X9b_at m t j
  have ee : (fun j => X10b m 0 t (ix2 (0 : Fin 1) j)) = fun j => a7 m (ix1 j) := funext fun j => X10b_at m t j
  unfold yTile
  rw [ex, eh, es, eb, eg, ee]

/-- Of a tile at or past the length no entry is kept. -/
theorem zm_past (t : Fin grid0.N) (hn : ¬ 512 * ((tilOf t).val : ℤ) < (a8 m (ix1 (rowOf t))).toInt) (p : Fin 512) (j : Fin 1024) :
    zm m (rowOf t) (tok (tilOf t) p) j = 0 := by
  unfold zm zEnt
  rw [mask_zero _ _ _ (tilOf t).isLt p.isLt hn]
  exact select_zero _ _

/-- The tile the kernel stores. -/
theorem tile_at (t : Fin grid0.N) (p : Fin 512) (j : Fin 1024) :
    tile m 0 t (ix3 (0 : Fin 1) p j) = zm m (rowOf t) (tok (tilOf t) p) j := by
  unfold tile T12
  rw [lenAt_eq, wdAt_eq]
  by_cases hn : 512 * ((tilOf t).val : ℤ) < (a8 m (ix1 (rowOf t))).toInt
  · rw [if_pos ((cond2_iff _ _ (hL _)).2 hn), pay4_at]
    exact zTile_args m hL t hn p j
  · rw [if_neg (mt (cond2_iff _ _ (hL _)).1 hn), zm_past m hL t hn p j]
    exact Ideal.ofBits_zero_f32

/-- What a point adds to the eight running sums of its sequence: the entries of its tile, eight rows apart. -/
def part (t : Fin grid0.N) (s : Fin 8) (j : Fin 1024) : EReal :=
  ∑ u : Fin 64, zm m (rowOf t) (tok (tilOf t) ⟨u.val * 8 + s.val, by omega⟩) j

/-- One step of the running sums. -/
theorem accStep_at (t : Fin grid0.N) (a : FVec Ideal S6x8x1024 .f32) (r : Fin 6) (s : Fin 8) (j : Fin 1024) :
    accStep m 0 t (WD (F := Ideal) (a3 m) (a4 m)) a (ix3 r s j)
      = Z20 (F := Ideal) (grid0.coords t) a (ix3 r s j) + if rowOf t = r then part m t s j else 0 := by
  unfold accStep M20
  rw [lenAt_eq]
  generalize Z20 (F := Ideal) (grid0.coords t) a = A
  by_cases hn : 512 * ((tilOf t).val : ℤ) < (a8 m (ix1 (rowOf t))).toInt
  · rw [if_pos ((cond2_iff _ _ (hL _)).2 hn)]
    unfold MA
    by_cases hr : rowOf t = r
    · rw [if_pos hr, if_pos (show r.val = (grid0.coords t 0).val from congrArg Fin.val hr.symm)]
      refine (pay5_at _ _ _ _ _ _ _ _ _ _ _ s j).trans ?_
      refine congrArg (fun z : EReal => A (ix3 r s j) + z) (Finset.sum_congr rfl fun u _ => ?_)
      exact zTile_args m hL t hn _ j
    · rw [if_neg hr, add_zero, if_neg (show ¬ r.val = (grid0.coords t 0).val from fun e => hr (Fin.ext e.symm))]
  · rw [if_neg (mt (cond2_iff _ _ (hL _)).1 hn)]
    have hz : part m t s j = 0 := Finset.sum_eq_zero fun u _ => zm_past m hL t hn _ j
    rw [hz, ite_self, add_zero]

/-- The running sums after `n` points. -/
theorem accAt_at (r : Fin 6) (s : Fin 8) (j : Fin 1024) : ∀ n : ℕ, n ≤ grid0.N → accAt m 0 n (ix3 r s j)
    = ∑ k ∈ Finset.range n, if h : k < grid0.N then (if rowOf ⟨k, h⟩ = r then part m ⟨k, h⟩ s j else 0) else 0
  | 0, _ => Ideal.ofBits_zero_f32
  | n + 1, hn => by
    have ih := accAt_at r s j n (Nat.le_of_succ_le hn)
    rw [Finset.sum_range_succ, dif_pos (Nat.lt_of_succ_le hn), ← ih]
    have e := accAt_succ m 0 ⟨n, Nat.lt_of_succ_le hn⟩
    rw [wdAt_eq] at e
    refine (congrFun e _).trans ((accStep_at m hL _ _ r s j).trans ?_)
    refine congrArg (fun z : EReal => z + _) ?_
    unfold Z20
    split
    · rename_i h1
      have h0 : n = 0 := (cond1_iff ⟨n, _⟩).1 h1
      subst h0
      rfl
    · rfl

omit hL in
/-- The sequence and the tile of a point are its quotient and remainder by sixteen. -/
theorem coords_divmod : ∀ t : Fin grid0.N, (rowOf t).val = t.val / 16 ∧ (tilOf t).val = t.val % 16 := by decide +kernel

/-- The eight running sums of a sequence add up to the sum over its tokens. -/
theorem acc_total (r : Fin 6) (j : Fin 1024) :
    ∑ s : Fin 8, accAt m 0 grid0.N (ix3 r s j) = ∑ q : Fin 8192, zm m r q j := by
  let Z : ℕ → EReal := fun q => if h : q < 8192 then zm m r ⟨q, h⟩ j else 0
  have hZ : ∀ q : Fin 8192, zm m r q j = Z q.val := fun q => by
    show _ = (if h : q.val < 8192 then zm m r ⟨q.val, h⟩ j else 0)
    rw [dif_pos q.isLt]
  have e : ∀ s : Fin 8, accAt m 0 grid0.N (ix3 r s j)
      = ∑ b ∈ Finset.range 16, ∑ u ∈ Finset.range 64, Z (b * 512 + (u * 8 + s.val)) := by
    intro s
    rw [accAt_at m hL r s j grid0.N (Nat.le_refl _)]
    have e1 : ∀ k ∈ Finset.range (6 * 16), (if h : k < grid0.N then (if rowOf ⟨k, h⟩ = r then part m ⟨k, h⟩ s j else 0) else 0)
        = (fun a b => if a = r.val then ∑ u ∈ Finset.range 64, Z (b * 512 + (u * 8 + s.val)) else 0) (k / 16) (k % 16) := by
      intro k hk
      have hk' : k < grid0.N := Finset.mem_range.1 hk
      rw [dif_pos hk']
      obtain ⟨c0, c1⟩ := coords_divmod ⟨k, hk'⟩
      by_cases hr : rowOf ⟨k, hk'⟩ = r
      · rw [if_pos hr]
        have hr' : k / 16 = r.val := c0.symm.trans (congrArg Fin.val hr)
        refine Eq.trans ?_ (if_pos hr').symm
        rw [← Fin.sum_univ_eq_sum_range (fun u => Z (k % 16 * 512 + (u * 8 + s.val))) 64]
        refine Finset.sum_congr rfl fun u _ => ?_
        rw [hr, hZ]
        exact congrArg Z (congrArg (fun x => x * 512 + (u.val * 8 + s.val)) c1)
      · rw [if_neg hr]
        exact (if_neg fun h => hr (Fin.ext (c0.trans h))).symm
    refine (Finset.sum_congr (rfl : Finset.range grid0.N = Finset.range (6 * 16)) e1).trans ?_
    refine (Finset.sum_range_mul_divmod 6 16 (fun a b => if a = r.val then ∑ u ∈ Finset.range 64, Z (b * 512 + (u * 8 + s.val)) else (0 : EReal))).trans ?_
    refine (Finset.sum_eq_single r.val (fun a _ ha => ?_) (fun h => absurd (Finset.mem_range.2 r.isLt) h)).trans ?_
    · exact Finset.sum_eq_zero fun b _ => if_neg ha
    · exact Finset.sum_congr rfl fun b _ => if_pos rfl
  rw [Finset.sum_congr rfl fun s _ => e s, Fin.sum_univ_eq_sum_range (fun s => ∑ b ∈ Finset.range 16, ∑ u ∈ Finset.range 64, Z (b * 512 + (u * 8 + s))) 8,
    Finset.sum_comm, Finset.sum_congr rfl fun q _ => hZ q, Fin.sum_univ_eq_sum_range Z 8192]
  refine Eq.trans ?_ (Finset.sum_range_range_mul_add 16 512 Z)
  refine Finset.sum_congr rfl fun b _ => ?_
  rw [Finset.sum_comm]
  exact Finset.sum_range_range_mul_add 64 8 fun l => Z (b * 512 + l)

end Cert.KernelIdeal.Hand
end
-- ==== Proof.V.Final.lean ====
/- THE KERNEL'S RESULTS as its last write-backs leave them: the first, tile by tile; the others, from the running
   sums after the last point. -/
module

public import proofs.«01_k».proof.Proof.V.Acc

@[expose] public section

set_option maxRecDepth 16384

noncomputable section

namespace Cert.KernelIdeal.Hand

open Idealize.ShloMosaic hiding ix1 ix2 ix3 ix4
open Idealize.ShloMosaic.TcCoe Idealize.ShloMosaic.ValueIdx Cert.KernelIdeal Cert.KernelIdeal.Gen Cert.Layer
open Idealize.ShloMosaic.Pipeline (Dat Cfg Window)

variable (m : (ℓ : Loc nD τ sig) → Buf (Elt Ideal) ℓ) (ρ : Dev nD → PrngReg)

/-- The first result, whole. -/
def zArr : FVec Ideal S6x8192x1024 .f32 := fun y => zm m (y 0) (y 1) (y 2)

/-- The last grid point. -/
abbrev tN : Fin grid0.N := ⟨95, by decide⟩
theorem tN_last : tN.val + 1 = grid0.N := by decide

/-- Consecutive points write different tiles of the first result. -/
theorem moves_9 : ∀ t : Fin grid0.N, (decide (t.val + 1 = grid0.N)
    || decide (∃ h : t.val + 1 < grid0.N, cc0_transform_9 (grid0.coords ⟨t.val + 1, h⟩) ≠ cc0_transform_9 (grid0.coords t))) = true := by
  decide +kernel

theorem flush_9 (t : Fin (cf m).N) : ((cf m).win 9).flush t = true := by
  unfold Window.flush
  exact moves_9 t

/-- Where a tile lies in the first result. -/
theorem emb_9 (t : Fin grid0.N) (p : Fin 512) (j : Fin 1024) :
    (((cf m).win 9).blk t).view.emb (ix3 (0 : Fin 1) p j) = ix3 (rowOf t) (tok (tilOf t) p) j := by
  refine funext fun a => Fin.ext ?_
  match a with
  | ⟨0, _⟩ =>
    show (BitVec.ofNat 32 (grid0.coords t 0).val).toNat * 1 + 1 * 0 = (rowOf t).val
    rw [row_word, Nat.mul_one]
    rfl
  | ⟨1, _⟩ =>
    show (BitVec.ofNat 32 (grid0.coords t 1).val).toNat * 512 + 1 * p.val = (tilOf t).val * 512 + p.val
    have h16 : (grid0.coords t 1).val < 16 := (grid0.coords t 1).isLt
    rw [BitVec.toNat_ofNat, Nat.mod_eq_of_lt (Nat.lt_trans h16 (by decide)), Nat.one_mul]
  | ⟨2, _⟩ => exact Nat.zero_add _ |>.trans (Nat.one_mul _)

/-- The tiles cover the first result. -/
theorem cover_9 (y : S6x8192x1024.Idx) : ∃ t : Fin (cf m).N, ((cf m).win 9).flush t = true ∧ y ∈ (((cf m).win 9).blk t).view.set := by
  have h0 : (y 0).val < 6 := (y 0).isLt
  have h1 : (y 1).val < 8192 := (y 1).isLt
  have ht : 16 * (y 0).val + (y 1).val / 512 < 96 := by omega
  let t : Fin grid0.N := ⟨16 * (y 0).val + (y 1).val / 512, ht⟩
  obtain ⟨c0, c1⟩ := coords_divmod t
  have e0 : rowOf t = y 0 := Fin.ext (c0.trans (show (16 * (y 0).val + (y 1).val / 512) / 16 = (y 0).val by omega))
  have e1 : tok (tilOf t) ⟨(y 1).val % 512, Nat.mod_lt _ (by decide)⟩ = y 1 := by
    apply Fin.ext
    show (tilOf t).val * 512 + (y 1).val % 512 = (y 1).val
    rw [c1]
    show (16 * (y 0).val + (y 1).val / 512) % 16 * 512 + (y 1).val % 512 = (y 1).val
    omega
  have ey : ix3 (rowOf t) (tok (tilOf t) ⟨(y 1).val % 512, Nat.mod_lt _ (by decide)⟩) (y 2) = y := by
    rw [e0, e1]
    funext a
    match a with
    | ⟨0, _⟩ => rfl
    | ⟨1, _⟩ => rfl
    | ⟨2, _⟩ => rfl
  refine ⟨t, flush_9 m t, ?_⟩
  have h := (((cf m).win 9).blk t).view.emb_mem_set (ix3 (0 : Fin 1) (⟨(y 1).val % 512, Nat.mod_lt _ (by decide)⟩ : Fin 512) (y 2))
  exact Eq.mp (congrArg (fun z => z ∈ (((cf m).win 9).blk t).view.set) ((emb_9 m t _ (y 2)).trans ey)) h

/-- The first result after the run. -/
theorem final_9 (hL : ∀ r : Fin 6, Fits (a8 m (ix1 r))) : (dats m 0 0).arrAt 9 (cf m).N = zArr m := by
  refine (dats m 0 0).arrAt_eq_of_emb 9 (zArr m) (fun t _ (y : S1x512x1024.Idx) => ?_) (cover_9 m)
  have ey : y = ix3 (0 : Fin 1) (y 1) (y 2) := by
    funext a
    match a with
    | ⟨0, _⟩ => exact Subsingleton.elim (α := Fin 1) _ _
    | ⟨1, _⟩ => rfl
    | ⟨2, _⟩ => rfl
  refine Eq.trans (show _ = tile m 0 t y from rfl) ?_
  rw [ey]
  refine (tile_at m hL t (y 1) (y 2)).trans ?_
  exact (congrArg (zArr m) (emb_9 m t (y 1) (y 2))).symm

/-! The other results are written back whole, once, at the last point. -/

theorem last_iff (t : Fin grid0.N) (h : decide (t.val + 1 = grid0.N) = true) : t = tN :=
  Fin.ext (Nat.succ.inj (of_decide_eq_true h))

theorem whole_10 : ((cf m).win 10).WholeAt tN :=
  ⟨(flush_10 m tN).trans (decide_eq_true tN_last), fun t h => last_iff t ((flush_10 m t).symm.trans h), fun a => match a with
    | ⟨0, _⟩ => ⟨rfl, rfl⟩
    | ⟨1, _⟩ => ⟨rfl, rfl⟩⟩
theorem whole_11 : ((cf m).win 11).WholeAt tN :=
  ⟨(flush_11 m tN).trans (decide_eq_true tN_last), fun t h => last_iff t ((flush_11 m t).symm.trans h), fun a => match a with
    | ⟨0, _⟩ => ⟨rfl, rfl⟩
    | ⟨1, _⟩ => ⟨rfl, rfl⟩⟩
theorem whole_12 : ((cf m).win 12).WholeAt tN :=
  ⟨(flush_12 m tN).trans (decide_eq_true tN_last), fun t h => last_iff t ((flush_12 m t).symm.trans h), fun a => match a with
    | ⟨0, _⟩ => ⟨rfl, rfl⟩
    | ⟨1, _⟩ => ⟨rfl, rfl⟩⟩
theorem whole_13 : ((cf m).win 13).WholeAt tN :=
  ⟨(flush_13 m tN).trans (decide_eq_true tN_last), fun t h => last_iff t ((flush_13 m t).symm.trans h), fun a => match a with
    | ⟨0, _⟩ => ⟨rfl, rfl⟩
    | ⟨1, _⟩ => ⟨rfl, rfl⟩⟩
theorem whole_14 : ((cf m).win 14).WholeAt tN :=
  ⟨(flush_14 m tN).trans (decide_eq_true tN_last), fun t h => last_iff t ((flush_14 m t).symm.trans h), fun a => match a with
    | ⟨0, _⟩ => ⟨rfl, rfl⟩
    | ⟨1, _⟩ => ⟨rfl, rfl⟩⟩

/-- The running sums after the last point, and the lengths it reads. -/
@[irreducible] def accN : FVec Ideal S6x8x1024 .f32 := accAt m 0 (tN.val + 1)
@[irreducible] def lenN : IVec S6x1 32 := X11b m 0 tN

theorem final_10 : (dats m 0 0).arrAt 10 (cf m).N = k0_pay60 (F := Ideal) (accN m) (lenN m) := by
  unfold accN lenN
  exact (dats m 0 0).arrAt_eq_of_after_last 10 tN (whole_10 m) _ (fun j => rfl)
theorem final_11 : (dats m 0 0).arrAt 11 (cf m).N = k0_pay63 (F := Ideal) (accN m) (lenN m) := by
  unfold accN lenN
  exact (dats m 0 0).arrAt_eq_of_after_last 11 tN (whole_11 m) _ (fun j => rfl)
theorem final_12 : (dats m 0 0).arrAt 12 (cf m).N = k0_pay62 (F := Ideal) (accN m) (lenN m) := by
  unfold accN lenN
  exact (dats m 0 0).arrAt_eq_of_after_last 12 tN (whole_12 m) _ (fun j => rfl)
theorem final_13 : (dats m 0 0).arrAt 13 (cf m).N = k0_pay9 (F := Ideal) (k0_pay64 (F := Ideal) (accN m) (lenN m)) (k0_pay65 (F := Ideal) (accN m) (lenN m)) := by
  unfold accN lenN
  exact (dats m 0 0).arrAt_eq_of_after_last 13 tN (whole_13 m) _ (fun j => rfl)
theorem final_14 : (dats m 0 0).arrAt 14 (cf m).N = k0_pay8 (F := Ideal) (k0_pay64 (F := Ideal) (accN m) (lenN m)) (k0_pay65 (F := Ideal) (accN m) (lenN m)) := by
  unfold accN lenN
  exact (dats m 0 0).arrAt_eq_of_after_last 14 tN (whole_14 m) _ (fun j => rfl)

/-- The mean the kernel divides out: the sum of the first result over the sequence, over the length. -/
theorem mean_at (hL : ∀ r : Fin 6, Fits (a8 m (ix1 r))) (r : Fin 6) (j : Fin 1024) :
    k0_pay60 (F := Ideal) (accN m) (lenN m) (ix2 r j)
      = Ideal.div (∑ q : Fin 8192, zm m r q j) (Scalar.sitofp (F := Ideal) .f32 (a8 m (ix1 r))) := by
  rw [pay60_at]
  unfold accN lenN
  rw [X11b_at]
  exact congrArg (fun z : EReal => Ideal.div z _) (acc_total m hL r j)

/-- THE KERNEL'S RUN: its six results and its arguments after it. -/
theorem run (hL : ∀ r : Fin 6, Fits (a8 m (ix1 r))) :
    θ_run defs (onTc (τ := τ) (main (F := Ideal))) ⟨m, fun _ => 0, ρ⟩ (fun r =>
      (r.2.mem (((0 : Dev nD) : Thread nD τ).loc main_v4_0) = zArr m
      ∧ r.2.mem (((0 : Dev nD) : Thread nD τ).loc main_v4_1) = k0_pay60 (F := Ideal) (accN m) (lenN m)
      ∧ r.2.mem (((0 : Dev nD) : Thread nD τ).loc main_v4_2) = k0_pay63 (F := Ideal) (accN m) (lenN m)
      ∧ r.2.mem (((0 : Dev nD) : Thread nD τ).loc main_v4_3) = k0_pay62 (F := Ideal) (accN m) (lenN m)
      ∧ r.2.mem (((0 : Dev nD) : Thread nD τ).loc main_v4_4) = k0_pay9 (F := Ideal) (k0_pay64 (F := Ideal) (accN m) (lenN m)) (k0_pay65 (F := Ideal) (accN m) (lenN m))
      ∧ r.2.mem (((0 : Dev nD) : Thread nD τ).loc main_v4_5) = k0_pay8 (F := Ideal) (k0_pay64 (F := Ideal) (accN m) (lenN m)) (k0_pay65 (F := Ideal) (accN m) (lenN m)))) :=
  (θ_run defs _ _).mono (fun _ h => ⟨((h.1 0).1 9).trans (final_9 m hL), ((h.1 0).1 10).trans (final_10 m),
    ((h.1 0).1 11).trans (final_11 m), ((h.1 0).1 12).trans (final_12 m), ((h.1 0).1 13).trans (final_13 m),
    ((h.1 0).1 14).trans (final_14 m)⟩) (run_main m ρ)

end Cert.KernelIdeal.Hand
end
-- ==== Proof.V.Ref.lean ====
/- WHAT THE REFERENCE COMPUTES before it quantises: each entry of its first result is LayerNorm of the
   row at the entry, masked; its second is the sum of the first over the rows, divided by the length. -/
module

public import proofs.«01_k».proof.Proof.V.Spec
public import proofs.«01_k».proof.Proof.Gen.ReferenceIdeal.Frame

@[expose] public section

set_option maxRecDepth 16384

noncomputable section

namespace Cert.ReferenceIdeal.Hand

open Idealize.ShloMosaic Idealize.ShloMosaic.ValueIdx Cert.ReferenceIdeal Cert.ReferenceIdeal.Gen Cert.Layer

/-- A value per row, spread over the row. -/
theorem bc_row {α : Type} (v : S6x8192x1.Idx → α) (r : Fin 6) (q : Fin 8192) (j : Fin 1024) :
    broadcastTo S6x8192x1024 v broadcasts_S6x8192x1_S6x8192x1024 (ix3 r q j) = v (ix3 r q (0 : Fin 1)) :=
  broadcastTo_apply _ _ _ _ fun a => match a with
    | ⟨0, _⟩ => rfl
    | ⟨1, _⟩ => rfl
    | ⟨2, _⟩ => rfl

/-- A value per feature, spread over all rows. -/
theorem bc_feat {α : Type} (v : S1024.Idx → α) (r : Fin 6) (q : Fin 8192) (j : Fin 1024) :
    broadcastTo S6x8192x1024 (shapeCast S1x1x1024 v shapeCasts_S1024_S1x1x1024) broadcasts_S1x1x1024_S6x8192x1024 (ix3 r q j)
      = v (ix1 j) :=
  (broadcastTo_apply _ _ _ (ix3 (0 : Fin 1) (0 : Fin 1) j) fun a => match a with
    | ⟨0, _⟩ => rfl
    | ⟨1, _⟩ => rfl
    | ⟨2, _⟩ => rfl).trans
  (shapeCast_apply _ _ _ _ (by
    rw [Shape.rowMajor_val_one, Shape.rowMajor_val_three]
    show j.val = (0 * 1 + 0) * 1024 + j.val
    omega))

/-- A value per sequence, spread over the sequence's rows. -/
theorem bc_seq {α : Type} (v : S6.Idx → α) (r : Fin 6) (q : Fin 8192) (j : Fin 1024) :
    broadcastTo S6x8192x1024 (shapeCast S6x1x1 v shapeCasts_S6_S6x1x1) broadcasts_S6x1x1_S6x8192x1024 (ix3 r q j)
      = v (ix1 r) :=
  (broadcastTo_apply _ _ _ (ix3 r (0 : Fin 1) (0 : Fin 1)) fun a => match a with
    | ⟨0, _⟩ => rfl
    | ⟨1, _⟩ => rfl
    | ⟨2, _⟩ => rfl).trans
  (shapeCast_apply _ _ _ _ (by
    rw [Shape.rowMajor_val_one, Shape.rowMajor_val_three]
    show r.val = (r.val * 1 + 0) * 1 + 0
    omega))

/-- A sum over the features of a row, kept as a column. -/
theorem sum_row (v : FVec Ideal S6x8192x1024 .f32) (r : Fin 6) (q : Fin 8192) :
    shapeCast S6x8192x1 (multiReduction .add [2] S6x8192 v 0x00000000#32 reduces_S6x8192x1024_S6x8192 (.inl rfl) rfl)
        shapeCasts_S6x8192_S6x8192x1 (ix3 r q (0 : Fin 1))
      = ∑ k : Fin 1024, v (ix3 r q k) :=
  (shapeCast_apply _ _ _ (ix2 r q) (by
    rw [Shape.rowMajor_val_two, Shape.rowMajor_val_three]
    show r.val * 8192 + q.val = (r.val * 8192 + q.val) * 1 + 0
    omega)).trans
  ((Ideal.multiReduction_add_single v _ _ _ _ _).trans (Finset.sum_congr rfl fun k _ => congrArg v (by
    funext a
    match a with
    | ⟨0, _⟩ => rfl
    | ⟨1, _⟩ => rfl
    | ⟨2, _⟩ => rfl)))

/-- The reference's dequantised activations, row `8192 r + q`. -/
theorem hd_at (H : FVec Ideal S6x8192x4096 .bf16) (S : FVec Ideal S6x8192x32 .bf16) (r : Fin 6) (q : Fin 8192) (k : Fin 4096)
    (n : Fin 49152) (hn : n.val = r.val * 8192 + q.val) :
    shapeCast S49152x4096 (mulf (shapeCast S6x8192x32x128 H shapeCasts_S6x8192x4096_S6x8192x32x128)
        (broadcastTo S6x8192x32x128 (shapeCast S6x8192x32x1 S shapeCasts_S6x8192x32_S6x8192x32x1)
          broadcasts_S6x8192x32x1_S6x8192x32x128)) shapeCasts_S6x8192x32x128_S49152x4096 (ix2 n k)
      = (H (ix3 r q k) : EReal) * (S (ix3 r q (blkF k)) : EReal) := by
  have hk := k.isLt
  refine (shapeCast_apply _ _ _ (ix4 r q (blkF k) (⟨k.val % 128, Nat.mod_lt _ (by omega)⟩ : Fin 128)) (by
    rw [Shape.rowMajor_val_two, Shape.rowMajor_val_four]
    show ((r.val * 8192 + q.val) * 32 + k.val / 128) * 128 + k.val % 128 = n.val * 4096 + k.val
    omega)).trans ?_
  refine congrArg₂ (fun a b : EReal => a * b) ?_ ?_
  · exact shapeCast_apply _ _ _ _ (by
      rw [Shape.rowMajor_val_three, Shape.rowMajor_val_four]
      show (r.val * 8192 + q.val) * 4096 + k.val = ((r.val * 8192 + q.val) * 32 + k.val / 128) * 128 + k.val % 128
      omega)
  · refine (broadcastTo_apply _ _ _ (ix4 r q (blkF k) (0 : Fin 1)) fun a => match a with
      | ⟨0, _⟩ => rfl
      | ⟨1, _⟩ => rfl
      | ⟨2, _⟩ => rfl
      | ⟨3, _⟩ => rfl).trans ?_
    exact shapeCast_apply _ _ _ _ (by
      rw [Shape.rowMajor_val_three, Shape.rowMajor_val_four]
      show (r.val * 8192 + q.val) * 32 + k.val / 128 = ((r.val * 8192 + q.val) * 32 + k.val / 128) * 1 + 0
      omega)

/-- The reference's dequantised weights. -/
theorem wd_at (W : FVec Ideal S4096x1024 .bf16) (T : FVec Ideal S32x8 .bf16) (k : Fin 4096) (j : Fin 1024) :
    shapeCast S4096x1024 (mulf (shapeCast S32x128x8x128 W shapeCasts_S4096x1024_S32x128x8x128)
        (broadcastTo S32x128x8x128 (shapeCast S32x1x8x1 T shapeCasts_S32x8_S32x1x8x1)
          broadcasts_S32x1x8x1_S32x128x8x128)) shapeCasts_S32x128x8x128_S4096x1024 (ix2 k j)
      = (W (ix2 k j) : EReal) * (T (ix2 (blkF k) (blkD j)) : EReal) := by
  have hk := k.isLt
  have hj := j.isLt
  refine (shapeCast_apply _ _ _ (ix4 (blkF k) (⟨k.val % 128, Nat.mod_lt _ (by omega)⟩ : Fin 128) (blkD j)
      (⟨j.val % 128, Nat.mod_lt _ (by omega)⟩ : Fin 128)) (by
    rw [Shape.rowMajor_val_two, Shape.rowMajor_val_four]
    show ((k.val / 128 * 128 + k.val % 128) * 8 + j.val / 128) * 128 + j.val % 128 = k.val * 1024 + j.val
    omega)).trans ?_
  refine congrArg₂ (fun a b : EReal => a * b) ?_ ?_
  · exact shapeCast_apply _ _ _ _ (by
      rw [Shape.rowMajor_val_two, Shape.rowMajor_val_four]
      show k.val * 1024 + j.val = ((k.val / 128 * 128 + k.val % 128) * 8 + j.val / 128) * 128 + j.val % 128
      omega)
  · refine (broadcastTo_apply _ _ _ (ix4 (blkF k) (0 : Fin 1) (blkD j) (0 : Fin 1)) fun a => match a with
      | ⟨0, _⟩ => rfl
      | ⟨1, _⟩ => rfl
      | ⟨2, _⟩ => rfl
      | ⟨3, _⟩ => rfl).trans ?_
    exact shapeCast_apply _ _ _ _ (by
      rw [Shape.rowMajor_val_two, Shape.rowMajor_val_four]
      show k.val / 128 * 8 + j.val / 128 = ((k.val / 128 * 1 + 0) * 8 + j.val / 128) * 1 + 0
      omega)

/-- The reference's rows before LayerNorm. -/
def refY (H : FVec Ideal S6x8192x4096 .fp8e4m3) (S : FVec Ideal S6x8192x32 .f32) (W : FVec Ideal S4096x1024 .fp8e4m3)
    (T : FVec Ideal S32x8 .f32) (X : FVec Ideal S6x8192x1024 .bf16) (b : FVec Ideal S1024 .f32) : FVec Ideal S6x8192x1024 .f32 :=
  addf (addf (extf .f32 X bitsLt_bf16_f32) (shapeCast S6x8192x1024 (matmul dot_S49152x4096_S4096x1024_S49152x1024_1_0_0_1_n_n none
      (shapeCast S49152x4096 (mulf (shapeCast S6x8192x32x128 (extf .bf16 H bitsLt_fp8e4m3_bf16) shapeCasts_S6x8192x4096_S6x8192x32x128)
        (broadcastTo S6x8192x32x128 (shapeCast S6x8192x32x1 (truncf .bf16 S bitsLt_bf16_f32) shapeCasts_S6x8192x32_S6x8192x32x1)
          broadcasts_S6x8192x32x1_S6x8192x32x128)) shapeCasts_S6x8192x32x128_S49152x4096)
      (shapeCast S4096x1024 (mulf (shapeCast S32x128x8x128 (extf .bf16 W bitsLt_fp8e4m3_bf16) shapeCasts_S4096x1024_S32x128x8x128)
        (broadcastTo S32x128x8x128 (shapeCast S32x1x8x1 (truncf .bf16 T bitsLt_bf16_f32) shapeCasts_S32x8_S32x1x8x1)
          broadcasts_S32x1x8x1_S32x128x8x128)) shapeCasts_S32x128x8x128_S4096x1024)
      (constant S49152x1024 .f32 0x00000000#32)) shapeCasts_S49152x1024_S6x8192x1024))
    (broadcastTo S6x8192x1024 (shapeCast S1x1x1024 b shapeCasts_S1024_S1x1x1024) broadcasts_S1x1x1024_S6x8192x1024)

theorem refY_at (H : FVec Ideal S6x8192x4096 .fp8e4m3) (S : FVec Ideal S6x8192x32 .f32) (W : FVec Ideal S4096x1024 .fp8e4m3)
    (T : FVec Ideal S32x8 .f32) (X : FVec Ideal S6x8192x1024 .bf16) (b : FVec Ideal S1024 .f32)
    (r : Fin 6) (q : Fin 8192) (j : Fin 1024) :
    refY H S W T X b (ix3 r q j)
      = yRow (fun j => X (ix3 r q j)) (fun k => H (ix3 r q k)) (fun k => S (ix3 r q k)) W T (fun j => b (ix1 j)) j := by
  have hr := r.isLt
  have hq := q.isLt
  unfold refY yRow
  refine congrArg₂ (fun a b : EReal => a + b) (congrArg (fun z : EReal => X (ix3 r q j) + z) ?_) (bc_feat b r q j)
  refine (shapeCast_apply _ _ _ (ix2 (⟨r.val * 8192 + q.val, by omega⟩ : Fin 49152) j) (by
    rw [Shape.rowMajor_val_two, Shape.rowMajor_val_three]
    rfl)).trans ?_
  refine (Ideal.matmul_plain_apply (M := 49152) (K := 4096) (N := 1024) none _ _ _ _ _).trans ?_
  refine (congrArg₂ (fun a b : EReal => a + b) Ideal.ofBits_zero_f32 (Finset.sum_congr rfl fun k _ =>
    congrArg₂ (fun a b : EReal => a * b) (hd_at _ _ r q k _ rfl) (wd_at _ _ k j))).trans ?_
  rw [zero_add]
  rfl

/-- The reference's centred rows. -/
theorem pay1_at (H : FVec Ideal S6x8192x4096 .fp8e4m3) (S : FVec Ideal S6x8192x32 .f32) (W : FVec Ideal S4096x1024 .fp8e4m3)
    (T : FVec Ideal S32x8 .f32) (X : FVec Ideal S6x8192x1024 .bf16) (b : FVec Ideal S1024 .f32)
    (r : Fin 6) (q : Fin 8192) (j : Fin 1024) :
    k0_pay1 (F := Ideal) H S W T X b (ix3 r q j)
      = center (yRow (fun j => X (ix3 r q j)) (fun k => H (ix3 r q k)) (fun k => S (ix3 r q k)) W T (fun j => b (ix1 j))) j := by
  have e : k0_pay1 (F := Ideal) H S W T X b
      = subf (refY H S W T X b) (broadcastTo S6x8192x1024 (divf (shapeCast S6x8192x1 (multiReduction .add [2] S6x8192
          (refY H S W T X b) 0x00000000#32 reduces_S6x8192x1024_S6x8192 (.inl rfl) rfl) shapeCasts_S6x8192_S6x8192x1)
          (broadcast S6x8192x1 (Scalar.ofBits (F := Ideal) .f32 0x44800000#32))) broadcasts_S6x8192x1_S6x8192x1024) := rfl
  rw [e]
  unfold center
  refine congrArg₂ (fun a b : EReal => a - b) (refY_at H S W T X b r q j) ((bc_row _ r q j).trans ?_)
  refine congrArg (fun z : EReal => Ideal.div z (Ideal.ofBits .f32 0x44800000#32)) ((sum_row _ r q).trans ?_)
  exact Finset.sum_congr rfl fun k _ => refY_at H S W T X b r q k

/-- The reference's variances. -/
theorem pay2_at (H : FVec Ideal S6x8192x4096 .fp8e4m3) (S : FVec Ideal S6x8192x32 .f32) (W : FVec Ideal S4096x1024 .fp8e4m3)
    (T : FVec Ideal S32x8 .f32) (X : FVec Ideal S6x8192x1024 .bf16) (b : FVec Ideal S1024 .f32) (r : Fin 6) (q : Fin 8192) :
    k0_pay2 (F := Ideal) H S W T X b (ix3 r q (0 : Fin 1))
      = varRow (yRow (fun j => X (ix3 r q j)) (fun k => H (ix3 r q k)) (fun k => S (ix3 r q k)) W T (fun j => b (ix1 j))) := by
  unfold k0_pay2 varRow
  refine congrArg (fun z : EReal => Ideal.div z (Ideal.ofBits .f32 0x44800000#32) + Ideal.ofBits .f32 0x3727C5AC#32)
    ((sum_row _ r q).trans ?_)
  exact Finset.sum_congr rfl fun k _ => congrArg₂ (fun a b : EReal => a * b) (pay1_at H S W T X b r q k) (pay1_at H S W T X b r q k)

/-- The reference's masked LayerNorm. -/
theorem pay3_at (C : FVec Ideal S6x8192x1024 .f32) (v : FVec Ideal S6x8192x1 .f32) (g be : FVec Ideal S1024 .f32)
    (L : IVec S6 32) (r : Fin 6) (q : Fin 8192) (j : Fin 1024) :
    k0_pay3 (F := Ideal) C v g be L (ix3 r q j)
      = Scalar.select (IntOp.cmpi .slt (BitVec.ofNat 32 q.val) (L (ix1 r)))
          ((C (ix3 r q j) : EReal) * Ideal.rsqrt (v (ix3 r q (0 : Fin 1))) * g (ix1 j) + be (ix1 j)) (0 : EReal) := by
  unfold k0_pay3
  rw [select_apply]
  refine congr (congr (congrArg _ ?_) ?_) Ideal.ofBits_zero_f32
  · exact congrArg₂ (IntOp.cmpi .slt) (iota_single_apply _ _ _ _ _ _) (bc_seq L r q j)
  · exact congrArg₂ (fun a b : EReal => a + b) (congrArg₂ (fun a b : EReal => a * b)
      (congrArg (fun z : EReal => C (ix3 r q j) * z) (bc_row _ r q j)) (bc_feat g r q j)) (bc_feat be r q j)

/-- The reference's mean over the sequence, from its first result `Z`. -/
theorem pay4_at (C : FVec Ideal S6x8192x1024 .f32) (v : FVec Ideal S6x8192x1 .f32) (g be : FVec Ideal S1024 .f32)
    (L : IVec S6 32) (r : Fin 6) (j : Fin 1024) :
    k0_pay4 (F := Ideal) C v g be L L (ix2 r j)
      = Ideal.div (∑ q : Fin 8192, k0_pay3 (F := Ideal) C v g be L (ix3 r q j)) (Scalar.sitofp (F := Ideal) .f32 (L (ix1 r))) := by
  unfold k0_pay4
  refine congrArg₂ (fun a b : EReal => Ideal.div a b) ((Ideal.multiReduction_add_single _ _ _ _ _ _).trans
    (Finset.sum_congr rfl fun q _ => congrArg _ (by
      funext a
      match a with
      | ⟨0, _⟩ => rfl
      | ⟨1, _⟩ => rfl
      | ⟨2, _⟩ => rfl))) ?_
  refine (broadcastTo_apply _ _ _ (ix2 r (0 : Fin 1)) fun a => match a with
      | ⟨0, _⟩ => rfl
      | ⟨1, _⟩ => rfl).trans ?_
  exact shapeCast_a_a1_apply _ _ r 0

end Cert.ReferenceIdeal.Hand

end
-- ==== Proof.V.Quant.lean ====
/- THE QUANTISERS: from one and the same mean, the kernel and the reference take the same codes and scales. -/
module

public import proofs.«01_k».proof.Proof.V.Spec
public import proofs.«01_k».proof.Proof.Gen.KernelIdeal.Skeleton
public import proofs.«01_k».proof.Proof.Gen.ReferenceIdeal.Skeleton

@[expose] public section

set_option maxRecDepth 16384

noncomputable section

namespace Cert.Layer

open Idealize.ShloMosaic

variable (A : FVec Ideal Cert.KernelIdeal.S6x8x1024 .f32) (X : IVec Cert.KernelIdeal.S6x1 32)
variable (C : FVec Ideal Cert.ReferenceIdeal.S6x8192x1024 .f32) (v : FVec Ideal Cert.ReferenceIdeal.S6x8192x1 .f32)
  (g be : FVec Ideal Cert.ReferenceIdeal.S1024 .f32) (L : IVec Cert.ReferenceIdeal.S6 32)
variable (h : Cert.KernelIdeal.Gen.k0_pay60 (F := Ideal) A X = Cert.ReferenceIdeal.Gen.k0_pay4 (F := Ideal) C v g be L L)
include h

/-- The mean over the length of its row. -/
theorem unit_eq : Cert.KernelIdeal.Gen.k0_pay61 (F := Ideal) A X = Cert.ReferenceIdeal.Gen.k0_pay5 (F := Ideal) C v g be L L := by
  unfold Cert.KernelIdeal.Gen.k0_pay61 Cert.ReferenceIdeal.Gen.k0_pay5
  rw [h]

/-- The scales of the whole mean. -/
theorem scale_eq : Cert.KernelIdeal.Gen.k0_pay62 (F := Ideal) A X
    = Cert.ReferenceIdeal.Gen.k0_pay12 (F := Ideal) (Cert.ReferenceIdeal.Gen.k0_pay7 (F := Ideal) C v g be L L)
        (Cert.ReferenceIdeal.Gen.k0_pay8 (F := Ideal) C v g be L L) (Cert.ReferenceIdeal.Gen.k0_pay9 (F := Ideal)) := by
  unfold Cert.KernelIdeal.Gen.k0_pay62 Cert.ReferenceIdeal.Gen.k0_pay12 Cert.ReferenceIdeal.Gen.k0_pay10 Cert.ReferenceIdeal.Gen.k0_pay7
    Cert.ReferenceIdeal.Gen.k0_pay8 Cert.ReferenceIdeal.Gen.k0_pay9 Cert.ReferenceIdeal.Gen.k0_pay6
  rw [unit_eq A X C v g be L h]
  rfl

/-- The codes of the whole mean. -/
theorem codes_eq : Cert.KernelIdeal.Gen.k0_pay63 (F := Ideal) A X
    = Cert.ReferenceIdeal.Gen.k0_pay11 (F := Ideal) (Cert.ReferenceIdeal.Gen.k0_pay5 (F := Ideal) C v g be L L)
        (Cert.ReferenceIdeal.Gen.k0_pay7 (F := Ideal) C v g be L L)
        (Cert.ReferenceIdeal.Gen.k0_pay8 (F := Ideal) C v g be L L) (Cert.ReferenceIdeal.Gen.k0_pay9 (F := Ideal)) := by
  unfold Cert.KernelIdeal.Gen.k0_pay63 Cert.ReferenceIdeal.Gen.k0_pay11
  rw [unit_eq A X C v g be L h, scale_eq A X C v g be L h]
  rfl

/-- The first 256 features over the length of their row. -/
theorem unit256_eq : Cert.KernelIdeal.Gen.k0_pay7 (F := Ideal) (Cert.KernelIdeal.Gen.k0_pay64 (F := Ideal) A X)
      (Cert.KernelIdeal.Gen.k0_pay65 (F := Ideal) A X)
    = Cert.ReferenceIdeal.Gen.k0_pay13 (F := Ideal) (Cert.ReferenceIdeal.Gen.k0_pay4 (F := Ideal) C v g be L L) := by
  unfold Cert.KernelIdeal.Gen.k0_pay7 Cert.KernelIdeal.Gen.k0_pay65 Cert.KernelIdeal.Gen.k0_pay64 Cert.ReferenceIdeal.Gen.k0_pay13
  rw [h]

/-- The scales of the first 256 features. -/
theorem scale256_eq : Cert.KernelIdeal.Gen.k0_pay8 (F := Ideal) (Cert.KernelIdeal.Gen.k0_pay64 (F := Ideal) A X)
      (Cert.KernelIdeal.Gen.k0_pay65 (F := Ideal) A X)
    = Cert.ReferenceIdeal.Gen.k0_pay16 (F := Ideal) (Cert.ReferenceIdeal.Gen.k0_pay4 (F := Ideal) C v g be L L) := by
  unfold Cert.KernelIdeal.Gen.k0_pay8 Cert.ReferenceIdeal.Gen.k0_pay16 Cert.ReferenceIdeal.Gen.k0_pay14
  rw [unit256_eq A X C v g be L h]
  rfl

/-- The codes of the first 256 features. -/
theorem codes256_eq : Cert.KernelIdeal.Gen.k0_pay9 (F := Ideal) (Cert.KernelIdeal.Gen.k0_pay64 (F := Ideal) A X)
      (Cert.KernelIdeal.Gen.k0_pay65 (F := Ideal) A X)
    = Cert.ReferenceIdeal.Gen.k0_pay15 (F := Ideal) (Cert.ReferenceIdeal.Gen.k0_pay4 (F := Ideal) C v g be L L) := by
  unfold Cert.KernelIdeal.Gen.k0_pay9 Cert.ReferenceIdeal.Gen.k0_pay15
  rw [unit256_eq A X C v g be L h, scale256_eq A X C v g be L h]
  rfl

end Cert.Layer

end
-- ==== Proof.V.RefRun.lean ====
/- THE REFERENCE'S RUN, READ: it has one grid point and every window's block is its whole array, so each result
   after the run is what the body leaves, as a function of the arguments. -/
module

public import proofs.«01_k».proof.Proof.Gen.ReferenceIdeal.Frame
public import Idealize.ShloMosaic.Lib.Pipeline.Value

@[expose] public section

noncomputable section

namespace Cert.ReferenceIdeal.Read

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_3) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_4) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v0_5) = (dats m 0 c).arrAt 14 cfg0.N :=
  (h c).1 14

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x8192x1024.Idx) : ((cfg0.win 0).blk t).view.emb j = j := by
  obtain ⟨e0, e1, e2⟩ := idx_zero0 t
  funext a; apply Fin.ext
  match a with
  | ⟨0, _⟩ => show win0_0.index t (0 : Fin 3) * 6 + 1 * (j 0).val = (j 0).val; omega
  | ⟨1, _⟩ => show win0_0.index t (1 : Fin 3) * 8192 + 1 * (j 1).val = (j 1).val; omega
  | ⟨2, _⟩ => show win0_0.index t (2 : Fin 3) * 1024 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S6x8192x4096.Idx) : ((cfg0.win 1).blk t).view.emb j = j := by
  obtain ⟨e0, e1, e2⟩ := idx_zero1 t
  funext a; apply Fin.ext
  match a with
  | ⟨0, _⟩ => show win0_1.index t (0 : Fin 3) * 6 + 1 * (j 0).val = (j 0).val; omega
  | ⟨1, _⟩ => show win0_1.index t (1 : Fin 3) * 8192 + 1 * (j 1).val = (j 1).val; omega
  | ⟨2, _⟩ => show win0_1.index t (2 : Fin 3) * 4096 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S6x8192x32.Idx) : ((cfg0.win 2).blk t).view.emb j = j := by
  obtain ⟨e0, e1, e2⟩ := idx_zero2 t
  funext a; apply Fin.ext
  match a with
  | ⟨0, _⟩ => show win0_2.index t (0 : Fin 3) * 6 + 1 * (j 0).val = (j 0).val; omega
  | ⟨1, _⟩ => show win0_2.index t (1 : Fin 3) * 8192 + 1 * (j 1).val = (j 1).val; omega
  | ⟨2, _⟩ => show win0_2.index t (2 : Fin 3) * 32 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S4096x1024.Idx) : ((cfg0.win 3).blk t).view.emb j = j := by
  obtain ⟨e0, e1⟩ := idx_zero3 t
  funext a; apply Fin.ext
  match a with
  | ⟨0, _⟩ => show win0_3.index t (0 : Fin 2) * 4096 + 1 * (j 0).val = (j 0).val; omega
  | ⟨1, _⟩ => show win0_3.index t (1 : Fin 2) * 1024 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S32x8.Idx) : ((cfg0.win 4).blk t).view.emb j = j := by
  obtain ⟨e0, e1⟩ := idx_zero4 t
  funext a; apply Fin.ext
  match a with
  | ⟨0, _⟩ => show win0_4.index t (0 : Fin 2) * 32 + 1 * (j 0).val = (j 0).val; omega
  | ⟨1, _⟩ => show win0_4.index t (1 : Fin 2) * 8 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S1024.Idx) : ((cfg0.win 5).blk t).view.emb j = j := by
  have e0 := idx_zero5 t
  funext a; apply Fin.ext
  match a with
  | ⟨0, _⟩ => show win0_5.index t (0 : Fin 1) * 1024 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S1024.Idx) : ((cfg0.win 6).blk t).view.emb j = j := by
  have e0 := idx_zero6 t
  funext a; apply Fin.ext
  match a with
  | ⟨0, _⟩ => show win0_6.index t (0 : Fin 1) * 1024 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0] : Fin 1 → Nat) = fun _ => 0 := funext fun a => by fin_cases a <;> rfl

/-- Window 7's block index at the one point is zero on every axis. -/
theorem idx_zero7 : ∀ t : Fin cfg0.N, win0_7.index t (0 : Fin 1) = 0 :=
  (by decide +kernel : ∀ t : Fin grid0.N, _)

/-- An index of window 7's block is the same index of its array. -/
theorem emb7 (t : Fin cfg0.N) (j : S1024.Idx) : ((cfg0.win 7).blk t).view.emb j = j := by
  have e0 := idx_zero7 t
  funext a; apply Fin.ext
  match a with
  | ⟨0, _⟩ => show win0_7.index t (0 : Fin 1) * 1024 + 1 * (j 0).val = (j 0).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0] : Fin 1 → Nat) = fun _ => 0 := funext fun a => by fin_cases a <;> rfl

/-- Window 8's block index at the one point is zero on every axis. -/
theorem idx_zero8 : ∀ t : Fin cfg0.N, win0_8.index t (0 : Fin 1) = 0 :=
  (by decide +kernel : ∀ t : Fin grid0.N, _)

/-- An index of window 8's block is the same index of its array. -/
theorem emb8 (t : Fin cfg0.N) (j : S6.Idx) : ((cfg0.win 8).blk t).view.emb j = j := by
  have e0 := idx_zero8 t
  funext a; apply Fin.ext
  match a with
  | ⟨0, _⟩ => show win0_8.index t (0 : Fin 1) * 6 + 1 * (j 0).val = (j 0).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S6x8192x1024.Idx) : ((cfg0.win 9).blk t).view.emb j = j := by
  obtain ⟨e0, e1, e2⟩ := idx_zero9 t
  funext a; apply Fin.ext
  match a with
  | ⟨0, _⟩ => show win0_9.index t (0 : Fin 3) * 6 + 1 * (j 0).val = (j 0).val; omega
  | ⟨1, _⟩ => show win0_9.index t (1 : Fin 3) * 8192 + 1 * (j 1).val = (j 1).val; omega
  | ⟨2, _⟩ => show win0_9.index t (2 : Fin 3) * 1024 + 1 * (j 2).val = (j 2).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S6x1024.Idx) : ((cfg0.win 10).blk t).view.emb j = j := by
  obtain ⟨e0, e1⟩ := idx_zero10 t
  funext a; apply Fin.ext
  match a with
  | ⟨0, _⟩ => show win0_10.index t (0 : Fin 2) * 6 + 1 * (j 0).val = (j 0).val; omega
  | ⟨1, _⟩ => show win0_10.index t (1 : Fin 2) * 1024 + 1 * (j 1).val = (j 1).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S6x1024.Idx) : ((cfg0.win 11).blk t).view.emb j = j := by
  obtain ⟨e0, e1⟩ := idx_zero11 t
  funext a; apply Fin.ext
  match a with
  | ⟨0, _⟩ => show win0_11.index t (0 : Fin 2) * 6 + 1 * (j 0).val = (j 0).val; omega
  | ⟨1, _⟩ => show win0_11.index t (1 : Fin 2) * 1024 + 1 * (j 1).val = (j 1).val; omega

theorem hz12 : (![0, 0] : Fin 2 → Nat) = fun _ => 0 := funext fun a => by fin_cases a <;> rfl

/-- Window 12's block index at the one point is zero on every axis. -/
theorem idx_zero12 : ∀ t : Fin cfg0.N, win0_12.index t (0 : Fin 2) = 0 ∧ win0_12.index t (1 : Fin 2) = 0 :=
  (by decide +kernel : ∀ t : Fin grid0.N, _)

/-- An index of window 12's block is the same index of its array. -/
theorem emb12 (t : Fin cfg0.N) (j : S6x1.Idx) : ((cfg0.win 12).blk t).view.emb j = j := by
  obtain ⟨e0, e1⟩ := idx_zero12 t
  funext a; apply Fin.ext
  match a with
  | ⟨0, _⟩ => show win0_12.index t (0 : Fin 2) * 6 + 1 * (j 0).val = (j 0).val; omega
  | ⟨1, _⟩ => show win0_12.index t (1 : Fin 2) * 1 + 1 * (j 1).val = (j 1).val; omega

theorem hz13 : (![0, 0] : Fin 2 → Nat) = fun _ => 0 := funext fun a => by fin_cases a <;> rfl

/-- Window 13's block index at the one point is zero on every axis. -/
theorem idx_zero13 : ∀ t : Fin cfg0.N, win0_13.index t (0 : Fin 2) = 0 ∧ win0_13.index t (1 : Fin 2) = 0 :=
  (by decide +kernel : ∀ t : Fin grid0.N, _)

/-- An index of window 13's block is the same index of its array. -/
theorem emb13 (t : Fin cfg0.N) (j : S6x256.Idx) : ((cfg0.win 13).blk t).view.emb j = j := by
  obtain ⟨e0, e1⟩ := idx_zero13 t
  funext a; apply Fin.ext
  match a with
  | ⟨0, _⟩ => show win0_13.index t (0 : Fin 2) * 6 + 1 * (j 0).val = (j 0).val; omega
  | ⟨1, _⟩ => show win0_13.index t (1 : Fin 2) * 256 + 1 * (j 1).val = (j 1).val; omega

theorem hz14 : (![0, 0] : Fin 2 → Nat) = fun _ => 0 := funext fun a => by fin_cases a <;> rfl

/-- Window 14's block index at the one point is zero on every axis. -/
theorem idx_zero14 : ∀ t : Fin cfg0.N, win0_14.index t (0 : Fin 2) = 0 ∧ win0_14.index t (1 : Fin 2) = 0 :=
  (by decide +kernel : ∀ t : Fin grid0.N, _)

/-- An index of window 14's block is the same index of its array. -/
theorem emb14 (t : Fin cfg0.N) (j : S6x1.Idx) : ((cfg0.win 14).blk t).view.emb j = j := by
  obtain ⟨e0, e1⟩ := idx_zero14 t
  funext a; apply Fin.ext
  match a with
  | ⟨0, _⟩ => show win0_14.index t (0 : Fin 2) * 6 + 1 * (j 0).val = (j 0).val; omega
  | ⟨1, _⟩ => show win0_14.index t (1 : Fin 2) * 1 + 1 * (j 1).val = (j 1).val; omega

/-! ### Output window 9: the array after the run -/

/-- What the window's array ends holding: `out0_9` applied to the argument arrays in place of the input blocks (a value that the
    frame states apart, `kK_payN a…`, keeps its loads inside its own definition). -/
abbrev G9 (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : Vec F S6x8192x1024 .f32 :=
  k0_pay3 (k0_pay17 a0 a1 a2 a3 a4 a5 a6 a7 a8) (k0_pay18 a0 a1 a2 a3 a4 a5 a6 a7 a8) a6 a7 a8

/-- A load of the whole of a block reads the block, and the one store through the whole rectangle leaves its payload. -/
theorem out9_eq (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : out0_9 (F := F) a0 a1 a2 a3 a4 a5 a6 a7 a8 = G9 a0 a1 a2 a3 a4 a5 a6 a7 a8 := by
  unfold out0_9
  rw [View.canon_unit_zero hz9, View.ld_unit_zero (S := S1024) hz6 _ a6, View.ld_unit_zero (S := S1024) hz7 _ a7, View.ld_unit_zero (S := S6) hz8 _ a8]

/-- Cutting the point's block out of `X` and reading `X` through the block's view give the same. -/
theorem cut9_eq (t : Fin cfg0.N) (X : Vec F S6x8192x1024 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7) (V m c main_arg8)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq, iblk8_eq]
  exact cut9_eq t _

/-- Every index of the array is in the point's block. -/
theorem covered9 (i : S6x8192x1024.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 9 (G9 (V m c main_arg0) (V m c main_arg1) (V m c main_arg2) (V m c main_arg3) (V m c main_arg4) (V m c main_arg5) (V m c main_arg6) (V m c main_arg7) (V m c main_arg8)) (fun t _ => flushed9_eq m c t) covered9).trans (by rw [V_main_arg0, V_main_arg1, V_main_arg2, V_main_arg3, V_main_arg4, V_main_arg5, V_main_arg6, V_main_arg7, V_main_arg8])

/-! ### Output window 10: the array after the run -/

/-- What the window's array ends holding: `out0_10` applied to the argument arrays in place of the input blocks (a value that the
    frame states apart, `kK_payN a…`, keeps its loads inside its own definition). -/
abbrev G10 (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : Vec F S6x1024 .f32 :=
  k0_pay4 (k0_pay17 a0 a1 a2 a3 a4 a5 a6 a7 a8) (k0_pay18 a0 a1 a2 a3 a4 a5 a6 a7 a8) a6 a7 a8 a8

/-- A load of the whole of a block reads the block, and the one store through the whole rectangle leaves its payload. -/
theorem out10_eq (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : out0_10 (F := F) a0 a1 a2 a3 a4 a5 a6 a7 a8 = G10 a0 a1 a2 a3 a4 a5 a6 a7 a8 := by
  unfold out0_10
  rw [View.canon_unit_zero hz10, View.ld_unit_zero (S := S1024) hz6 _ a6, View.ld_unit_zero (S := S1024) hz7 _ a7, View.ld_unit_zero (S := S6) hz8 _ a8]

/-- Cutting the point's block out of `X` and reading `X` through the block's view give the same. -/
theorem cut10_eq (t : Fin cfg0.N) (X : Vec F S6x1024 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7) (V m c main_arg8)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq, iblk8_eq]
  exact cut10_eq t _

/-- Every index of the array is in the point's block. -/
theorem covered10 (i : S6x1024.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 10 (G10 (V m c main_arg0) (V m c main_arg1) (V m c main_arg2) (V m c main_arg3) (V m c main_arg4) (V m c main_arg5) (V m c main_arg6) (V m c main_arg7) (V m c main_arg8)) (fun t _ => flushed10_eq m c t) covered10).trans (by rw [V_main_arg0, V_main_arg1, V_main_arg2, V_main_arg3, V_main_arg4, V_main_arg5, V_main_arg6, V_main_arg7, V_main_arg8])

/-! ### Output window 11: the array after the run -/

/-- What the window's array ends holding: `out0_11` applied to the argument arrays in place of the input blocks (a value that the
    frame states apart, `kK_payN a…`, keeps its loads inside its own definition). -/
abbrev G11 (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : Vec F S6x1024 .i8 :=
  k0_pay11 (k0_pay5 (k0_pay17 a0 a1 a2 a3 a4 a5 a6 a7 a8) (k0_pay18 a0 a1 a2 a3 a4 a5 a6 a7 a8) a6 a7 a8 a8) (k0_pay20 a0 a1 a2 a3 a4 a5 a6 a7 a8) (k0_pay21 a0 a1 a2 a3 a4 a5 a6 a7 a8) (k0_pay22 a0 a1 a2 a3 a4 a5 a6 a7 a8)

/-- A load of the whole of a block reads the block, and the one store through the whole rectangle leaves its payload. -/
theorem out11_eq (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : out0_11 (F := F) a0 a1 a2 a3 a4 a5 a6 a7 a8 = G11 a0 a1 a2 a3 a4 a5 a6 a7 a8 := by
  unfold out0_11
  rw [View.canon_unit_zero hz11, View.ld_unit_zero (S := S1024) hz6 _ a6, View.ld_unit_zero (S := S1024) hz7 _ a7, View.ld_unit_zero (S := S6) hz8 _ a8]

/-- Cutting the point's block out of `X` and reading `X` through the block's view give the same. -/
theorem cut11_eq (t : Fin cfg0.N) (X : Vec F S6x1024 .i8) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7) (V m c main_arg8)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq, iblk8_eq]
  exact cut11_eq t _

/-- Every index of the array is in the point's block. -/
theorem covered11 (i : S6x1024.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 11 (G11 (V m c main_arg0) (V m c main_arg1) (V m c main_arg2) (V m c main_arg3) (V m c main_arg4) (V m c main_arg5) (V m c main_arg6) (V m c main_arg7) (V m c main_arg8)) (fun t _ => flushed11_eq m c t) covered11).trans (by rw [V_main_arg0, V_main_arg1, V_main_arg2, V_main_arg3, V_main_arg4, V_main_arg5, V_main_arg6, V_main_arg7, V_main_arg8])

/-! ### Output window 12: the array after the run -/

/-- What the window's array ends holding: `out0_12` applied to the argument arrays in place of the input blocks (a value that the
    frame states apart, `kK_payN a…`, keeps its loads inside its own definition). -/
abbrev G12 (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : Vec F S6x1 .f32 :=
  k0_pay12 (k0_pay20 a0 a1 a2 a3 a4 a5 a6 a7 a8) (k0_pay21 a0 a1 a2 a3 a4 a5 a6 a7 a8) (k0_pay22 a0 a1 a2 a3 a4 a5 a6 a7 a8)

/-- The one store through the whole rectangle leaves its payload. -/
theorem out12_eq (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : out0_12 (F := F) a0 a1 a2 a3 a4 a5 a6 a7 a8 = G12 a0 a1 a2 a3 a4 a5 a6 a7 a8 := by
  unfold out0_12
  rw [View.canon_unit_zero hz12]

/-- Cutting the point's block out of `X` and reading `X` through the block's view give the same. -/
theorem cut12_eq (t : Fin cfg0.N) (X : Vec F S6x1 .f32) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq]
  exact cut12_eq t _

/-- Every index of the array is in the point's block. -/
theorem covered12 (i : S6x1.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 12 (G12 (V m c main_arg0) (V m c main_arg1) (V m c main_arg2) (V m c main_arg3) (V m c main_arg4) (V m c main_arg5) (V m c main_arg6) (V m c main_arg7) (V m c main_arg8)) (fun t _ => flushed12_eq m c t) covered12).trans (by rw [V_main_arg0, V_main_arg1, V_main_arg2, V_main_arg3, V_main_arg4, V_main_arg5, V_main_arg6, V_main_arg7, V_main_arg8])

/-! ### Output window 13: the array after the run -/

/-- What the window's array ends holding: `out0_13` applied to the argument arrays in place of the input blocks (a value that the
    frame states apart, `kK_payN a…`, keeps its loads inside its own definition). -/
abbrev G13 (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : Vec F S6x256 .i8 :=
  k0_pay15 (k0_pay19 a0 a1 a2 a3 a4 a5 a6 a7 a8)

/-- The one store through the whole rectangle leaves its payload. -/
theorem out13_eq (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : out0_13 (F := F) a0 a1 a2 a3 a4 a5 a6 a7 a8 = G13 a0 a1 a2 a3 a4 a5 a6 a7 a8 := by
  unfold out0_13
  rw [View.canon_unit_zero hz13]

/-- Cutting the point's block out of `X` and reading `X` through the block's view give the same. -/
theorem cut13_eq (t : Fin cfg0.N) (X : Vec F S6x256 .i8) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7) (V m c main_arg8)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq, iblk8_eq]
  exact cut13_eq t _

/-- Every index of the array is in the point's block. -/
theorem covered13 (i : S6x256.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 13 (G13 (V m c main_arg0) (V m c main_arg1) (V m c main_arg2) (V m c main_arg3) (V m c main_arg4) (V m c main_arg5) (V m c main_arg6) (V m c main_arg7) (V m c main_arg8)) (fun t _ => flushed13_eq m c t) covered13).trans (by rw [V_main_arg0, V_main_arg1, V_main_arg2, V_main_arg3, V_main_arg4, V_main_arg5, V_main_arg6, V_main_arg7, V_main_arg8])

/-! ### Output window 14: the array after the run -/

/-- What the window's array ends holding: `out0_14` applied to the argument arrays in place of the input blocks (a value that the
    frame states apart, `kK_payN a…`, keeps its loads inside its own definition). -/
abbrev G14 (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : Vec F S6x1 .f32 :=
  k0_pay16 (k0_pay19 a0 a1 a2 a3 a4 a5 a6 a7 a8)

/-- The one store through the whole rectangle leaves its payload. -/
theorem out14_eq (a0 : Vec F S6x8192x1024 .bf16) (a1 : Vec F S6x8192x4096 .fp8e4m3) (a2 : Vec F S6x8192x32 .f32) (a3 : Vec F S4096x1024 .fp8e4m3) (a4 : Vec F S32x8 .f32) (a5 : Vec F S1024 .f32) (a6 : Vec F S1024 .f32) (a7 : Vec F S1024 .f32) (a8 : Vec F S6 .i32) : out0_14 (F := F) a0 a1 a2 a3 a4 a5 a6 a7 a8 = G14 a0 a1 a2 a3 a4 a5 a6 a7 a8 := by
  unfold out0_14
  rw [View.canon_unit_zero hz14]

/-- Cutting the point's block out of `X` and reading `X` through the block's view give the same. -/
theorem cut14_eq (t : Fin cfg0.N) (X : Vec F S6x1 .f32) :
    (cfg0.win 14).cut (grid0.coords t) X = ((cfg0.win 14).blk t).view.read (Elt F) X := by
  funext j
  show X j = X (((cfg0.win 14).blk t).view.emb j)
  rw [emb14]

/-- WHAT THE POINT WRITES BACK is its block of `G14` of the argument arrays as the region finds them. -/
theorem flushed14_eq (c : Dev nD) (t : Fin cfg0.N) :
    (dats m 0 c).flushed 14 t = ((cfg0.win 14).blk t).view.read (Elt F) (G14 (V m c main_arg0) (V m c main_arg1) (V m c main_arg2) (V m c main_arg3) (V m c main_arg4) (V m c main_arg5) (V m c main_arg6) (V m c main_arg7) (V m c main_arg8)) := by
  show (cfg0.win 14).cut (grid0.coords t) ((dats m 0 c).after 14 t) = _
  rw [after0_14, out14_eq, iblk0_eq, iblk1_eq, iblk2_eq, iblk3_eq, iblk4_eq, iblk5_eq, iblk6_eq, iblk7_eq, iblk8_eq]
  exact cut14_eq t _

/-- Every index of the array is in the point's block. -/
theorem covered14 (i : S6x1.Idx) :
    ∃ t : Fin cfg0.N, (cfg0.win 14).flush t = true ∧ i ∈ ((cfg0.win 14).blk t).view.set :=
  ⟨(⟨0, by decide⟩ : Fin cfg0.N), flush0_14 _, by have h := ((cfg0.win 14).blk (⟨0, by decide⟩ : Fin cfg0.N)).view.emb_mem_set i; rwa [emb14] at h⟩

/-- THE ARRAY after the run: `G14` of the argument arrays as launched. -/
theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 14 (G14 (V m c main_arg0) (V m c main_arg1) (V m c main_arg2) (V m c main_arg3) (V m c main_arg4) (V m c main_arg5) (V m c main_arg6) (V m c main_arg7) (V m c main_arg8)) (fun t _ => flushed14_eq m c t) covered14).trans (by rw [V_main_arg0, V_main_arg1, V_main_arg2, V_main_arg3, V_main_arg4, V_main_arg5, V_main_arg6, V_main_arg7, V_main_arg8])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_1) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_2) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_3) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_4) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_5) = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post9 m r h c).trans (final9 m c),
      (post10 m r h c).trans (final10 m c),
      (post11 m r h c).trans (final11 m c),
      (post12 m r h c).trans (final12 m c),
      (post13 m r h c).trans (final13 m c),
      (post14 m r h c).trans (final14 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## The values the frame states apart, of whole arguments -/

section whole

variable (a0 : Vec F S6x8192x1024 .bf16) (a1 : Vec F S6x8192x4096 .fp8e4m3) (a2 : Vec F S6x8192x32 .f32)
  (a3 : Vec F S4096x1024 .fp8e4m3) (a4 : Vec F S32x8 .f32) (a5 a6 a7 : Vec F S1024 .f32) (a8 : Vec F S6 .i32)

/-- The reference's centred rows are those of its whole arguments. -/
theorem centred_eq : k0_pay17 (F := F) a0 a1 a2 a3 a4 a5 a6 a7 a8 = k0_pay1 (F := F) a1 a2 a3 a4 a0 a5 := by
  unfold k0_pay17
  rw [View.ld_unit_zero (S := S6x8192x4096) hz1 _ a1, View.ld_unit_zero (S := S6x8192x32) hz2 _ a2, View.ld_unit_zero (S := S4096x1024) hz3 _ a3,
    View.ld_unit_zero (S := S32x8) hz4 _ a4, View.ld_unit_zero (S := S6x8192x1024) hz0 _ a0, View.ld_unit_zero (S := S1024) hz5 _ a5]

/-- The reference's variances likewise. -/
theorem variance_eq : k0_pay18 (F := F) a0 a1 a2 a3 a4 a5 a6 a7 a8 = k0_pay2 (F := F) a1 a2 a3 a4 a0 a5 := by
  unfold k0_pay18
  rw [View.ld_unit_zero (S := S6x8192x4096) hz1 _ a1, View.ld_unit_zero (S := S6x8192x32) hz2 _ a2, View.ld_unit_zero (S := S4096x1024) hz3 _ a3,
    View.ld_unit_zero (S := S32x8) hz4 _ a4, View.ld_unit_zero (S := S6x8192x1024) hz0 _ a0, View.ld_unit_zero (S := S1024) hz5 _ a5]

/-- The reference's mean likewise. -/
theorem mean_eq : k0_pay19 (F := F) a0 a1 a2 a3 a4 a5 a6 a7 a8
    = k0_pay4 (F := F) (k0_pay17 a0 a1 a2 a3 a4 a5 a6 a7 a8) (k0_pay18 a0 a1 a2 a3 a4 a5 a6 a7 a8) a6 a7 a8 a8 := by
  unfold k0_pay19
  rw [View.ld_unit_zero (S := S1024) hz6 _ a6, View.ld_unit_zero (S := S1024) hz7 _ a7, View.ld_unit_zero (S := S6) hz8 _ a8]

theorem pay20_eq : k0_pay20 (F := F) a0 a1 a2 a3 a4 a5 a6 a7 a8
    = k0_pay7 (F := F) (k0_pay17 a0 a1 a2 a3 a4 a5 a6 a7 a8) (k0_pay18 a0 a1 a2 a3 a4 a5 a6 a7 a8) a6 a7 a8 a8 := by
  unfold k0_pay20
  rw [View.ld_unit_zero (S := S1024) hz6 _ a6, View.ld_unit_zero (S := S1024) hz7 _ a7, View.ld_unit_zero (S := S6) hz8 _ a8]

theorem pay21_eq : k0_pay21 (F := F) a0 a1 a2 a3 a4 a5 a6 a7 a8
    = k0_pay8 (F := F) (k0_pay17 a0 a1 a2 a3 a4 a5 a6 a7 a8) (k0_pay18 a0 a1 a2 a3 a4 a5 a6 a7 a8) a6 a7 a8 a8 := by
  unfold k0_pay21
  rw [View.ld_unit_zero (S := S1024) hz6 _ a6, View.ld_unit_zero (S := S1024) hz7 _ a7, View.ld_unit_zero (S := S6) hz8 _ a8]

end whole

end Cert.ReferenceIdeal.Read

end
-- ==== Proof.V.Equation.lean ====
/- THE KERNEL AND THE REFERENCE COMPUTE THE SAME SIX RESULTS. -/
module

public import proofs.«01_k».proof.Proof.V.Final
public import proofs.«01_k».proof.Proof.V.Ref
public import proofs.«01_k».proof.Proof.V.Quant
public import proofs.«01_k».proof.Proof.V.RefRun
public import proofs.«01_k».proof.Pre_no_wrap

@[expose] public section

set_option maxRecDepth 16384

noncomputable section

namespace Cert.Equation

open Idealize.ShloMosaic hiding ix1 ix2 ix3 ix4 eq_ix2 eq_ix3
open Idealize.ShloMosaic.TcCoe Idealize.ShloMosaic.ValueIdx Cert.Layer Cert.KernelIdeal.Hand

section reference

open Cert.ReferenceIdeal Cert.ReferenceIdeal.Gen

variable (a0 : FVec Ideal S6x8192x1024 .bf16) (a1 : FVec Ideal S6x8192x4096 .fp8e4m3) (a2 : FVec Ideal S6x8192x32 .f32)
  (a3 : FVec Ideal S4096x1024 .fp8e4m3) (a4 : FVec Ideal S32x8 .f32) (a5 a6 a7 : FVec Ideal S1024 .f32) (a8 : IVec S6 32)

/-- An entry of the reference's first result. -/
theorem first_at (r : Fin 6) (q : Fin 8192) (j : Fin 1024) :
    k0_pay3 (F := Ideal) (k0_pay17 a0 a1 a2 a3 a4 a5 a6 a7 a8) (k0_pay18 a0 a1 a2 a3 a4 a5 a6 a7 a8) a6 a7 a8 (ix3 r q j)
      = zEnt a0 a1 a2 a3 a4 a5 a6 a7 a8 r q j := by
  rw [Read.centred_eq, Read.variance_eq, Cert.ReferenceIdeal.Hand.pay3_at, Cert.ReferenceIdeal.Hand.pay1_at, Cert.ReferenceIdeal.Hand.pay2_at]
  rfl

end reference

variable (m : (ℓ : Loc Cert.KernelIdeal.nD Cert.KernelIdeal.τ Cert.KernelIdeal.sig) → Buf (Elt Ideal) ℓ)

/-- The reference's centred rows and variances, of the kernel's arguments. -/
abbrev refC : FVec Ideal Cert.ReferenceIdeal.S6x8192x1024 .f32 :=
  Cert.ReferenceIdeal.Gen.k0_pay17 (F := Ideal) (a0 m) (a1 m) (a2 m) (a3 m) (a4 m) (a5 m) (a6 m) (a7 m) (a8 m)
abbrev refV : FVec Ideal Cert.ReferenceIdeal.S6x8192x1 .f32 :=
  Cert.ReferenceIdeal.Gen.k0_pay18 (F := Ideal) (a0 m) (a1 m) (a2 m) (a3 m) (a4 m) (a5 m) (a6 m) (a7 m) (a8 m)

theorem entry_eq (r : Fin 6) (q : Fin 8192) (j : Fin 1024) :
    Cert.ReferenceIdeal.Gen.k0_pay3 (F := Ideal) (refC m) (refV m) (a6 m) (a7 m) (a8 m) (ix3 r q j) = zm m r q j := by
  unfold zm
  exact first_at _ _ _ _ _ _ _ _ _ r q j

/-- The first results agree. -/
theorem res0 : zArr m = Cert.ReferenceIdeal.Read.G9 (F := Ideal) (a0 m) (a1 m) (a2 m) (a3 m) (a4 m) (a5 m) (a6 m) (a7 m) (a8 m) := by
  funext y
  obtain ⟨r, q, j, rfl⟩ : ∃ (r : Fin 6) (q : Fin 8192) (j : Fin 1024), y = ix3 r q j := ⟨y 0, y 1, y 2, eq_ix3 y⟩
  exact (entry_eq m r q j).symm

variable (hL : ∀ r : Fin 6, Fits (a8 m (ix1 r)))
include hL

/-- The means agree. -/
theorem res1 : Cert.KernelIdeal.Gen.k0_pay60 (F := Ideal) (accN m) (lenN m)
    = Cert.ReferenceIdeal.Gen.k0_pay4 (F := Ideal) (refC m) (refV m) (a6 m) (a7 m) (a8 m) (a8 m) := by
  funext y
  obtain ⟨r, j, rfl⟩ : ∃ (r : Fin 6) (j : Fin 1024), y = ix2 r j := ⟨y 0, y 1, eq_ix2 y⟩
  refine (mean_at m hL r j).trans (Eq.symm ?_)
  refine (Cert.ReferenceIdeal.Hand.pay4_at _ _ _ _ _ r j).trans ?_
  exact congrArg (fun z : EReal => Ideal.div z _) (Finset.sum_congr rfl fun q _ => entry_eq m r q j)

/-- The codes of the whole mean agree. -/
theorem res2 : Cert.KernelIdeal.Gen.k0_pay63 (F := Ideal) (accN m) (lenN m)
    = Cert.ReferenceIdeal.Read.G11 (F := Ideal) (a0 m) (a1 m) (a2 m) (a3 m) (a4 m) (a5 m) (a6 m) (a7 m) (a8 m) := by
  unfold Cert.ReferenceIdeal.Read.G11
  rw [Cert.ReferenceIdeal.Read.pay20_eq, Cert.ReferenceIdeal.Read.pay21_eq]
  unfold Cert.ReferenceIdeal.Gen.k0_pay22
  exact codes_eq _ _ _ _ _ _ _ (res1 m hL)

/-- The scales of the whole mean agree. -/
theorem res3 : Cert.KernelIdeal.Gen.k0_pay62 (F := Ideal) (accN m) (lenN m)
    = Cert.ReferenceIdeal.Read.G12 (F := Ideal) (a0 m) (a1 m) (a2 m) (a3 m) (a4 m) (a5 m) (a6 m) (a7 m) (a8 m) := by
  unfold Cert.ReferenceIdeal.Read.G12
  rw [Cert.ReferenceIdeal.Read.pay20_eq, Cert.ReferenceIdeal.Read.pay21_eq]
  unfold Cert.ReferenceIdeal.Gen.k0_pay22
  exact scale_eq _ _ _ _ _ _ _ (res1 m hL)

/-- The codes of the first 256 features agree. -/
theorem res4 : Cert.KernelIdeal.Gen.k0_pay9 (F := Ideal) (Cert.KernelIdeal.Gen.k0_pay64 (F := Ideal) (accN m) (lenN m))
      (Cert.KernelIdeal.Gen.k0_pay65 (F := Ideal) (accN m) (lenN m))
    = Cert.ReferenceIdeal.Read.G13 (F := Ideal) (a0 m) (a1 m) (a2 m) (a3 m) (a4 m) (a5 m) (a6 m) (a7 m) (a8 m) := by
  unfold Cert.ReferenceIdeal.Read.G13
  rw [Cert.ReferenceIdeal.Read.mean_eq]
  exact codes256_eq _ _ _ _ _ _ _ (res1 m hL)

/-- The scales of the first 256 features agree. -/
theorem res5 : Cert.KernelIdeal.Gen.k0_pay8 (F := Ideal) (Cert.KernelIdeal.Gen.k0_pay64 (F := Ideal) (accN m) (lenN m))
      (Cert.KernelIdeal.Gen.k0_pay65 (F := Ideal) (accN m) (lenN m))
    = Cert.ReferenceIdeal.Read.G14 (F := Ideal) (a0 m) (a1 m) (a2 m) (a3 m) (a4 m) (a5 m) (a6 m) (a7 m) (a8 m) := by
  unfold Cert.ReferenceIdeal.Read.G14
  rw [Cert.ReferenceIdeal.Read.mean_eq]
  exact scale256_eq _ _ _ _ _ _ _ (res1 m hL)

omit hL in
/-- What the precondition says of the lengths. -/
theorem fits_of [Cert.Pre_no_wrap.Facts]
    (h : Cert.Pre_no_wrap.fn (F := Ideal) (a0 m) (a1 m) (a2 m) (a3 m) (a4 m) (a5 m) (a6 m) (a7 m) (a8 m) = fun _ => 1#1)
    (r : Fin 6) : Fits (a8 m (ix1 r)) := by
  have e := congrFun h (ix1 r)
  have e' : BitVec.ofBool (decide ((2147491328#32 : BitVec 32).toInt ≤ (a8 m (ix1 r)).toInt))
      &&& BitVec.ofBool (decide ((a8 m (ix1 r)).toInt ≤ (2147483136#32 : BitVec 32).toInt)) = 1#1 := e
  have h1 : (2147491328#32 : BitVec 32).toInt = -2147475968 := by decide
  have h2 : (2147483136#32 : BitVec 32).toInt = 2147483136 := by decide
  rw [h1, h2] at e'
  have key : ∀ p q : Bool, BitVec.ofBool p &&& BitVec.ofBool q = 1#1 → p = true ∧ q = true := by decide
  obtain ⟨hp, hq⟩ := key _ _ e'
  exact ⟨of_decide_eq_true hp, of_decide_eq_true hq⟩

end Cert.Equation

end
-- ==== Proof.V.Algebraic.lean ====
/- THE VALUE CLAIM: from the same arguments, the kernel and the reference end with the same six results. -/
module

public import proofs.«01_k».proof.Defs
public import proofs.«01_k».proof.Proof.V.Equation

@[expose] public section

set_option maxRecDepth 16384

noncomputable section

namespace Cert.Equation

open Idealize.ShloMosaic hiding ix1 ix2 ix3 ix4
open Idealize.ShloMosaic.TcCoe Idealize.SL.Sem Cert.KernelIdeal.Hand

/-- For lengths that do not wrap, kernel and reference end with the same six results, and both leave their
arguments unchanged. -/
theorem algebraic [Cert.Pre_no_wrap.Facts] : Cert.algebraic_KernelIdeal_ReferenceIdeal_pre_no_wrap := by
  intro m g m' g' hpre hargs
  have hL := fits_of m (hpre 0)
  refine ⟨fun c => Cert.ReferenceIdeal.Read.G9 (F := Ideal) (a0 m) (a1 m) (a2 m) (a3 m) (a4 m) (a5 m) (a6 m) (a7 m) (a8 m),
    fun c => Cert.ReferenceIdeal.Read.G10 (F := Ideal) (a0 m) (a1 m) (a2 m) (a3 m) (a4 m) (a5 m) (a6 m) (a7 m) (a8 m),
    fun c => Cert.ReferenceIdeal.Read.G11 (F := Ideal) (a0 m) (a1 m) (a2 m) (a3 m) (a4 m) (a5 m) (a6 m) (a7 m) (a8 m),
    fun c => Cert.ReferenceIdeal.Read.G12 (F := Ideal) (a0 m) (a1 m) (a2 m) (a3 m) (a4 m) (a5 m) (a6 m) (a7 m) (a8 m),
    fun c => Cert.ReferenceIdeal.Read.G13 (F := Ideal) (a0 m) (a1 m) (a2 m) (a3 m) (a4 m) (a5 m) (a6 m) (a7 m) (a8 m),
    fun c => Cert.ReferenceIdeal.Read.G14 (F := Ideal) (a0 m) (a1 m) (a2 m) (a3 m) (a4 m) (a5 m) (a6 m) (a7 m) (a8 m), ?_, ?_⟩
  · refine (θ_run _ _ _).mono (fun r h c => ?_) (θ_run_and (Cert.KernelIdeal.Hand.run m g hL) (Cert.KernelIdeal.Hand.unchanged m g))
    obtain rfl : c = 0 := Subsingleton.elim _ _
    obtain ⟨⟨h0, h1, h2, h3, h4, h5⟩, hu⟩ := h
    exact ⟨h0.trans (res0 m), h1.trans (res1 m hL), h2.trans (res2 m hL), h3.trans (res3 m hL), h4.trans (res4 m hL),
      h5.trans (res5 m hL), hu 0⟩
  · refine (θ_run _ _ _).mono (fun r h c => ?_) (Cert.ReferenceIdeal.Read.run m' g')
    obtain rfl : c = 0 := Subsingleton.elim _ _
    obtain ⟨e0, e1, e2, e3, e4, e5, e6, e7, e8⟩ := hargs 0
    obtain ⟨h0, h1, h2, h3, h4, h5, hu⟩ := h 0
    rw [e0, e1, e2, e3, e4, e5, e6, e7, e8] at h0 h1 h2 h3 h4 h5
    exact ⟨h0, h1, h2, h3, h4, h5, hu⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.K.Oblig
public import proofs.«01_k».proof.Proof.KI.Oblig
public import proofs.«01_k».proof.Proof.V.Algebraic
public import Idealize.ShloMosaic.Adequacy
public import Idealize.ShloMosaic.Init

@[expose] public section

noncomputable section

namespace Cert.Proof

open Idealize.ShloMosaic Idealize.SL.Sem Cert.Kernel

/-- The stated fact of the precondition's program. -/
theorem factsPre : Cert.Pre_no_wrap.Facts := ⟨by decide⟩

theorem claim : Cert.Claim := ⟨Cert.Kernel.Gen.facts, Cert.KernelIdeal.Gen.facts, Cert.ReferenceIdeal.Gen.facts, factsPre,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  @Cert.Equation.algebraic factsPre⟩

end Cert.Proof

end
